-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v4_1)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_v3_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x128x2560 : Shape := ⟨3, ![12, 128, 2560]⟩
abbrev S2560 : Shape := ⟨1, ![2560]⟩
abbrev S2560x10240 : Shape := ⟨2, ![2560, 10240]⟩
abbrev S1536x2560 : Shape := ⟨2, ![1536, 2560]⟩
abbrev S1x2560 : Shape := ⟨2, ![1, 2560]⟩
abbrev S2560x128 : Shape := ⟨2, ![2560, 128]⟩
abbrev S1536x128 : Shape := ⟨2, ![1536, 128]⟩
abbrev S12x128 : Shape := ⟨2, ![12, 128]⟩
abbrev S8x2560 : Shape := ⟨2, ![8, 2560]⟩
abbrev S32x2560 : Shape := ⟨2, ![32, 2560]⟩
abbrev S32 : Shape := ⟨1, ![32]⟩
abbrev S32x1 : Shape := ⟨2, ![32, 1]⟩
abbrev S32x128 : Shape := ⟨2, ![32, 128]⟩
abbrev S4x8x2560 : Shape := ⟨3, ![4, 8, 2560]⟩
abbrev S1x128 : Shape := ⟨2, ![1, 128]⟩
abbrev S128x128 : Shape := ⟨2, ![128, 128]⟩
abbrev S1536x10240 : Shape := ⟨2, ![1536, 10240]⟩
abbrev S1x10240 : Shape := ⟨2, ![1, 10240]⟩
abbrev S2560x512 : Shape := ⟨2, ![2560, 512]⟩
abbrev S1536x512 : Shape := ⟨2, ![1536, 512]⟩
abbrev S1x512 : Shape := ⟨2, ![1, 512]⟩
abbrev S8x128 : Shape := ⟨2, ![8, 128]⟩
abbrev S4x8x128 : Shape := ⟨3, ![4, 8, 128]⟩
abbrev S128 : Shape := ⟨1, ![128]⟩
abbrev S1536x1 : Shape := ⟨2, ![1536, 1]⟩
abbrev S12x128x10240 : Shape := ⟨3, ![12, 128, 10240]⟩
abbrev S10240 : Shape := ⟨1, ![10240]⟩

abbrev nBuf : Space → Nat
  | .hbm => 19
  | .vmem => 23
  | .smem => 0
  | _ => 0

abbrev bufTy : (tb : Table) → Fin (tcTables nBuf tb) → BufTy
  | .hbm, ⟨0, _⟩ => ⟨S12x128x2560, .bf16⟩
  | .hbm, ⟨1, _⟩ => ⟨S2560, .f32⟩
  | .hbm, ⟨2, _⟩ => ⟨S2560x10240, .bf16⟩
  | .hbm, ⟨3, _⟩ => ⟨S2560, .f32⟩
  | .hbm, ⟨4, _⟩ => ⟨S1536x2560, .bf16⟩
  | .hbm, ⟨5, _⟩ => ⟨S1x2560, .f32⟩
  | .hbm, ⟨6, _⟩ => ⟨S1x2560, .f32⟩
  | .hbm, ⟨7, _⟩ => ⟨S1x2560, .f32⟩
  | .hbm, ⟨8, _⟩ => ⟨S2560x128, .f32⟩
  | .hbm, ⟨9, _⟩ => ⟨S1536x2560, .i8⟩
  | .hbm, ⟨10, _⟩ => ⟨S1536x128, .f32⟩
  | .hbm, ⟨11, _⟩ => ⟨S12x128, .f32⟩
  | .hbm, ⟨12, _⟩ => ⟨S1536x10240, .bf16⟩
  | .hbm, ⟨13, _⟩ => ⟨S2560x10240, .i8⟩
  | .hbm, ⟨14, _⟩ => ⟨S1x10240, .f32⟩
  | .hbm, ⟨15, _⟩ => ⟨S12x128x10240, .bf16⟩
  | .hbm, ⟨16, _⟩ => ⟨S2560, .f32⟩
  | .hbm, ⟨17, _⟩ => ⟨S10240, .f32⟩
  | .hbm, ⟨18, _⟩ => ⟨S12x128x2560, .i8⟩
  | .local _ .vmem, ⟨0, _⟩ => ⟨S1536x2560, .bf16⟩
  | .local _ .vmem, ⟨1, _⟩ => ⟨S1x2560, .f32⟩
  | .local _ .vmem, ⟨2, _⟩ => ⟨S1x2560, .f32⟩
  | .local _ .vmem, ⟨3, _⟩ => ⟨S1x2560, .f32⟩
  | .local _ .vmem, ⟨4, _⟩ => ⟨S2560x128, .f32⟩
  | .local _ .vmem, ⟨5, _⟩ => ⟨S1536x2560, .i8⟩
  | .local _ .vmem, ⟨6, _⟩ => ⟨S1536x128, .f32⟩
  | .local _ .vmem, ⟨7, _⟩ => ⟨S12x128, .f32⟩
  | .local _ .vmem, ⟨8, _⟩ => ⟨S1536x128, .f32⟩
  | .local _ .vmem, ⟨9, _⟩ => ⟨S8x2560, .f32⟩
  | .local _ .vmem, ⟨10, _⟩ => ⟨S2560x512, .bf16⟩
  | .local _ .vmem, ⟨11, _⟩ => ⟨S2560x512, .bf16⟩
  | .local _ .vmem, ⟨12, _⟩ => ⟨S2560x128, .f32⟩
  | .local _ .vmem, ⟨13, _⟩ => ⟨S1536x2560, .i8⟩
  | .local _ .vmem, ⟨14, _⟩ => ⟨S1536x128, .f32⟩
  | .local _ .vmem, ⟨15, _⟩ => ⟨S1536x512, .bf16⟩
  | .local _ .vmem, ⟨16, _⟩ => ⟨S1536x512, .bf16⟩
  | .local _ .vmem, ⟨17, _⟩ => ⟨S2560x512, .i8⟩
  | .local _ .vmem, ⟨18, _⟩ => ⟨S2560x512, .i8⟩
  | .local _ .vmem, ⟨19, _⟩ => ⟨S1x512, .f32⟩
  | .local _ .vmem, ⟨20, _⟩ => ⟨S1x512, .f32⟩
  | .local _ .vmem, ⟨21, _⟩ => ⟨S1536x2560, .bf16⟩
  | .local _ .vmem, ⟨22, _⟩ => ⟨S2560x512, .bf16⟩
  | _, _ => ⟨S12x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc1_scratch1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c48_i32 : BitVec 32 := 48#32
  let v4 : BitVec 32 := Scalar.addi c0_i32 c48_i32
  let c1_i32 : BitVec 32 := 1#32
  ⟨c0_i32, v4, c1_i32⟩
def k0_off1 (k0_t1 : Fin k0_t1_loop.trips) : Fin 2 → Nat :=
  let c0_i32_74 : BitVec 32 := 0#32
  let c0_i32 : BitVec 32 := 0#32
  let c1_i32 : BitVec 32 := 1#32
  let arg10 : BitVec 32 := Scf.iv c0_i32 c1_i32 k0_t1
  let c1_i32_73 : BitVec 32 := 1#32
  let v179 : BitVec 32 := Scalar.muli arg10 c1_i32_73
  let v180 : BitVec 32 := Scalar.addi c0_i32_74 v179
  let c32_i32 : BitVec 32 := 32#32
  let v181 : BitVec 32 := Scalar.muli v180 c32_i32
  let v182 : Index := Scalar.indexCast v181
  let c0_75 : Index := 0#32
  ![v182.toNat, 0]
def k0_off2 (k0_t1 : Fin k0_t1_loop.trips) : Fin 2 → Nat :=
  let c0_i32_74 : BitVec 32 := 0#32
  let c0_i32 : BitVec 32 := 0#32
  let c1_i32 : BitVec 32 := 1#32
  let arg10 : BitVec 32 := Scf.iv c0_i32 c1_i32 k0_t1
  let c1_i32_73 : BitVec 32 := 1#32
  let v179 : BitVec 32 := Scalar.muli arg10 c1_i32_73
  let v180 : BitVec 32 := Scalar.addi c0_i32_74 v179
  let c32_i32 : BitVec 32 := 32#32
  let v181 : BitVec 32 := Scalar.muli v180 c32_i32
  let v196 : Index := Scalar.indexCast v181
  let c0_79 : Index := 0#32
  ![v196.toNat, 0]
@[reducible] def k0_t2_loop : Scf.Loop 32 :=
  let c0_i32_32 : BitVec 32 := 0#32
  let c48_i32_33 : BitVec 32 := 48#32
  let v118 : BitVec 32 := Scalar.addi c0_i32_32 c48_i32_33
  let c1_i32_34 : BitVec 32 := 1#32
  ⟨c0_i32_32, v118, c1_i32_34⟩
def k0_off3 (k0_t2 : Fin k0_t2_loop.trips) : Fin 2 → Nat :=
  let c0_i32_74 : BitVec 32 := 0#32
  let c0_i32_32 : BitVec 32 := 0#32
  let c1_i32_34 : BitVec 32 := 1#32
  let arg10 : BitVec 32 := Scf.iv c0_i32_32 c1_i32_34 k0_t2
  let c1_i32_73 : BitVec 32 := 1#32
  let v179 : BitVec 32 := Scalar.muli arg10 c1_i32_73
  let v180 : BitVec 32 := Scalar.addi c0_i32_74 v179
  let c32_i32 : BitVec 32 := 32#32
  let v181 : BitVec 32 := Scalar.muli v180 c32_i32
  let v182 : Index := Scalar.indexCast v181
  let c0_75 : Index := 0#32
  ![v182.toNat, 0]
def k0_off4 (k0_t2 : Fin k0_t2_loop.trips) : Fin 2 → Nat :=
  let c0_i32_74 : BitVec 32 := 0#32
  let c0_i32_32 : BitVec 32 := 0#32
  let c1_i32_34 : BitVec 32 := 1#32
  let arg10 : BitVec 32 := Scf.iv c0_i32_32 c1_i32_34 k0_t2
  let c1_i32_73 : BitVec 32 := 1#32
  let v179 : BitVec 32 := Scalar.muli arg10 c1_i32_73
  let v180 : BitVec 32 := Scalar.addi c0_i32_74 v179
  let c32_i32 : BitVec 32 := 32#32
  let v181 : BitVec 32 := Scalar.muli v180 c32_i32
  let v186 : Index := Scalar.indexCast v181
  let c0_76 : Index := 0#32
  ![v186.toNat, 0]
def k0_off5 (k0_t2 : Fin k0_t2_loop.trips) : Fin 2 → Nat :=
  let c0_i32_74 : BitVec 32 := 0#32
  let c0_i32_32 : BitVec 32 := 0#32
  let c1_i32_34 : BitVec 32 := 1#32
  let arg10 : BitVec 32 := Scf.iv c0_i32_32 c1_i32_34 k0_t2
  let c1_i32_73 : BitVec 32 := 1#32
  let v179 : BitVec 32 := Scalar.muli arg10 c1_i32_73
  let v180 : BitVec 32 := Scalar.addi c0_i32_74 v179
  let c32_i32 : BitVec 32 := 32#32
  let v181 : BitVec 32 := Scalar.muli v180 c32_i32
  let v221 : Index := Scalar.indexCast v181
  let c0_86 : Index := 0#32
  ![v221.toNat, 0]
abbrev stage0_0 : Fin 1 → Memref sig .tc .vmem S1536x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x2560 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![20], ![false]⟩

@[reducible] def k1_t1_loop : Scf.Loop 32 :=
  let c0_i32_1 : BitVec 32 := 0#32
  let c80_i32 : BitVec 32 := 80#32
  let v4 : BitVec 32 := Scalar.addi c0_i32_1 c80_i32
  let c1_i32 : BitVec 32 := 1#32
  ⟨c0_i32_1, v4, c1_i32⟩
def k1_off1 (k1_t1 : Fin k1_t1_loop.trips) : Fin 2 → Nat :=
  let c0_i32_1 : BitVec 32 := 0#32
  let c1_i32 : BitVec 32 := 1#32
  let arg10 : BitVec 32 := Scf.iv c0_i32_1 c1_i32 k1_t1
  let c32_i32 : BitVec 32 := 32#32
  let v68 : BitVec 32 := Scalar.muli arg10 c32_i32
  let v69 : Index := Scalar.indexCast v68
  let c0_65 : Index := 0#32
  ![v69.toNat, 0]
def k1_off2 (k1_t1 : Fin k1_t1_loop.trips) : Fin 2 → Nat :=
  let c0_i32_1 : BitVec 32 := 0#32
  let c1_i32 : BitVec 32 := 1#32
  let arg10 : BitVec 32 := Scf.iv c0_i32_1 c1_i32 k1_t1
  let c32_i32 : BitVec 32 := 32#32
  let v68 : BitVec 32 := Scalar.muli arg10 c32_i32
  let v72 : Index := Scalar.indexCast v68
  let c0_66 : Index := 0#32
  ![v72.toNat, 0]
@[reducible] def k1_t2_loop : Scf.Loop 32 :=
  let c0_i32_8 : BitVec 32 := 0#32
  let c80_i32_9 : BitVec 32 := 80#32
  let v15 : BitVec 32 := Scalar.addi c0_i32_8 c80_i32_9
  let c1_i32_10 : BitVec 32 := 1#32
  ⟨c0_i32_8, v15, c1_i32_10⟩
def k1_off3 (k1_t2 : Fin k1_t2_loop.trips) : Fin 2 → Nat :=
  let c0_i32_66 : BitVec 32 := 0#32
  let c0_i32_8 : BitVec 32 := 0#32
  let c1_i32_10 : BitVec 32 := 1#32
  let arg10 : BitVec 32 := Scf.iv c0_i32_8 c1_i32_10 k1_t2
  let c1_i32_65 : BitVec 32 := 1#32
  let v68 : BitVec 32 := Scalar.muli arg10 c1_i32_65
  let v69 : BitVec 32 := Scalar.addi c0_i32_66 v68
  let c32_i32 : BitVec 32 := 32#32
  let v70 : BitVec 32 := Scalar.muli v69 c32_i32
  let v71 : Index := Scalar.indexCast v70
  let c0_67 : Index := 0#32
  ![v71.toNat, 0]
def k1_off4 (k1_t2 : Fin k1_t2_loop.trips) : Fin 2 → Nat :=
  let c0_i32_66 : BitVec 32 := 0#32
  let c0_i32_8 : BitVec 32 := 0#32
  let c1_i32_10 : BitVec 32 := 1#32
  let arg10 : BitVec 32 := Scf.iv c0_i32_8 c1_i32_10 k1_t2
  let c1_i32_65 : BitVec 32 := 1#32
  let v68 : BitVec 32 := Scalar.muli arg10 c1_i32_65
  let v69 : BitVec 32 := Scalar.addi c0_i32_66 v68
  let c32_i32 : BitVec 32 := 32#32
  let v70 : BitVec 32 := Scalar.muli v69 c32_i32
  let v74 : Index := Scalar.indexCast v70
  let c0_68 : Index := 0#32
  ![v74.toNat, 0]
@[reducible] def k1_t3_loop : Scf.Loop 32 :=
  let c0_i32_13 : BitVec 32 := 0#32
  let c80_i32_14 : BitVec 32 := 80#32
  let v17 : BitVec 32 := Scalar.addi c0_i32_13 c80_i32_14
  let c1_i32_15 : BitVec 32 := 1#32
  ⟨c0_i32_13, v17, c1_i32_15⟩
def k1_off5 (k1_t3 : Fin k1_t3_loop.trips) : Fin 2 → Nat :=
  let c0_i32_13 : BitVec 32 := 0#32
  let c1_i32_15 : BitVec 32 := 1#32
  let arg10 : BitVec 32 := Scf.iv c0_i32_13 c1_i32_15 k1_t3
  let c32_i32 : BitVec 32 := 32#32
  let v68 : BitVec 32 := Scalar.muli arg10 c32_i32
  let v69 : Index := Scalar.indexCast v68
  let c128_65 : Index := 128#32
  ![v69.toNat, 128]
def k1_off6 (k1_t3 : Fin k1_t3_loop.trips) : Fin 2 → Nat :=
  let c0_i32_13 : BitVec 32 := 0#32
  let c1_i32_15 : BitVec 32 := 1#32
  let arg10 : BitVec 32 := Scf.iv c0_i32_13 c1_i32_15 k1_t3
  let c32_i32 : BitVec 32 := 32#32
  let v68 : BitVec 32 := Scalar.muli arg10 c32_i32
  let v72 : Index := Scalar.indexCast v68
  let c0_66 : Index := 0#32
  ![v72.toNat, 0]
@[reducible] def k1_t4_loop : Scf.Loop 32 :=
  let c0_i32_22 : BitVec 32 := 0#32
  let c80_i32_23 : BitVec 32 := 80#32
  let v28 : BitVec 32 := Scalar.addi c0_i32_22 c80_i32_23
  let c1_i32_24 : BitVec 32 := 1#32
  ⟨c0_i32_22, v28, c1_i32_24⟩
def k1_off7 (k1_t4 : Fin k1_t4_loop.trips) : Fin 2 → Nat :=
  let c0_i32_66 : BitVec 32 := 0#32
  let c0_i32_22 : BitVec 32 := 0#32
  let c1_i32_24 : BitVec 32 := 1#32
  let arg10 : BitVec 32 := Scf.iv c0_i32_22 c1_i32_24 k1_t4
  let c1_i32_65 : BitVec 32 := 1#32
  let v68 : BitVec 32 := Scalar.muli arg10 c1_i32_65
  let v69 : BitVec 32 := Scalar.addi c0_i32_66 v68
  let c32_i32 : BitVec 32 := 32#32
  let v70 : BitVec 32 := Scalar.muli v69 c32_i32
  let v71 : Index := Scalar.indexCast v70
  let c128_67 : Index := 128#32
  ![v71.toNat, 128]
def k1_off8 (k1_t4 : Fin k1_t4_loop.trips) : Fin 2 → Nat :=
  let c0_i32_66 : BitVec 32 := 0#32
  let c0_i32_22 : BitVec 32 := 0#32
  let c1_i32_24 : BitVec 32 := 1#32
  let arg10 : BitVec 32 := Scf.iv c0_i32_22 c1_i32_24 k1_t4
  let c1_i32_65 : BitVec 32 := 1#32
  let v68 : BitVec 32 := Scalar.muli arg10 c1_i32_65
  let v69 : BitVec 32 := Scalar.addi c0_i32_66 v68
  let c32_i32 : BitVec 32 := 32#32
  let v70 : BitVec 32 := Scalar.muli v69 c32_i32
  let v74 : Index := Scalar.indexCast v70
  let c0_68 : Index := 0#32
  ![v74.toNat, 0]
@[reducible] def k1_t5_loop : Scf.Loop 32 :=
  let c0_i32_27 : BitVec 32 := 0#32
  let c80_i32_28 : BitVec 32 := 80#32
  let v30 : BitVec 32 := Scalar.addi c0_i32_27 c80_i32_28
  let c1_i32_29 : BitVec 32 := 1#32
  ⟨c0_i32_27, v30, c1_i32_29⟩
def k1_off9 (k1_t5 : Fin k1_t5_loop.trips) : Fin 2 → Nat :=
  let c0_i32_27 : BitVec 32 := 0#32
  let c1_i32_29 : BitVec 32 := 1#32
  let arg10 : BitVec 32 := Scf.iv c0_i32_27 c1_i32_29 k1_t5
  let c32_i32 : BitVec 32 := 32#32
  let v68 : BitVec 32 := Scalar.muli arg10 c32_i32
  let v69 : Index := Scalar.indexCast v68
  let c256_65 : Index := 256#32
  ![v69.toNat, 256]
def k1_off10 (k1_t5 : Fin k1_t5_loop.trips) : Fin 2 → Nat :=
  let c0_i32_27 : BitVec 32 := 0#32
  let c1_i32_29 : BitVec 32 := 1#32
  let arg10 : BitVec 32 := Scf.iv c0_i32_27 c1_i32_29 k1_t5
  let c32_i32 : BitVec 32 := 32#32
  let v68 : BitVec 32 := Scalar.muli arg10 c32_i32
  let v72 : Index := Scalar.indexCast v68
  let c0_66 : Index := 0#32
  ![v72.toNat, 0]
@[reducible] def k1_t6_loop : Scf.Loop 32 :=
  let c0_i32_36 : BitVec 32 := 0#32
  let c80_i32_37 : BitVec 32 := 80#32
  let v41 : BitVec 32 := Scalar.addi c0_i32_36 c80_i32_37
  let c1_i32_38 : BitVec 32 := 1#32
  ⟨c0_i32_36, v41, c1_i32_38⟩
def k1_off11 (k1_t6 : Fin k1_t6_loop.trips) : Fin 2 → Nat :=
  let c0_i32_66 : BitVec 32 := 0#32
  let c0_i32_36 : BitVec 32 := 0#32
  let c1_i32_38 : BitVec 32 := 1#32
  let arg10 : BitVec 32 := Scf.iv c0_i32_36 c1_i32_38 k1_t6
  let c1_i32_65 : BitVec 32 := 1#32
  let v68 : BitVec 32 := Scalar.muli arg10 c1_i32_65
  let v69 : BitVec 32 := Scalar.addi c0_i32_66 v68
  let c32_i32 : BitVec 32 := 32#32
  let v70 : BitVec 32 := Scalar.muli v69 c32_i32
  let v71 : Index := Scalar.indexCast v70
  let c256_67 : Index := 256#32
  ![v71.toNat, 256]
def k1_off12 (k1_t6 : Fin k1_t6_loop.trips) : Fin 2 → Nat :=
  let c0_i32_66 : BitVec 32 := 0#32
  let c0_i32_36 : BitVec 32 := 0#32
  let c1_i32_38 : BitVec 32 := 1#32
  let arg10 : BitVec 32 := Scf.iv c0_i32_36 c1_i32_38 k1_t6
  let c1_i32_65 : BitVec 32 := 1#32
  let v68 : BitVec 32 := Scalar.muli arg10 c1_i32_65
  let v69 : BitVec 32 := Scalar.addi c0_i32_66 v68
  let c32_i32 : BitVec 32 := 32#32
  let v70 : BitVec 32 := Scalar.muli v69 c32_i32
  let v74 : Index := Scalar.indexCast v70
  let c0_68 : Index := 0#32
  ![v74.toNat, 0]
@[reducible] def k1_t7_loop : Scf.Loop 32 :=
  let c0_i32_41 : BitVec 32 := 0#32
  let c80_i32_42 : BitVec 32 := 80#32
  let v43 : BitVec 32 := Scalar.addi c0_i32_41 c80_i32_42
  let c1_i32_43 : BitVec 32 := 1#32
  ⟨c0_i32_41, v43, c1_i32_43⟩
def k1_off13 (k1_t7 : Fin k1_t7_loop.trips) : Fin 2 → Nat :=
  let c0_i32_41 : BitVec 32 := 0#32
  let c1_i32_43 : BitVec 32 := 1#32
  let arg10 : BitVec 32 := Scf.iv c0_i32_41 c1_i32_43 k1_t7
  let c32_i32 : BitVec 32 := 32#32
  let v68 : BitVec 32 := Scalar.muli arg10 c32_i32
  let v69 : Index := Scalar.indexCast v68
  let c384_65 : Index := 384#32
  ![v69.toNat, 384]
def k1_off14 (k1_t7 : Fin k1_t7_loop.trips) : Fin 2 → Nat :=
  let c0_i32_41 : BitVec 32 := 0#32
  let c1_i32_43 : BitVec 32 := 1#32
  let arg10 : BitVec 32 := Scf.iv c0_i32_41 c1_i32_43 k1_t7
  let c32_i32 : BitVec 32 := 32#32
  let v68 : BitVec 32 := Scalar.muli arg10 c32_i32
  let v72 : Index := Scalar.indexCast v68
  let c0_66 : Index := 0#32
  ![v72.toNat, 0]
@[reducible] def k1_t8_loop : Scf.Loop 32 :=
  let c0_i32_50 : BitVec 32 := 0#32
  let c80_i32_51 : BitVec 32 := 80#32
  let v54 : BitVec 32 := Scalar.addi c0_i32_50 c80_i32_51
  let c1_i32_52 : BitVec 32 := 1#32
  ⟨c0_i32_50, v54, c1_i32_52⟩
def k1_off15 (k1_t8 : Fin k1_t8_loop.trips) : Fin 2 → Nat :=
  let c0_i32_66 : BitVec 32 := 0#32
  let c0_i32_50 : BitVec 32 := 0#32
  let c1_i32_52 : BitVec 32 := 1#32
  let arg10 : BitVec 32 := Scf.iv c0_i32_50 c1_i32_52 k1_t8
  let c1_i32_65 : BitVec 32 := 1#32
  let v68 : BitVec 32 := Scalar.muli arg10 c1_i32_65
  let v69 : BitVec 32 := Scalar.addi c0_i32_66 v68
  let c32_i32 : BitVec 32 := 32#32
  let v70 : BitVec 32 := Scalar.muli v69 c32_i32
  let v71 : Index := Scalar.indexCast v70
  let c384_67 : Index := 384#32
  ![v71.toNat, 384]
def k1_off16 (k1_t8 : Fin k1_t8_loop.trips) : Fin 2 → Nat :=
  let c0_i32_66 : BitVec 32 := 0#32
  let c0_i32_50 : BitVec 32 := 0#32
  let c1_i32_52 : BitVec 32 := 1#32
  let arg10 : BitVec 32 := Scf.iv c0_i32_50 c1_i32_52 k1_t8
  let c1_i32_65 : BitVec 32 := 1#32
  let v68 : BitVec 32 := Scalar.muli arg10 c1_i32_65
  let v69 : BitVec 32 := Scalar.addi c0_i32_66 v68
  let c32_i32 : BitVec 32 := 32#32
  let v70 : BitVec 32 := Scalar.muli v69 c32_i32
  let v74 : Index := Scalar.indexCast v70
  let c0_68 : Index := 0#32
  ![v74.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2560x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2560x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1536x2560 .i8 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1536x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1536x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2560x512 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S12x128x2560 : Shape := ⟨3, ![12, 128, 2560]⟩
abbrev S2560 : Shape := ⟨1, ![2560]⟩
abbrev S2560x10240 : Shape := ⟨2, ![2560, 10240]⟩
abbrev S12x128x10240 : Shape := ⟨3, ![12, 128, 10240]⟩
abbrev S10240 : Shape := ⟨1, ![10240]⟩
abbrev S12x128 : Shape := ⟨2, ![12, 128]⟩
abbrev S12x128x1 : Shape := ⟨3, ![12, 128, 1]⟩
abbrev S1x1x2560 : Shape := ⟨3, ![1, 1, 2560]⟩
abbrev S2560x1 : Shape := ⟨2, ![2560, 1]⟩
abbrev S1x10240 : Shape := ⟨2, ![1, 10240]⟩
abbrev S1x1x10240 : Shape := ⟨3, ![1, 1, 10240]⟩

abbrev nBuf : Space → Nat
  | .hbm => 10
  | .vmem => 10
  | .smem => 0
  | _ => 0

abbrev bufTy : (tb : Table) → Fin (tcTables nBuf tb) → BufTy
  | .hbm, ⟨0, _⟩ => ⟨S12x128x2560, .bf16⟩
  | .hbm, ⟨1, _⟩ => ⟨S2560, .f32⟩
  | .hbm, ⟨2, _⟩ => ⟨S2560x10240, .bf16⟩
  | .hbm, ⟨3, _⟩ => ⟨S2560, .f32⟩
  | .hbm, ⟨4, _⟩ => ⟨S12x128x10240, .bf16⟩
  | .hbm, ⟨5, _⟩ => ⟨S2560, .f32⟩
  | .hbm, ⟨6, _⟩ => ⟨S2560x10240, .i8⟩
  | .hbm, ⟨7, _⟩ => ⟨S10240, .f32⟩
  | .hbm, ⟨8, _⟩ => ⟨S12x128x2560, .i8⟩
  | .hbm, ⟨9, _⟩ => ⟨S12x128, .f32⟩
  | .local _ .vmem, ⟨0, _⟩ => ⟨S12x128x2560, .bf16⟩
  | .local _ .vmem, ⟨1, _⟩ => ⟨S2560, .f32⟩
  | .local _ .vmem, ⟨2, _⟩ => ⟨S2560x10240, .bf16⟩
  | .local _ .vmem, ⟨3, _⟩ => ⟨S2560, .f32⟩
  | .local _ .vmem, ⟨4, _⟩ => ⟨S12x128x10240, .bf16⟩
  | .local _ .vmem, ⟨5, _⟩ => ⟨S2560, .f32⟩
  | .local _ .vmem, ⟨6, _⟩ => ⟨S2560x10240, .i8⟩
  | .local _ .vmem, ⟨7, _⟩ => ⟨S10240, .f32⟩
  | .local _ .vmem, ⟨8, _⟩ => ⟨S12x128x2560, .i8⟩
  | .local _ .vmem, ⟨9, _⟩ => ⟨S12x128, .f32⟩
  | _, _ => ⟨S12x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12x128x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x10240 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x128x10240 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2560x10240 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10240 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x128x2560 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Fold.lean ====
/-
  Two recursions over the trips of a counted loop: the list of the pieces its trips write, newest first, and the value
  its trips carry.
-/
module

public import Idealize.ShloMosaic.Lib.Pipeline.FrameBody
public import Idealize.ShloMosaic.Lib.VecWindow

@[expose] public section

namespace Cert.Proof

/-- What the trips before `k` of `n` trips append, the latest trip's first. -/
def pcs {α : Type} (n : ℕ) (P : Fin n → α) : ℕ → List α
  | 0 => []
  | k + 1 => if h : k < n then P ⟨k, h⟩ :: pcs n P k else pcs n P k

/-- Trip `k` puts its own piece in front. -/
theorem pcs_succ {α : Type} (n : ℕ) (P : Fin n → α) (k : Fin n) : pcs n P (k.val + 1) = P k :: pcs n P k.val := by
  show (if h : k.val < n then P ⟨k.val, h⟩ :: pcs n P k.val else pcs n P k.val) = _
  rw [dif_pos k.isLt]

/-- The pieces of the trips before `k` are the trips' own. -/
theorem mem_pcs {α : Type} (n : ℕ) (P : Fin n → α) (p : α) : ∀ k, p ∈ pcs n P k ↔ ∃ j : Fin n, j.val < k ∧ p = P j
  | 0 => by
    constructor
    · intro h; exact absurd h List.not_mem_nil
    · rintro ⟨j, h, _⟩; omega
  | k + 1 => by
    have ih := mem_pcs n P p k
    by_cases hk : k < n
    · rw [pcs_succ n P ⟨k, hk⟩, List.mem_cons, ih]
      constructor
      · rintro (h | ⟨j, hj, e⟩)
        · exact ⟨⟨k, hk⟩, Nat.lt_succ_self k, h⟩
        · exact ⟨j, by omega, e⟩
      · rintro ⟨j, hj, e⟩
        by_cases hjk : j.val = k
        · left; rw [e]; congr 1; exact Fin.ext hjk
        · exact .inr ⟨j, by omega, e⟩
    · have e : pcs n P (k + 1) = pcs n P k := by
        show (if h : k < n then P ⟨k, h⟩ :: pcs n P k else pcs n P k) = _
        rw [dif_neg hk]
      rw [e, ih]
      constructor
      · rintro ⟨j, hj, e⟩; exact ⟨j, by omega, e⟩
      · rintro ⟨j, hj, e⟩; exact ⟨j, by have := j.isLt; omega, e⟩

/-- The value carried before trip `k` of `n` trips, from the loop's initial value. -/
def carried {α : Type} (n : ℕ) (step : Fin n → α → α) (a : α) : ℕ → α
  | 0 => a
  | k + 1 => if h : k < n then step ⟨k, h⟩ (carried n step a k) else carried n step a k

/-- Trip `k` takes the carried value one step on. -/
theorem carried_succ {α : Type} (n : ℕ) (step : Fin n → α → α) (a : α) (k : Fin n) :
    carried n step a (k.val + 1) = step k (carried n step a k.val) := by
  show (if h : k.val < n then step ⟨k.val, h⟩ (carried n step a k.val) else carried n step a k.val) = _
  rw [dif_pos k.isLt]

/-- The carried value after all trips depends on the trips' steps only. -/
theorem carried_congr {α : Type} {n m : ℕ} (h : n = m) (f : Fin n → α → α) (g : Fin m → α → α) (hfg : ∀ k, f k = g (k.cast h)) (a : α) :
    carried n f a n = carried m g a m := by
  subst h
  rw [show f = g from funext hfg]

end Cert.Proof

end
-- ==== Proof.ALoops.lean ====
/-
  The two counted loops of the activation quantiser's kernel function, each by its invariant. The first fills the scratch
  of reciprocal root mean squares block by block and keeps the running column maxima in a second scratch, stored whole
  at every trip; the second stores codes and scales block by block.
-/
module

public import proofs.«01_k».proof.Proof.Fold
public import proofs.«01_k».proof.Proof.Gen.KernelIdeal.Launch
public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 8192
set_option maxHeartbeats 4000000

noncomputable section

namespace Cert.KernelIdeal.Hand

open Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ)
  (arg0 : Memref sig .tc .vmem S1536x2560 .bf16) (harg0 : arg0.IsWhole) (arg1 : Memref sig .tc .vmem S1x2560 .f32) (harg1 : arg1.IsWhole)
  (arg2 : Memref sig .tc .vmem S1x2560 .f32) (harg2 : arg2.IsWhole) (arg3 : Memref sig .tc .vmem S1x2560 .f32) (harg3 : arg3.IsWhole)
  (arg4 : Memref sig .tc .vmem S2560x128 .f32) (harg4 : arg4.IsWhole) (arg5 : Memref sig .tc .vmem S1536x2560 .i8) (harg5 : arg5.IsWhole)
  (arg6 : Memref sig .tc .vmem S1536x128 .f32) (harg6 : arg6.IsWhole) (arg7 : Memref sig .tc .vmem S12x128 .f32) (harg7 : arg7.IsWhole)
  (arg8 : Memref sig .tc .vmem S1536x128 .f32) (harg8 : arg8.IsWhole) (arg9 : Memref sig .tc .vmem S8x2560 .f32) (harg9 : arg9.IsWhole)

/-- Block `k`'s 32 rows of the activations. -/
abbrev xBlk (x : Vec F S1536x2560 .bf16) (o : Fin 2 → ℕ) (ho : ∀ a, o a + S32x2560.size a ≤ S1536x2560.size a) : Vec F S32x2560 .bf16 :=
  View.ld (Val := Elt F) (e' := .bf16) x (Rect.unit (s := S1536x2560) o S32x2560.size ho)

/-- The reciprocal root mean squares a trip of the first loop stores, with where. -/
def rPiece (x : Vec F S1536x2560 .bf16) (k : Fin k0_t1_loop.trips) : View.Piece (Elt F) S1536x128 .f32 :=
  ⟨Rect.unit (s := S1536x128) (k0_off2 k) S32x128.size (k0_off2_inb k), k0_pay10 (xBlk x (k0_off1 k) (k0_off1_inb k))⟩

/-- One step of the running column maxima. -/
def axStep (x : Vec F S1536x2560 .bf16) (g : Vec F S1x2560 .f32) (k : Fin k0_t1_loop.trips) (a : Vec F S8x2560 .f32) : Vec F S8x2560 .f32 :=
  k0_pay11 (xBlk x (k0_off1 k) (k0_off1_inb k)) g a

/-- The whole-array store of the running maxima at trip `k`. -/
def axPiece (x : Vec F S1536x2560 .bf16) (g : Vec F S1x2560 .f32) (a : Vec F S8x2560 .f32) (k : Fin k0_t1_loop.trips) : View.Piece (Elt F) S8x2560 .f32 :=
  ⟨Rect.unit (s := S8x2560) ![0, 0] S8x2560.size inb_S8x2560_S8x2560_0_0, axStep x g k (carried k0_t1_loop.trips (axStep x g) a k.val)⟩

/-- After the stores before trip `k` the array reads as the running maxima. -/
theorem axRead {κ : Kind} {sp : Space} (v : View sig κ sp S8x2560 .f32) (f : v.ty.Contents (Elt F)) (x : Vec F S1536x2560 .bf16) (g : Vec F S1x2560 .f32) :
    ∀ k, k ≤ k0_t1_loop.trips → v.read (Elt F) (v.writes (Elt F) f (pcs k0_t1_loop.trips (axPiece x g (v.read (Elt F) f)) k))
      = carried k0_t1_loop.trips (axStep x g) (v.read (Elt F) f) k
  | 0, _ => rfl
  | k + 1, hk => by
    rw [pcs_succ k0_t1_loop.trips (axPiece x g (v.read (Elt F) f)) ⟨k, hk⟩, carried_succ k0_t1_loop.trips (axStep x g) (v.read (Elt F) f) ⟨k, hk⟩]
    exact View.read_writes_full v f _ _ _

set_option warn.classDefReducibility false in
/-- The first loop: before trip `k` the first scratch holds the pieces of the trips before and the second the whole-array
    stores of the trips before. -/
@[sl_loop] def statLoop (X0 : BufTy.Contents (Elt F) arg0.view.ty) (X1 : BufTy.Contents (Elt F) arg1.view.ty)
    (G8 : BufTy.Contents (Elt F) arg8.view.ty) (G9 : BufTy.Contents (Elt F) arg9.view.ty) :
    LoopInv (M := 𝕄G) Idealize.ShloMosaic.frame (wpE defs₀ 𝒱 (c : Thread nD τ) bd) E
      k0_t1_loop.lb k0_t1_loop.ub k0_t1_loop.st k0_t1_ok () (k0_t1_body (F := F) arg0 harg0 arg1 harg1 arg2 harg2 arg3 harg3 arg4 harg4 arg5 harg5 arg6 harg6 arg7 harg7 arg8 harg8 arg9 harg9) where
  inv k _ := iprop((arg0.view.loc (c : Thread nD τ) ↦[arg0.view.set]{fullShare} X0) ∗ (arg1.view.loc (c : Thread nD τ) ↦[arg1.view.set]{fullShare} X1)
    ∗ (∃ f, (arg8.view.loc (c : Thread nD τ) ↦[arg8.view.set]{fullShare} f) ∗ ⌜f = arg8.view.writes (Elt F) G8 (pcs k0_t1_loop.trips (rPiece (arg0.view.read (Elt F) X0)) k)⌝)
    ∗ (∃ f, (arg9.view.loc (c : Thread nD τ) ↦[arg9.view.set]{fullShare} f) ∗ ⌜f = arg9.view.writes (Elt F) G9 (pcs k0_t1_loop.trips (axPiece (arg0.view.read (Elt F) X0) (arg1.view.read (Elt F) X1) (arg9.view.read (Elt F) G9)) k)⌝))
  step k acc := by
    iintro ⟨H0, H1, ⟨%f8, H8, %h8⟩, ⟨%f9, H9, %h9⟩⟩
    subst h8 h9
    rw [pcs_succ k0_t1_loop.trips (rPiece (arg0.view.read (Elt F) X0)) k, pcs_succ k0_t1_loop.trips (axPiece (arg0.view.read (Elt F) X0) (arg1.view.read (Elt F) X1) (arg9.view.read (Elt F) G9)) k]
    unfold k0_t1_body
    sl_exec
    sl_step
    isplitl [H0]; · iexact H0
    isplitl [H1]; · iexact H1
    isplitl [H8]
    · iexists _; isplitl [H8]; · iexact H8
      ipureintro; exact (View.writes_append _ _ [_] _).symm
    iexists _; isplitl [H9]; · iexact H9
    ipureintro
    have e : axPiece (arg0.view.read (Elt F) X0) (arg1.view.read (Elt F) X1) (arg9.view.read (Elt F) G9) k = ⟨Rect.unit (s := S8x2560) ![0, 0] S8x2560.size inb_S8x2560_S8x2560_0_0,
        k0_pay11 (xBlk (arg0.view.read (Elt F) X0) (k0_off1 k) (k0_off1_inb k)) (arg1.view.readAt (Elt F) (Rect.unit (s := S1x2560) ![0, 0] S1x2560.size inb_S1x2560_S1x2560_0_0).toLoadRect X1)
          (arg9.view.readAt (Elt F) (Rect.unit (s := S8x2560) ![0, 0] S8x2560.size inb_S8x2560_S8x2560_0_0).toLoadRect (arg9.view.writes (Elt F) G9 (pcs k0_t1_loop.trips (axPiece (arg0.view.read (Elt F) X0) (arg1.view.read (Elt F) X1) (arg9.view.read (Elt F) G9)) k)))⟩ := by
      rw [View.readAt_full arg1.view, View.readAt_full arg9.view, axRead arg9.view G9 (arg0.view.read (Elt F) X0) (arg1.view.read (Elt F) X1) k k.isLt.le]; rfl
    rw [View.writes_cons, e]
    rfl

/-- The codes a trip of the second loop stores, with where. -/
def xcPiece (x : Vec F S1536x2560 .bf16) (r : Vec F S1536x128 .f32) (g s : Vec F S1x2560 .f32) (k : Fin k0_t2_loop.trips) : View.Piece (Elt F) S1536x2560 .i8 :=
  ⟨Rect.unit (s := S1536x2560) (k0_off3 k) S32x2560.size (k0_off3_inb k), k0_pay5 (xBlk x (k0_off3 k) (k0_off3_inb k))
    (View.ld (Val := Elt F) (e' := .f32) r (Rect.unit (s := S1536x128) (k0_off4 k) S32x1.size (k0_off4_inb k))) g s⟩

/-- The replicated scales a trip of the second loop stores, with where. -/
def xsPiece (x : Vec F S1536x2560 .bf16) (r : Vec F S1536x128 .f32) (g s : Vec F S1x2560 .f32) (k : Fin k0_t2_loop.trips) : View.Piece (Elt F) S1536x128 .f32 :=
  ⟨Rect.unit (s := S1536x128) (k0_off5 k) S32x128.size (k0_off5_inb k), k0_pay6 (xBlk x (k0_off3 k) (k0_off3_inb k))
    (View.ld (Val := Elt F) (e' := .f32) r (Rect.unit (s := S1536x128) (k0_off4 k) S32x1.size (k0_off4_inb k))) g s⟩

set_option warn.classDefReducibility false in
/-- The second loop: before trip `k` the two destinations hold the pieces of the trips before. -/
@[sl_loop] def storeLoop (v16 : FVec F S1x2560 .f32) (v106 : FVec F S128x128 .f32) (X0 : BufTy.Contents (Elt F) arg0.view.ty) (X1 : BufTy.Contents (Elt F) arg1.view.ty)
    (X3 : BufTy.Contents (Elt F) arg3.view.ty) (X8 : BufTy.Contents (Elt F) arg8.view.ty) (G5 : BufTy.Contents (Elt F) arg5.view.ty) (G6 : BufTy.Contents (Elt F) arg6.view.ty) :
    LoopInv (M := 𝕄G) Idealize.ShloMosaic.frame (wpE defs₀ 𝒱 (c : Thread nD τ) bd) E
      k0_t2_loop.lb k0_t2_loop.ub k0_t2_loop.st k0_t2_ok () (k0_t2_body (F := F) arg0 harg0 arg1 harg1 arg2 harg2 arg3 harg3 arg4 harg4 arg5 harg5 arg6 harg6 arg7 harg7 arg8 harg8 arg9 harg9 v16 v106) where
  inv k _ := iprop((arg0.view.loc (c : Thread nD τ) ↦[arg0.view.set]{fullShare} X0) ∗ (arg1.view.loc (c : Thread nD τ) ↦[arg1.view.set]{fullShare} X1) ∗ (arg3.view.loc (c : Thread nD τ) ↦[arg3.view.set]{fullShare} X3) ∗ (arg8.view.loc (c : Thread nD τ) ↦[arg8.view.set]{fullShare} X8)
    ∗ (∃ f, (arg5.view.loc (c : Thread nD τ) ↦[arg5.view.set]{fullShare} f) ∗ ⌜f = arg5.view.writes (Elt F) G5 (pcs k0_t2_loop.trips (xcPiece (arg0.view.read (Elt F) X0) (arg8.view.read (Elt F) X8) (arg1.view.read (Elt F) X1) (arg3.view.read (Elt F) X3)) k)⌝)
    ∗ (∃ f, (arg6.view.loc (c : Thread nD τ) ↦[arg6.view.set]{fullShare} f) ∗ ⌜f = arg6.view.writes (Elt F) G6 (pcs k0_t2_loop.trips (xsPiece (arg0.view.read (Elt F) X0) (arg8.view.read (Elt F) X8) (arg1.view.read (Elt F) X1) (arg3.view.read (Elt F) X3)) k)⌝))
  step k acc := by
    iintro ⟨H0, H1, H3, H8, ⟨%f5, H5, %h5⟩, ⟨%f6, H6, %h6⟩⟩
    subst h5 h6
    rw [pcs_succ k0_t2_loop.trips (xcPiece (arg0.view.read (Elt F) X0) (arg8.view.read (Elt F) X8) (arg1.view.read (Elt F) X1) (arg3.view.read (Elt F) X3)) k, pcs_succ k0_t2_loop.trips (xsPiece (arg0.view.read (Elt F) X0) (arg8.view.read (Elt F) X8) (arg1.view.read (Elt F) X1) (arg3.view.read (Elt F) X3)) k]
    unfold k0_t2_body
    simp only [k0_part1_eq_skeleton]
    unfold k0_part1_skel
    sl_exec
    sl_step
    isplitl [H0]; · iexact H0
    isplitl [H1]; · iexact H1
    isplitl [H3]; · iexact H3
    isplitl [H8]; · iexact H8
    have e1 := View.readAt_full arg1.view X1 inb_S1x2560_S1x2560_0_0
    have e3 := View.readAt_full arg3.view X3 inb_S1x2560_S1x2560_0_0
    isplitl [H5]
    · iexists _; isplitl [H5]; · iexact H5
      ipureintro
      refine (View.writes_append _ _ [_] _).symm.trans ?_
      rw [e1, e3]; rfl
    iexists _; isplitl [H6]; · iexact H6
    ipureintro
    refine (View.writes_append _ _ [_] _).symm.trans ?_
    rw [e1, e3]; rfl

end Cert.KernelIdeal.Hand

end
-- ==== Proof.ASpec.lean ====
/-
  What the activation quantiser's kernel function leaves in its buffers, as functions of the activations, the weights of
  the normalisation and the columns' weight maxima: the piece lists of its two loops and of its two series of stores,
  read back.
-/
module

public import proofs.«01_k».proof.Proof.ALoops
public import Idealize.ShloMosaic.Lib.Pointwise
public import proofs.«01_k».proof.Proof.Gen.KernelIdeal.Launch
public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 8192
set_option maxHeartbeats 4000000

noncomputable section

namespace Cert.KernelIdeal.Hand

open Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Block `k`'s 32 rows lie inside the activations; -/
theorem inbX (k : Fin 48) : ∀ a, (![32 * k.val, 0] : Fin 2 → ℕ) a + S32x2560.size a ≤ S1536x2560.size a := by
  have hk := k.isLt
  refine Fin.forall_fin_two.mpr ⟨?_, ?_⟩
  · show 32 * k.val + 32 ≤ 1536; omega
  · show 0 + 2560 ≤ 2560; omega

/-- and inside the first column of the row statistics. -/
theorem inbR (k : Fin 48) : ∀ a, (![32 * k.val, 0] : Fin 2 → ℕ) a + S32x1.size a ≤ S1536x128.size a := by
  have hk := k.isLt
  refine Fin.forall_fin_two.mpr ⟨?_, ?_⟩
  · show 32 * k.val + 32 ≤ 1536; omega
  · show 0 + 1 ≤ 128; omega

/-- 1536 rows read off blocks of 32. -/
def rows {w : ℕ} {α : Type} (G : Fin 48 → Shape.Idx ⟨2, ![32, w]⟩ → α) (y : Shape.Idx ⟨2, ![1536, w]⟩) : α :=
  have h0 : (y 0).val < 1536 := (y 0).isLt
  G ⟨(y 0).val / 32, by omega⟩ (ix2 ⟨(y 0).val % 32, by omega⟩ (y 1))

/-- Place `x` of block `k` of those rows is the block there. -/
theorem rows_at {w : ℕ} {α : Type} (G : Fin 48 → Shape.Idx ⟨2, ![32, w]⟩ → α) (y : Shape.Idx ⟨2, ![1536, w]⟩) (k : Fin 48) (x : Shape.Idx ⟨2, ![32, w]⟩)
    (h0 : (y 0).val = 32 * k.val + (x 0).val) (h1 : (y 1).val = (x 1).val) : rows G y = G k x := by
  have hx0 : (x 0).val < 32 := (x 0).isLt
  have ek : ∀ h, (⟨(y 0).val / 32, h⟩ : Fin 48) = k := fun h => Fin.ext (by show (y 0).val / 32 = k.val; omega)
  have ex : ∀ h, (ix2 (⟨(y 0).val % 32, h⟩ : Fin 32) (y 1 : Fin w) : Shape.Idx ⟨2, ![32, w]⟩) = x := fun h => by
    funext a
    match a with
    | ⟨0, _⟩ => exact Fin.ext (by show (y 0).val % 32 = (x 0).val; omega)
    | ⟨1, _⟩ => exact Fin.ext h1
  unfold rows
  dsimp only
  rw [ek, ex]

/-- A row lies in the rectangle of its block. -/
theorem mem_rows {w : ℕ} (y : Shape.Idx ⟨2, ![1536, w]⟩) {o : Fin 2 → ℕ} (e : o = ![32 * ((y 0).val / 32), 0])
    (ho : ∀ a, o a + (⟨2, ![32, w]⟩ : Shape).size a ≤ (⟨2, ![1536, w]⟩ : Shape).size a) :
    y ∈ (Rect.unit (s := ⟨2, ![1536, w]⟩) o (⟨2, ![32, w]⟩ : Shape).size ho).set := by
  subst e
  refine (LoadRect.mem_set _).mpr (Fin.forall_fin_two.mpr ⟨⟨(y 0).val % 32, Nat.mod_lt _ (by decide), ?_⟩, ⟨(y 1).val, (y 1).isLt, ?_⟩⟩)
  · show (y 0).val = 32 * ((y 0).val / 32) + 1 * ((y 0).val % 32); omega
  · show (y 1).val = 0 + 1 * (y 1).val; omega

/-- The reciprocal root mean squares of the rows, replicated. -/
def actR (x : Vec F S1536x2560 .bf16) : Vec F S1536x128 .f32 := rows (fun k => k0_pay10 (xBlk x _ (inbX k)))

/-- The column maxima after all blocks: eight partial maxima per column. -/
def actMax (x : Vec F S1536x2560 .bf16) (g : Vec F S1x2560 .f32) : Vec F S8x2560 .f32 :=
  carried 48 (fun k a => k0_pay11 (xBlk x _ (inbX k)) g a) (k0_pay7 (F := F)) 48

/-- The smoothing scales of the columns. -/
def actS (x : Vec F S1536x2560 .bf16) (g w : Vec F S1x2560 .f32) : Vec F S1x2560 .f32 := k0_pay12 (actMax x g) w

/-- One value per column, down the rows and replicated. -/
def repl (s : Vec F S1x2560 .f32) : Vec F S2560x128 .f32 := fun y => s (ix2 0 (y 0))

/-- The first column of block `k` of the row statistics. -/
abbrev rBlk (r : Vec F S1536x128 .f32) (k : Fin 48) : Vec F S32x1 .f32 :=
  View.ld (Val := Elt F) (e' := .f32) r (Rect.unit (s := S1536x128) ![32 * k.val, 0] S32x1.size (inbR k))

/-- The activations' codes from the row statistics and the smoothing scales; -/
def codesOf (x : Vec F S1536x2560 .bf16) (r : Vec F S1536x128 .f32) (g s : Vec F S1x2560 .f32) : Vec F S1536x2560 .i8 :=
  rows (fun k => k0_pay5 (xBlk x _ (inbX k)) (rBlk r k) g s)
/-- their rows' scales, replicated; -/
def scalesOf (x : Vec F S1536x2560 .bf16) (r : Vec F S1536x128 .f32) (g s : Vec F S1x2560 .f32) : Vec F S1536x128 .f32 :=
  rows (fun k => k0_pay6 (xBlk x _ (inbX k)) (rBlk r k) g s)
/-- replicated row values as twelve rows of 128. -/
def fold12 (r : Vec F S1536x128 .f32) : Vec F S12x128 .f32 := fun y =>
  have h0 : (y 0).val < 12 := (y 0).isLt
  have h1 : (y 1).val < 128 := (y 1).isLt
  r (ix2 ⟨128 * (y 0).val + (y 1).val, by omega⟩ 0)

/-- The activations' codes. -/
def actCode (x : Vec F S1536x2560 .bf16) (g w : Vec F S1x2560 .f32) : Vec F S1536x2560 .i8 := codesOf x (actR x) g (actS x g w)
/-- The rows' scales, replicated. -/
def actXs (x : Vec F S1536x2560 .bf16) (g w : Vec F S1x2560 .f32) : Vec F S1536x128 .f32 := scalesOf x (actR x) g (actS x g w)

/-! ### The loops' pieces read back -/

/-- The block at a trip's offsets. -/
theorem xBlk_congr (x : Vec F S1536x2560 .bf16) {o o' : Fin 2 → ℕ} (e : o = o') (ho ho') : xBlk x o ho = xBlk x o' ho' := by subst e; rfl

/-- The first loop's carried maxima after all trips. -/
theorem actMax_eq (x : Vec F S1536x2560 .bf16) (g : Vec F S1x2560 .f32) :
    carried k0_t1_loop.trips (axStep x g) (k0_pay7 (F := F)) k0_t1_loop.trips = actMax x g :=
  carried_congr (by decide) _ _ (fun k => funext fun a => congrArg (fun b => k0_pay11 b g a) (xBlk_congr x (k0_off1_eq k) _ _)) _

/-- A piece at block `k`'s offsets is that block of the rows. -/
theorem rows_piece {w : ℕ} {e : EltTy} (G : Fin 48 → Shape.Idx ⟨2, ![32, w]⟩ → Elt F e) (k : Fin 48) {o : Fin 2 → ℕ} (ho : o = ![32 * k.val, 0])
    (inb : ∀ a, o a + (⟨2, ![32, w]⟩ : Shape).size a ≤ (⟨2, ![1536, w]⟩ : Shape).size a) (x : Shape.Idx ⟨2, ![32, w]⟩) :
    G k x = rows G ((Rect.unit (s := ⟨2, ![1536, w]⟩) o (⟨2, ![32, w]⟩ : Shape).size inb).emb x) := by
  subst ho
  refine (rows_at G _ k x (congrArg (32 * k.val + ·) (Nat.one_mul _)) ?_).symm
  show 0 + 1 * (x 1).val = (x 1).val
  omega

/-- Blocks of 32 rows written one per trip, all 48 of them, read as the rows they are the blocks of. -/
theorem rows_read {w : ℕ} {e : EltTy} {κ : Kind} {sp : Space} (v : View sig κ sp ⟨2, ![1536, w]⟩ e) (f : v.ty.Contents (Elt F))
    (G : Fin 48 → Shape.Idx ⟨2, ![32, w]⟩ → Elt F e) {n : ℕ} (hn : n = 48) (o : Fin n → Fin 2 → ℕ)
    (inb : ∀ k a, o k a + (⟨2, ![32, w]⟩ : Shape).size a ≤ (⟨2, ![1536, w]⟩ : Shape).size a) (ho : ∀ k, o k = ![32 * k.val, 0])
    (P : Fin n → View.Piece (Elt F) ⟨2, ![1536, w]⟩ e) (hP : ∀ k, P k = ⟨Rect.unit (s := ⟨2, ![1536, w]⟩) (o k) (⟨2, ![32, w]⟩ : Shape).size (inb k), G (k.cast hn)⟩) :
    v.read (Elt F) (v.writes (Elt F) f (pcs n P n)) = rows G := by
  subst hn
  funext y
  have h0 : (y 0).val < 1536 := (y 0).isLt
  refine View.read_writes_apply_of_pieces v f (rows G) _ ?_ y ?_
  · intro p hp
    obtain ⟨k, _, rfl⟩ := (mem_pcs _ _ _ _).mp hp
    rw [hP k]
    exact rows_piece G k (ho k) (inb k)
  · have hk : (y 0).val / 32 < 48 := by omega
    refine ⟨P ⟨_, hk⟩, (mem_pcs _ _ _ _).mpr ⟨⟨_, hk⟩, hk, rfl⟩, ?_⟩
    rw [hP ⟨_, hk⟩]
    exact mem_rows y (ho ⟨_, hk⟩) (inb ⟨_, hk⟩)

/-- After the first loop's pieces the scratch reads as the row statistics; -/
theorem actR_read {κ : Kind} {sp : Space} (v : View sig κ sp S1536x128 .f32) (f : v.ty.Contents (Elt F)) (x : Vec F S1536x2560 .bf16) :
    v.read (Elt F) (v.writes (Elt F) f (pcs k0_t1_loop.trips (rPiece x) k0_t1_loop.trips)) = actR x :=
  rows_read v f _ (by decide) k0_off2 k0_off2_inb k0_off2_eq _ fun k => by
    unfold rPiece
    rw [xBlk_congr x (k0_off1_eq k) _ (inbX (k.cast (by decide)))]; rfl

theorem rBlk_congr (r : Vec F S1536x128 .f32) {o : Fin 2 → ℕ} (k : Fin 48) (e : o = ![32 * k.val, 0]) (ho : ∀ a, o a + S32x1.size a ≤ S1536x128.size a) :
    View.ld (Val := Elt F) (e' := .f32) r (Rect.unit (s := S1536x128) o S32x1.size ho) = rBlk r k := by subst e; rfl

/-- after the second loop's the codes' buffer reads as the codes, -/
theorem codes_read {κ : Kind} {sp : Space} (v : View sig κ sp S1536x2560 .i8) (f : v.ty.Contents (Elt F)) (x : Vec F S1536x2560 .bf16) (r : Vec F S1536x128 .f32) (g s : Vec F S1x2560 .f32) :
    v.read (Elt F) (v.writes (Elt F) f (pcs k0_t2_loop.trips (xcPiece x r g s) k0_t2_loop.trips)) = codesOf x r g s :=
  rows_read v f _ (by decide) k0_off3 k0_off3_inb k0_off3_eq _ fun k => by
    unfold xcPiece
    rw [xBlk_congr x (k0_off3_eq k) _ (inbX (k.cast (by decide))), rBlk_congr r (k.cast (by decide)) (k0_off4_eq k)]; rfl

/-- and the scales' buffer as the scales. -/
theorem scales_read {κ : Kind} {sp : Space} (v : View sig κ sp S1536x128 .f32) (f : v.ty.Contents (Elt F)) (x : Vec F S1536x2560 .bf16) (r : Vec F S1536x128 .f32) (g s : Vec F S1x2560 .f32) :
    v.read (Elt F) (v.writes (Elt F) f (pcs k0_t2_loop.trips (xsPiece x r g s) k0_t2_loop.trips)) = scalesOf x r g s :=
  rows_read v f _ (by decide) k0_off5 k0_off5_inb k0_off5_eq _ fun k => by
    unfold xsPiece
    rw [xBlk_congr x (k0_off3_eq k) _ (inbX (k.cast (by decide))), rBlk_congr r (k.cast (by decide)) (k0_off4_eq k)]; rfl

/-! ### The two series of stores read back -/

/-- 128 columns' values turned down the rows and replicated. -/
def repChunk (s : FVec F S1x2560 .f32) (o : ℕ) (h : S1x2560.Slices ![0, o] S1x128) : FVec F S128x128 .f32 :=
  transpose S128x128 [1, 0] (broadcastTo S128x128 (shapeCast S1x128 (extractStridedSlice S1x128 ![0, o] s h)))

/-- Row `a` of such a chunk is column `o + a`'s value. -/
theorem repPiece_at (s : FVec F S1x2560 .f32) (o : ℕ) (h : S1x2560.Slices ![0, o] S1x128) (inb) (x : S128x128.Idx) :
    repChunk s o h x = repl s ((Rect.unit (s := S2560x128) ![o, 0] S128x128.size inb).emb x) := by
  obtain ⟨a, b, rfl⟩ : ∃ (a : Fin 128) (b : Fin 128), x = ix2 a b := ⟨x 0, x 1, by funext i; match i with | ⟨0, _⟩ => rfl | ⟨1, _⟩ => rfl⟩
  unfold repChunk repl
  pointwise
  refine congrArg s ?_
  funext i
  match i with
  | ⟨0, _⟩ => exact Fin.ext (by first | rfl | simp)
  | ⟨1, _⟩ => exact Fin.ext (by first | rfl | simp)

/-- The stores of the replicated smoothing scales, newest first. -/
abbrev repList (a : Vec F S8x2560 .f32) (w : Vec F S1x2560 .f32) : List (View.Piece (Elt F) S2560x128 .f32) :=
  [⟨Rect.unit (s := S2560x128) ![2432, 0] S128x128.size inb_S2560x128_S128x128_2432_0, k0_pay33 (k0_pay12 a w)⟩,
    ⟨Rect.unit (s := S2560x128) ![2304, 0] S128x128.size inb_S2560x128_S128x128_2304_0, k0_pay32 (k0_pay12 a w)⟩,
    ⟨Rect.unit (s := S2560x128) ![2176, 0] S128x128.size inb_S2560x128_S128x128_2176_0, k0_pay31 (k0_pay12 a w)⟩,
    ⟨Rect.unit (s := S2560x128) ![2048, 0] S128x128.size inb_S2560x128_S128x128_2048_0, k0_pay30 (k0_pay12 a w)⟩,
    ⟨Rect.unit (s := S2560x128) ![1920, 0] S128x128.size inb_S2560x128_S128x128_1920_0, k0_pay29 (k0_pay12 a w)⟩,
    ⟨Rect.unit (s := S2560x128) ![1792, 0] S128x128.size inb_S2560x128_S128x128_1792_0, k0_pay28 (k0_pay12 a w)⟩,
    ⟨Rect.unit (s := S2560x128) ![1664, 0] S128x128.size inb_S2560x128_S128x128_1664_0, k0_pay27 (k0_pay12 a w)⟩,
    ⟨Rect.unit (s := S2560x128) ![1536, 0] S128x128.size inb_S2560x128_S128x128_1536_0, k0_pay26 (k0_pay12 a w)⟩,
    ⟨Rect.unit (s := S2560x128) ![1408, 0] S128x128.size inb_S2560x128_S128x128_1408_0, k0_pay25 (k0_pay12 a w)⟩,
    ⟨Rect.unit (s := S2560x128) ![1280, 0] S128x128.size inb_S2560x128_S128x128_1280_0, k0_pay24 (k0_pay23 (k0_pay12 a w))⟩,
    ⟨Rect.unit (s := S2560x128) ![1152, 0] S128x128.size inb_S2560x128_S128x128_1152_0, k0_pay22 (k0_pay12 a w)⟩,
    ⟨Rect.unit (s := S2560x128) ![1024, 0] S128x128.size inb_S2560x128_S128x128_1024_0, k0_pay21 (k0_pay12 a w)⟩,
    ⟨Rect.unit (s := S2560x128) ![896, 0] S128x128.size inb_S2560x128_S128x128_896_0, k0_pay20 (k0_pay12 a w)⟩,
    ⟨Rect.unit (s := S2560x128) ![768, 0] S128x128.size inb_S2560x128_S128x128_768_0, k0_pay19 (k0_pay12 a w)⟩,
    ⟨Rect.unit (s := S2560x128) ![640, 0] S128x128.size inb_S2560x128_S128x128_640_0, k0_pay18 (k0_pay12 a w)⟩,
    ⟨Rect.unit (s := S2560x128) ![512, 0] S128x128.size inb_S2560x128_S128x128_512_0, k0_pay17 (k0_pay12 a w)⟩,
    ⟨Rect.unit (s := S2560x128) ![384, 0] S128x128.size inb_S2560x128_S128x128_384_0, k0_pay16 (k0_pay12 a w)⟩,
    ⟨Rect.unit (s := S2560x128) ![256, 0] S128x128.size inb_S2560x128_S128x128_256_0, k0_pay15 a w⟩,
    ⟨Rect.unit (s := S2560x128) ![128, 0] S128x128.size inb_S2560x128_S128x128_128_0, k0_pay14 a w⟩,
    ⟨Rect.unit (s := S2560x128) ![0, 0] S128x128.size inb_S2560x128_S128x128_0_0, k0_pay13 a w⟩]

theorem mem_chunk (y : S2560x128.Idx) (b : ℕ) (inb : ∀ a, (![128 * b, 0] : Fin 2 → ℕ) a + S128x128.size a ≤ S2560x128.size a) (hb : (y 0).val / 128 = b) :
    y ∈ (Rect.unit (s := S2560x128) ![128 * b, 0] S128x128.size inb).set := by
  refine (LoadRect.mem_set _).mpr (Fin.forall_fin_two.mpr ⟨⟨(y 0).val % 128, Nat.mod_lt _ (by decide), ?_⟩, ⟨(y 1).val, (y 1).isLt, ?_⟩⟩)
  · show (y 0).val = 128 * b + 1 * ((y 0).val % 128); omega
  · show (y 1).val = 0 + 1 * (y 1).val; omega

/-- The stores agree with the replicated scales, -/
theorem repList_agree (a : Vec F S8x2560 .f32) (w : Vec F S1x2560 .f32) :
    ∀ p ∈ repList a w, ∀ x : p.1.shape.Idx, p.2 x = repl (k0_pay12 a w) (p.1.emb x) := by
  intro p hp
  simp only [repList, List.mem_cons, List.not_mem_nil, or_false] at hp
  rcases hp with rfl | rfl | rfl | rfl | rfl | rfl | rfl | rfl | rfl | rfl | rfl | rfl | rfl | rfl | rfl | rfl | rfl | rfl | rfl | rfl
  · exact repPiece_at (k0_pay12 a w) 2432 (by decide) inb_S2560x128_S128x128_2432_0
  · exact repPiece_at (k0_pay12 a w) 2304 (by decide) inb_S2560x128_S128x128_2304_0
  · exact repPiece_at (k0_pay12 a w) 2176 (by decide) inb_S2560x128_S128x128_2176_0
  · exact repPiece_at (k0_pay12 a w) 2048 (by decide) inb_S2560x128_S128x128_2048_0
  · exact repPiece_at (k0_pay12 a w) 1920 (by decide) inb_S2560x128_S128x128_1920_0
  · exact repPiece_at (k0_pay12 a w) 1792 (by decide) inb_S2560x128_S128x128_1792_0
  · exact repPiece_at (k0_pay12 a w) 1664 (by decide) inb_S2560x128_S128x128_1664_0
  · exact repPiece_at (k0_pay12 a w) 1536 (by decide) inb_S2560x128_S128x128_1536_0
  · exact repPiece_at (k0_pay12 a w) 1408 (by decide) inb_S2560x128_S128x128_1408_0
  · exact repPiece_at (k0_pay12 a w) 1280 (by decide) inb_S2560x128_S128x128_1280_0
  · exact repPiece_at (k0_pay12 a w) 1152 (by decide) inb_S2560x128_S128x128_1152_0
  · exact repPiece_at (k0_pay12 a w) 1024 (by decide) inb_S2560x128_S128x128_1024_0
  · exact repPiece_at (k0_pay12 a w) 896 (by decide) inb_S2560x128_S128x128_896_0
  · exact repPiece_at (k0_pay12 a w) 768 (by decide) inb_S2560x128_S128x128_768_0
  · exact repPiece_at (k0_pay12 a w) 640 (by decide) inb_S2560x128_S128x128_640_0
  · exact repPiece_at (k0_pay12 a w) 512 (by decide) inb_S2560x128_S128x128_512_0
  · exact repPiece_at (k0_pay12 a w) 384 (by decide) inb_S2560x128_S128x128_384_0
  · exact repPiece_at (k0_pay12 a w) 256 (by decide) inb_S2560x128_S128x128_256_0
  · exact repPiece_at (k0_pay12 a w) 128 (by decide) inb_S2560x128_S128x128_128_0
  · exact repPiece_at (k0_pay12 a w) 0 (by decide) inb_S2560x128_S128x128_0_0

/-- and cover the buffer. -/
theorem repList_cover (a : Vec F S8x2560 .f32) (w : Vec F S1x2560 .f32) (y : S2560x128.Idx) : ∃ p ∈ repList a w, y ∈ p.1.set := by
  have h0 : (y 0).val < 2560 := (y 0).isLt
  obtain hb | hb | hb | hb | hb | hb | hb | hb | hb | hb | hb | hb | hb | hb | hb | hb | hb | hb | hb | hb : (y 0).val / 128 = 19 ∨ (y 0).val / 128 = 18 ∨ (y 0).val / 128 = 17 ∨ (y 0).val / 128 = 16 ∨ (y 0).val / 128 = 15 ∨ (y 0).val / 128 = 14 ∨ (y 0).val / 128 = 13 ∨ (y 0).val / 128 = 12 ∨ (y 0).val / 128 = 11 ∨ (y 0).val / 128 = 10 ∨ (y 0).val / 128 = 9 ∨ (y 0).val / 128 = 8 ∨ (y 0).val / 128 = 7 ∨ (y 0).val / 128 = 6 ∨ (y 0).val / 128 = 5 ∨ (y 0).val / 128 = 4 ∨ (y 0).val / 128 = 3 ∨ (y 0).val / 128 = 2 ∨ (y 0).val / 128 = 1 ∨ (y 0).val / 128 = 0 := by omega
  · exact ⟨_, .head _, mem_chunk y 19 inb_S2560x128_S128x128_2432_0 hb⟩
  · exact ⟨_, .tail _ (.head _), mem_chunk y 18 inb_S2560x128_S128x128_2304_0 hb⟩
  · exact ⟨_, .tail _ (.tail _ (.head _)), mem_chunk y 17 inb_S2560x128_S128x128_2176_0 hb⟩
  · exact ⟨_, .tail _ (.tail _ (.tail _ (.head _))), mem_chunk y 16 inb_S2560x128_S128x128_2048_0 hb⟩
  · exact ⟨_, .tail _ (.tail _ (.tail _ (.tail _ (.head _)))), mem_chunk y 15 inb_S2560x128_S128x128_1920_0 hb⟩
  · exact ⟨_, .tail _ (.tail _ (.tail _ (.tail _ (.tail _ (.head _))))), mem_chunk y 14 inb_S2560x128_S128x128_1792_0 hb⟩
  · exact ⟨_, .tail _ (.tail _ (.tail _ (.tail _ (.tail _ (.tail _ (.head _)))))), mem_chunk y 13 inb_S2560x128_S128x128_1664_0 hb⟩
  · exact ⟨_, .tail _ (.tail _ (.tail _ (.tail _ (.tail _ (.tail _ (.tail _ (.head _))))))), mem_chunk y 12 inb_S2560x128_S128x128_1536_0 hb⟩
  · exact ⟨_, .tail _ (.tail _ (.tail _ (.tail _ (.tail _ (.tail _ (.tail _ (.tail _ (.head _)))))))), mem_chunk y 11 inb_S2560x128_S128x128_1408_0 hb⟩
  · exact ⟨_, .tail _ (.tail _ (.tail _ (.tail _ (.tail _ (.tail _ (.tail _ (.tail _ (.tail _ (.head _))))))))), mem_chunk y 10 inb_S2560x128_S128x128_1280_0 hb⟩
  · exact ⟨_, .tail _ (.tail _ (.tail _ (.tail _ (.tail _ (.tail _ (.tail _ (.tail _ (.tail _ (.tail _ (.head _)))))))))), mem_chunk y 9 inb_S2560x128_S128x128_1152_0 hb⟩
  · exact ⟨_, .tail _ (.tail _ (.tail _ (.tail _ (.tail _ (.tail _ (.tail _ (.tail _ (.tail _ (.tail _ (.tail _ (.head _))))))))))), mem_chunk y 8 inb_S2560x128_S128x128_1024_0 hb⟩
  · exact ⟨_, .tail _ (.tail _ (.tail _ (.tail _ (.tail _ (.tail _ (.tail _ (.tail _ (.tail _ (.tail _ (.tail _ (.tail _ (.head _)))))))))))), mem_chunk y 7 inb_S2560x128_S128x128_896_0 hb⟩
  · exact ⟨_, .tail _ (.tail _ (.tail _ (.tail _ (.tail _ (.tail _ (.tail _ (.tail _ (.tail _ (.tail _ (.tail _ (.tail _ (.tail _ (.head _))))))))))))), mem_chunk y 6 inb_S2560x128_S128x128_768_0 hb⟩
  · exact ⟨_, .tail _ (.tail _ (.tail _ (.tail _ (.tail _ (.tail _ (.tail _ (.tail _ (.tail _ (.tail _ (.tail _ (.tail _ (.tail _ (.tail _ (.head _)))))))))))))), mem_chunk y 5 inb_S2560x128_S128x128_640_0 hb⟩
  · exact ⟨_, .tail _ (.tail _ (.tail _ (.tail _ (.tail _ (.tail _ (.tail _ (.tail _ (.tail _ (.tail _ (.tail _ (.tail _ (.tail _ (.tail _ (.tail _ (.head _))))))))))))))), mem_chunk y 4 inb_S2560x128_S128x128_512_0 hb⟩
  · exact ⟨_, .tail _ (.tail _ (.tail _ (.tail _ (.tail _ (.tail _ (.tail _ (.tail _ (.tail _ (.tail _ (.tail _ (.tail _ (.tail _ (.tail _ (.tail _ (.tail _ (.head _)))))))))))))))), mem_chunk y 3 inb_S2560x128_S128x128_384_0 hb⟩
  · exact ⟨_, .tail _ (.tail _ (.tail _ (.tail _ (.tail _ (.tail _ (.tail _ (.tail _ (.tail _ (.tail _ (.tail _ (.tail _ (.tail _ (.tail _ (.tail _ (.tail _ (.tail _ (.head _))))))))))))))))), mem_chunk y 2 inb_S2560x128_S128x128_256_0 hb⟩
  · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), mem_chunk y 1 inb_S2560x128_S128x128_128_0 hb⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), mem_chunk y 0 inb_S2560x128_S128x128_0_0 hb⟩

/-- After the stores the buffer reads as the replicated scales. -/
theorem repList_read {κ : Kind} {sp : Space} (v : View sig κ sp S2560x128 .f32) (f : v.ty.Contents (Elt F)) (a : Vec F S8x2560 .f32) (w : Vec F S1x2560 .f32) :
    v.read (Elt F) (v.writes (Elt F) f (repList a w)) = repl (k0_pay12 a w) :=
  funext fun y => View.read_writes_apply_of_pieces v f _ _ (repList_agree a w) y (repList_cover a w y)

/-- The first column of a square block, laid along a row. -/
def colChunk (b : FVec F S128x128 .f32) : FVec F S1x128 .f32 :=
  extractStridedSlice S1x128 ![0, 0] (transpose S128x128 [1, 0] (shapeCast S128x128 b))

/-- Entry `j` of such a row is row `j`'s first value. -/
theorem colChunk_at (b : FVec F S128x128 .f32) (i : Fin 1) (j : Fin 128) : colChunk b (ix2 i j) = b (ix2 j 0) := by
  unfold colChunk
  pointwise

/-- The stores of the rows' scales, newest first. -/
abbrev colList {κ : Kind} {sp : Space} (v : View sig κ sp S1536x128 .f32) (L : List (View.Piece (Elt F) S1536x128 .f32)) : List (View.Piece (Elt F) S12x128 .f32) :=
  [⟨Rect.unit (s := S12x128) ![11, 0] S1x128.size inb_S12x128_S1x128_11_0, k0_pay2 (v.readCov L (Rect.unit (s := S1536x128) ![1408, 0] S128x128.size inb_S1536x128_S128x128_1408_0).toLoadRect)⟩,
    ⟨Rect.unit (s := S12x128) ![10, 0] S1x128.size inb_S12x128_S1x128_10_0, k0_pay1 (v.readCov L (Rect.unit (s := S1536x128) ![1280, 0] S128x128.size inb_S1536x128_S128x128_1280_0).toLoadRect)⟩,
    ⟨Rect.unit (s := S12x128) ![9, 0] S1x128.size inb_S12x128_S1x128_9_0, k0_pay43 (v.readCov L (Rect.unit (s := S1536x128) ![1152, 0] S128x128.size inb_S1536x128_S128x128_1152_0).toLoadRect)⟩,
    ⟨Rect.unit (s := S12x128) ![8, 0] S1x128.size inb_S12x128_S1x128_8_0, k0_pay42 (v.readCov L (Rect.unit (s := S1536x128) ![1024, 0] S128x128.size inb_S1536x128_S128x128_1024_0).toLoadRect)⟩,
    ⟨Rect.unit (s := S12x128) ![7, 0] S1x128.size inb_S12x128_S1x128_7_0, k0_pay41 (v.readCov L (Rect.unit (s := S1536x128) ![896, 0] S128x128.size inb_S1536x128_S128x128_896_0).toLoadRect)⟩,
    ⟨Rect.unit (s := S12x128) ![6, 0] S1x128.size inb_S12x128_S1x128_6_0, k0_pay40 (v.readCov L (Rect.unit (s := S1536x128) ![768, 0] S128x128.size inb_S1536x128_S128x128_768_0).toLoadRect)⟩,
    ⟨Rect.unit (s := S12x128) ![5, 0] S1x128.size inb_S12x128_S1x128_5_0, k0_pay39 (v.readCov L (Rect.unit (s := S1536x128) ![640, 0] S128x128.size inb_S1536x128_S128x128_640_0).toLoadRect)⟩,
    ⟨Rect.unit (s := S12x128) ![4, 0] S1x128.size inb_S12x128_S1x128_4_0, k0_pay38 (v.readCov L (Rect.unit (s := S1536x128) ![512, 0] S128x128.size inb_S1536x128_S128x128_512_0).toLoadRect)⟩,
    ⟨Rect.unit (s := S12x128) ![3, 0] S1x128.size inb_S12x128_S1x128_3_0, k0_pay37 (v.readCov L (Rect.unit (s := S1536x128) ![384, 0] S128x128.size inb_S1536x128_S128x128_384_0).toLoadRect)⟩,
    ⟨Rect.unit (s := S12x128) ![2, 0] S1x128.size inb_S12x128_S1x128_2_0, k0_pay36 (v.readCov L (Rect.unit (s := S1536x128) ![256, 0] S128x128.size inb_S1536x128_S128x128_256_0).toLoadRect)⟩,
    ⟨Rect.unit (s := S12x128) ![1, 0] S1x128.size inb_S12x128_S1x128_1_0, k0_pay35 (v.readCov L (Rect.unit (s := S1536x128) ![128, 0] S128x128.size inb_S1536x128_S128x128_128_0).toLoadRect)⟩,
    ⟨Rect.unit (s := S12x128) ![0, 0] S1x128.size inb_S12x128_S1x128_0_0, k0_pay34 (v.readCov L (Rect.unit (s := S1536x128) ![0, 0] S128x128.size inb_S1536x128_S128x128_0_0).toLoadRect)⟩]

/-- Row `b` of the folded scales is the first column of block `b`. -/
theorem colPiece_at {κ : Kind} {sp : Space} (v : View sig κ sp S1536x128 .f32) (f : v.ty.Contents (Elt F)) (b : ℕ) (inb inb') (x : S1x128.Idx) :
    colChunk (v.readAt (Elt F) (Rect.unit (s := S1536x128) ![128 * b, 0] S128x128.size inb).toLoadRect f) x
      = fold12 (v.read (Elt F) f) ((Rect.unit (s := S12x128) ![b, 0] S1x128.size inb').emb x) := by
  obtain ⟨i, j, rfl⟩ : ∃ (i : Fin 1) (j : Fin 128), x = ix2 i j := ⟨x 0, x 1, by funext i; match i with | ⟨0, _⟩ => rfl | ⟨1, _⟩ => rfl⟩
  have hi : i.val = 0 := by omega
  rw [colChunk_at]
  unfold fold12
  refine congrArg (v.read (Elt F) f) ?_
  funext a
  match a with
  | ⟨0, _⟩ => exact Fin.ext (by show 128 * b + 1 * j.val = 128 * (b + 1 * i.val) + (0 + 1 * j.val); omega)
  | ⟨1, _⟩ => exact Fin.ext (by show 0 + 1 * 0 = 0; rfl)

theorem mem_row12 (y : S12x128.Idx) (b : ℕ) (inb : ∀ a, (![b, 0] : Fin 2 → ℕ) a + S1x128.size a ≤ S12x128.size a) (hb : (y 0).val = b) :
    y ∈ (Rect.unit (s := S12x128) ![b, 0] S1x128.size inb).set := by
  refine (LoadRect.mem_set _).mpr (Fin.forall_fin_two.mpr ⟨⟨0, Nat.one_pos, ?_⟩, ⟨(y 1).val, (y 1).isLt, ?_⟩⟩)
  · show (y 0).val = b + 1 * 0; omega
  · show (y 1).val = 0 + 1 * (y 1).val; omega

/-- The stores agree with the folded scales, -/
theorem colList_agree {κ : Kind} {sp : Space} (v : View sig κ sp S1536x128 .f32) (L : List (View.Piece (Elt F) S1536x128 .f32)) :
    ∀ p ∈ colList v L, ∀ x : p.1.shape.Idx, p.2 x = fold12 (v.read (Elt F) (v.writes (Elt F) v.junk L)) (p.1.emb x) := by
  intro p hp
  simp only [colList, List.mem_cons, List.not_mem_nil, or_false] at hp
  rcases hp with rfl | rfl | rfl | rfl | rfl | rfl | rfl | rfl | rfl | rfl | rfl | rfl
  · exact colPiece_at v (v.writes (Elt F) v.junk L) 11 inb_S1536x128_S128x128_1408_0 inb_S12x128_S1x128_11_0
  · exact colPiece_at v (v.writes (Elt F) v.junk L) 10 inb_S1536x128_S128x128_1280_0 inb_S12x128_S1x128_10_0
  · exact colPiece_at v (v.writes (Elt F) v.junk L) 9 inb_S1536x128_S128x128_1152_0 inb_S12x128_S1x128_9_0
  · exact colPiece_at v (v.writes (Elt F) v.junk L) 8 inb_S1536x128_S128x128_1024_0 inb_S12x128_S1x128_8_0
  · exact colPiece_at v (v.writes (Elt F) v.junk L) 7 inb_S1536x128_S128x128_896_0 inb_S12x128_S1x128_7_0
  · exact colPiece_at v (v.writes (Elt F) v.junk L) 6 inb_S1536x128_S128x128_768_0 inb_S12x128_S1x128_6_0
  · exact colPiece_at v (v.writes (Elt F) v.junk L) 5 inb_S1536x128_S128x128_640_0 inb_S12x128_S1x128_5_0
  · exact colPiece_at v (v.writes (Elt F) v.junk L) 4 inb_S1536x128_S128x128_512_0 inb_S12x128_S1x128_4_0
  · exact colPiece_at v (v.writes (Elt F) v.junk L) 3 inb_S1536x128_S128x128_384_0 inb_S12x128_S1x128_3_0
  · exact colPiece_at v (v.writes (Elt F) v.junk L) 2 inb_S1536x128_S128x128_256_0 inb_S12x128_S1x128_2_0
  · exact colPiece_at v (v.writes (Elt F) v.junk L) 1 inb_S1536x128_S128x128_128_0 inb_S12x128_S1x128_1_0
  · exact colPiece_at v (v.writes (Elt F) v.junk L) 0 inb_S1536x128_S128x128_0_0 inb_S12x128_S1x128_0_0

/-- and cover the buffer. -/
theorem colList_cover {κ : Kind} {sp : Space} (v : View sig κ sp S1536x128 .f32) (L : List (View.Piece (Elt F) S1536x128 .f32)) (y : S12x128.Idx) : ∃ p ∈ colList v L, y ∈ p.1.set := by
  have h0 : (y 0).val < 12 := (y 0).isLt
  obtain hb | hb | hb | hb | hb | hb | hb | hb | hb | hb | hb | hb : (y 0).val = 11 ∨ (y 0).val = 10 ∨ (y 0).val = 9 ∨ (y 0).val = 8 ∨ (y 0).val = 7 ∨ (y 0).val = 6 ∨ (y 0).val = 5 ∨ (y 0).val = 4 ∨ (y 0).val = 3 ∨ (y 0).val = 2 ∨ (y 0).val = 1 ∨ (y 0).val = 0 := by omega
  · exact ⟨_, .head _, mem_row12 y 11 inb_S12x128_S1x128_11_0 hb⟩
  · exact ⟨_, .tail _ (.head _), mem_row12 y 10 inb_S12x128_S1x128_10_0 hb⟩
  · exact ⟨_, .tail _ (.tail _ (.head _)), mem_row12 y 9 inb_S12x128_S1x128_9_0 hb⟩
  · exact ⟨_, .tail _ (.tail _ (.tail _ (.head _))), mem_row12 y 8 inb_S12x128_S1x128_8_0 hb⟩
  · exact ⟨_, .tail _ (.tail _ (.tail _ (.tail _ (.head _)))), mem_row12 y 7 inb_S12x128_S1x128_7_0 hb⟩
  · exact ⟨_, .tail _ (.tail _ (.tail _ (.tail _ (.tail _ (.head _))))), mem_row12 y 6 inb_S12x128_S1x128_6_0 hb⟩
  · exact ⟨_, .tail _ (.tail _ (.tail _ (.tail _ (.tail _ (.tail _ (.head _)))))), mem_row12 y 5 inb_S12x128_S1x128_5_0 hb⟩
  · exact ⟨_, .tail _ (.tail _ (.tail _ (.tail _ (.tail _ (.tail _ (.tail _ (.head _))))))), mem_row12 y 4 inb_S12x128_S1x128_4_0 hb⟩
  · exact ⟨_, .tail _ (.tail _ (.tail _ (.tail _ (.tail _ (.tail _ (.tail _ (.tail _ (.head _)))))))), mem_row12 y 3 inb_S12x128_S1x128_3_0 hb⟩
  · exact ⟨_, .tail _ (.tail _ (.tail _ (.tail _ (.tail _ (.tail _ (.tail _ (.tail _ (.tail _ (.head _))))))))), mem_row12 y 2 inb_S12x128_S1x128_2_0 hb⟩
  · exact ⟨_, .tail _ (.tail _ (.tail _ (.tail _ (.tail _ (.tail _ (.tail _ (.tail _ (.tail _ (.tail _ (.head _)))))))))), mem_row12 y 1 inb_S12x128_S1x128_1_0 hb⟩
  · exact ⟨_, .tail _ (.tail _ (.tail _ (.tail _ (.tail _ (.tail _ (.tail _ (.tail _ (.tail _ (.tail _ (.tail _ (.head _))))))))))), mem_row12 y 0 inb_S12x128_S1x128_0_0 hb⟩

/-- After the stores the buffer reads as the folded scales. -/
theorem colList_read {κ κ' : Kind} {sp sp' : Space} (v : View sig κ sp S12x128 .f32) (f : v.ty.Contents (Elt F)) (u : View sig κ' sp' S1536x128 .f32) (L : List (View.Piece (Elt F) S1536x128 .f32)) :
    v.read (Elt F) (v.writes (Elt F) f (colList u L)) = fold12 (u.read (Elt F) (u.writes (Elt F) u.junk L)) :=
  funext fun y => View.read_writes_apply_of_pieces v f _ _ (colList_agree u L) y (colList_cover u L y)

end Cert.KernelIdeal.Hand

end
-- ==== Proof.ARun.lean ====
/-
  The activation quantiser's kernel function run from any contents of its outputs and scratches: it leaves in its outputs
  the smoothing scales, their replicated copy, the activations' codes and the rows' scales.
-/
module

public import proofs.«01_k».proof.Proof.ASpec
public import proofs.«01_k».proof.Proof.Gen.KernelIdeal.Launch
public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 8192
set_option maxHeartbeats 4000000

noncomputable section

namespace Cert.KernelIdeal.Hand

open Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The codes depend on their four operands only; -/
theorem codesOf_congr {x x' : Vec F S1536x2560 .bf16} {r r' : Vec F S1536x128 .f32} {g g' s s' : Vec F S1x2560 .f32}
    (hx : x = x') (hr : r = r') (hg : g = g') (hs : s = s') : codesOf x r g s = codesOf x' r' g' s' := by subst hx hr hg hs; rfl
/-- so do the scales. -/
theorem scalesOf_congr {x x' : Vec F S1536x2560 .bf16} {r r' : Vec F S1536x128 .f32} {g g' s s' : Vec F S1x2560 .f32}
    (hx : x = x') (hr : r = r') (hg : g = g') (hs : s = s') : scalesOf x r g s = scalesOf x' r' g' s' := by subst hx hr hg hs; rfl

/-- The store of zeros, then the first loop's stores: loaded whole, the array is the column maxima. -/
theorem maxOf {κ : Kind} {sp : Space} (v : View sig κ sp S8x2560 .f32) (x : Vec F S1536x2560 .bf16) (g : Vec F S1x2560 .f32) :
    v.readCov (pcs k0_t1_loop.trips (axPiece x g (v.read (Elt F) (v.writes (Elt F) v.junk [⟨Rect.unit (s := S8x2560) ![0, 0] S8x2560.size inb_S8x2560_S8x2560_0_0, k0_pay7 (F := F)⟩])))
        (Scf.trips k0_t1_loop.lb k0_t1_loop.ub k0_t1_loop.st) ++ [⟨Rect.unit (s := S8x2560) ![0, 0] S8x2560.size inb_S8x2560_S8x2560_0_0, k0_pay7 (F := F)⟩])
      (Rect.unit (s := S8x2560) ![0, 0] S8x2560.size inb_S8x2560_S8x2560_0_0).toLoadRect = actMax x g := by
  refine (View.readAt_full v _ _).trans ?_
  rw [View.writes_append]
  refine (axRead v _ x g k0_t1_loop.trips le_rfl).trans ?_
  rw [View.read_writes_full v v.junk]
  exact actMax_eq x g

set_option maxRecDepth 16384 in
/-- The function leaves the five results and its inputs as they were. -/
theorem aqRun (c : Dev nD) (arg0 : Memref sig .tc .vmem S1536x2560 .bf16) (harg0 : arg0.IsWhole) (arg1 : Memref sig .tc .vmem S1x2560 .f32) (harg1 : arg1.IsWhole)
    (arg2 : Memref sig .tc .vmem S1x2560 .f32) (harg2 : arg2.IsWhole) (arg3 : Memref sig .tc .vmem S1x2560 .f32) (harg3 : arg3.IsWhole)
    (arg4 : Memref sig .tc .vmem S2560x128 .f32) (harg4 : arg4.IsWhole) (arg5 : Memref sig .tc .vmem S1536x2560 .i8) (harg5 : arg5.IsWhole)
    (arg6 : Memref sig .tc .vmem S1536x128 .f32) (harg6 : arg6.IsWhole) (arg7 : Memref sig .tc .vmem S12x128 .f32) (harg7 : arg7.IsWhole)
    (arg8 : Memref sig .tc .vmem S1536x128 .f32) (harg8 : arg8.IsWhole) (arg9 : Memref sig .tc .vmem S8x2560 .f32) (harg9 : arg9.IsWhole)
    (x0 : Vec F S1536x2560 .bf16) (x1 x2 : Vec F S1x2560 .f32) (E : Set ℕ) (K : PUnit → sProp 𝕄G) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare (actS x0 x1 x2) ∗ owns (c : Thread nD τ) arg4 fullShare (repl (actS x0 x1 x2)) ∗ owns (c : Thread nD τ) arg5 fullShare (actCode x0 x1 x2) ∗ owns (c : Thread nD τ) arg6 fullShare (actXs x0 x1 x2) ∗ owns (c : Thread nD τ) arg7 fullShare (fold12 (actXs x0 x1 x2)) ∗ (∃ d, owns (c : Thread nD τ) arg8 fullShare d) ∗ (∃ d, owns (c : Thread nD τ) arg9 fullShare d)) -∗ K ⟨⟩))
      ⊢ wp frame (wpE (defs₀ (F := F)) Variants.none c none) E (cc0_act_quant arg0 harg0 arg1 harg1 arg2 harg2 arg3 harg3 arg4 harg4 arg5 harg5 arg6 harg6 arg7 harg7 arg8 harg8 arg9 harg9) K := by
    simp only [cc0_act_quant_eq_skeleton]; unfold cc0_act_quant_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    have hS := congrArg₂ (k0_pay12 (F := F)) ((maxOf arg9.view (arg0.view.read (Elt F) (harg0.unread x0)) (arg1.view.read (Elt F) (harg1.unread x1))).trans
      (congrArg₂ actMax (harg0.read_unread x0) (harg1.read_unread x1))) ((View.readAt_full arg2.view (harg2.unread x2) inb_S1x2560_S1x2560_0_0).trans (harg2.read_unread x2))
    have hR := (actR_read arg8.view arg8.view.junk (arg0.view.read (Elt F) (harg0.unread x0))).trans (congrArg actR (harg0.read_unread x0))
    isplitl [H3]
    · iexists _; isplitr; swap; · iexact H3
      ipureintro
      exact (View.read_writes_full arg3.view _ _ _ []).trans hS
    isplitl [H4]
    · iexists _; isplitr; swap; · iexact H4
      ipureintro
      exact (repList_read arg4.view _ _ _).trans (congrArg repl hS)
    isplitl [H5]
    · iexists _; isplitr; swap; · iexact H5
      ipureintro
      exact (codes_read arg5.view f5 _ _ _ _).trans (codesOf_congr (harg0.read_unread x0) hR (harg1.read_unread x1) ((View.read_writes_full arg3.view _ _ _ []).trans hS))
    isplitl [H6]
    · iexists _; isplitr; swap; · iexact H6
      ipureintro
      exact (scales_read arg6.view f6 _ _ _ _)
        |>.trans (scalesOf_congr (harg0.read_unread x0) hR (harg1.read_unread x1) ((View.read_writes_full arg3.view _ _ _ []).trans hS))
    isplitl [H7]
    · iexists _; isplitr; swap; · iexact H7
      ipureintro
      exact (colList_read arg7.view f7 arg6.view _).trans (congrArg fold12 ((scales_read arg6.view _ _ _ _ _).trans
        (scalesOf_congr (harg0.read_unread x0) hR (harg1.read_unread x1) ((View.read_writes_full arg3.view _ _ _ []).trans hS))))
    isplitl [H8]
    · iexists _, _; isplitr; swap; · iexact H8
      ipureintro; rfl
    iexists _, _; isplitr; swap; · iexact H9
    ipureintro; rfl

end Cert.KernelIdeal.Hand

end
-- ==== Proof.Reg0.lean ====
/-
  The activations' quantiser as a region of @main: its proof data over the contents the region is entered with, and the
  obligation that the body at its one grid point leaves what the proof data say.
-/
module

public import proofs.«01_k».proof.Proof.ARun
public import proofs.«01_k».proof.Proof.Gen.KernelIdeal.Launch
public import proofs.«01_k».proof.Proof.Gen.KernelIdeal.Points
public import Idealize.ShloMosaic.Lib.WordCmp
public import Idealize.ShloMosaic.Lib.Pipeline.Kit
public import Idealize.ShloMosaic.Lib.Pipeline.FrameBody
public import Idealize.ShloMosaic.Lib.Pipeline.Frame
public import Idealize.ShloMosaic.Lib.Pipeline.Regions
public import Idealize.ShloMosaic.Lib.Pipeline.RegionArraysS

@[expose] public section

set_option maxRecDepth 8192
set_option maxHeartbeats 4000000

noncomputable section

namespace Cert.KernelIdeal.Hand

open Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Rounds
open Idealize.ShloMosaic.Pipeline (Dat Cfg Window BodyObligation)

variable (V : Dev nD → Valuation τ sig (Elt F))

/-- Input window `w`'s block at point `t`, read off its array at the valuation `V` the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The region's proof data on core `c`: the arrays at `V`; the inputs' buffers keep their blocks, the outputs' hold the
    quantiser's results; the invariant is the rest of the scoped memory and the generator register. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => iblk0 V c 2 t
    | ⟨3, _⟩ => actS (iblk0 V c 0 t) (iblk0 V c 1 t) (iblk0 V c 2 t)
    | ⟨4, _⟩ => repl (actS (iblk0 V c 0 t) (iblk0 V c 1 t) (iblk0 V c 2 t))
    | ⟨5, _⟩ => actCode (iblk0 V c 0 t) (iblk0 V c 1 t) (iblk0 V c 2 t)
    | ⟨6, _⟩ => actXs (iblk0 V c 0 t) (iblk0 V c 1 t) (iblk0 V c 2 t)
    | ⟨7, _⟩ => fold12 (actXs (iblk0 V c 0 t) (iblk0 V c 1 t) (iblk0 V c 2 t))
  Φ _ := Pipeline.ΦA spec0 c
  q _ := fullShare
  owed _ := 0

/-- The proof data's arrays are `V`'s. -/
theorem A0_eq (c : Dev nD) (w : Fin cfg0.W) : (dat0 V c).A w = V c (Proc.devRef .tc (Pipeline.arrRef spec0 w)) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = actS (iblk0 V c 0 t) (iblk0 V c 1 t) (iblk0 V c 2 t) := by dsimp only [dat0]
theorem after0_4 (c : Dev nD) (t : Fin cfg0.N) : (dat0 V c).after 4 t = repl (actS (iblk0 V c 0 t) (iblk0 V c 1 t) (iblk0 V c 2 t)) := by dsimp only [dat0]
theorem after0_5 (c : Dev nD) (t : Fin cfg0.N) : (dat0 V c).after 5 t = actCode (iblk0 V c 0 t) (iblk0 V c 1 t) (iblk0 V c 2 t) := by dsimp only [dat0]
theorem after0_6 (c : Dev nD) (t : Fin cfg0.N) : (dat0 V c).after 6 t = actXs (iblk0 V c 0 t) (iblk0 V c 1 t) (iblk0 V c 2 t) := by dsimp only [dat0]
theorem after0_7 (c : Dev nD) (t : Fin cfg0.N) : (dat0 V c).after 7 t = fold12 (actXs (iblk0 V c 0 t) (iblk0 V c 1 t) (iblk0 V c 2 t)) := by dsimp only [dat0]

/-- Input 0's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
/-- Input 1's buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
/-- Input 2's buffer holds its block at every point. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)

/-- The scratch buffers, whole. -/
abbrev scM0_0 : Memref sig .tc .vmem S1536x128 .f32 := Memref.whole cc0_scratch0
abbrev scM0_1 : Memref sig .tc .vmem S8x2560 .f32 := Memref.whole cc0_scratch1

/-- What the invariant holds beside the two scratch buffers. -/
def rest0 (c : Dev nD) : sProp 𝕄G := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The invariant with the scratch buffers as memrefs owned at some contents. -/
theorem PhiA0_eq (c : Dev nD) : (Pipeline.ΦA spec0 c : sProp 𝕄G)
    = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

/-- What the body is called with at point `t`, -/
def bodyPre0 (c : Dev nD) (t : Fin cfg0.N) : sProp 𝕄G :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄G :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at the one point takes the first to the second. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = Pipeline.ΦA spec0 c from rfl, PhiA0_eq]
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (aqRun c _ _ _ _ _ _ _ _ _ _ _ _ _ _ _ _ _ _ _ _ (iblk0 V c 0 t) (iblk0 V c 1 t) (iblk0 V c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 HR Hg]
  · isplitl [HS0 HS1 HR]
    · isplitl [HS0]; · iexact HS0
      isplitl [HS1]; · iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The region's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.QLoops.lean ====
/-
  The counted loops of the matrix product's kernel function, each by its invariant: a loop that carries a running
  maximum by the value its trips carry, a loop that stores codes by the list of the pieces its trips write. The
  function treats its block of weights in four groups of 128 columns, one loop of each kind per group. What a trip
  does is proved once, for any offsets; the eight invariants are instances.
-/
module

public import proofs.«01_k».proof.Proof.Fold
public import proofs.«01_k».proof.Proof.Gen.KernelIdeal.Launch
public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 8192
set_option maxHeartbeats 4000000

noncomputable section

namespace Cert.KernelIdeal.Hand

open Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ) (i : grid1.Coords)
  (arg1 : Memref sig .tc .vmem S2560x512 .bf16) (harg1 : arg1.IsWhole) (arg2 : Memref sig .tc .vmem S2560x128 .f32) (harg2 : arg2.IsWhole)
  (arg3 : Memref sig .tc .vmem S1536x2560 .i8) (harg3 : arg3.IsWhole) (arg4 : Memref sig .tc .vmem S1536x128 .f32) (harg4 : arg4.IsWhole)
  (arg5 : Memref sig .tc .vmem S1536x512 .bf16) (harg5 : arg5.IsWhole) (arg6 : Memref sig .tc .vmem S2560x512 .i8) (harg6 : arg6.IsWhole)
  (arg7 : Memref sig .tc .vmem S1x512 .f32) (harg7 : arg7.IsWhole) (arg8 : Memref sig .tc .vmem S1536x2560 .bf16) (harg8 : arg8.IsWhole)
  (arg9 : Memref sig .tc .vmem S2560x512 .bf16) (harg9 : arg9.IsWhole)

/-- The 32 × 128 window of the weights `w` at offsets `ow`. -/
abbrev wBlk (w : Vec F S2560x512 .bf16) (ow : Fin 2 → ℕ) (hw : ∀ a, ow a + S32x128.size a ≤ S2560x512.size a) : Vec F S32x128 .bf16 :=
  View.ld (Val := Elt F) (e' := .bf16) w (Rect.unit (s := S2560x512) ow S32x128.size hw)

/-- The 32 rows of the replicated input scales `s` at offsets `os`. -/
abbrev sBlk (s : Vec F S2560x128 .f32) (os : Fin 2 → ℕ) (hs : ∀ a, os a + S32x128.size a ≤ S2560x128.size a) : Vec F S32x128 .f32 :=
  View.ld (Val := Elt F) (e' := .f32) s (Rect.unit (s := S2560x128) os S32x128.size hs)

/-- What a trip of a maximum loop runs: load 32 rows of weights and of scales, fold them into the maximum. -/
def mxTrip (ow : Fin 2 → ℕ) (hw : ∀ a, ow a + S32x128.size a ≤ S2560x512.size a) (os : Fin 2 → ℕ) (hs : ∀ a, os a + S32x128.size a ≤ S2560x128.size a) (acc : FVec F S8x128 .f32) : Prog (TpuEff nD τ sig (Elt F) Λ₀ .tc) (FVec F S8x128 .f32) := do
  let w : Vec F S32x128 .bf16 ← Prog.lift (.load arg1 (Rect.unit (s := S2560x512) ow S32x128.size hw).toLoadRect (View.loadsAt_vmem h_S32x128))
  let s : Vec F S32x128 .f32 ← Prog.lift (.load arg2 (Rect.unit (s := S2560x128) os S32x128.size hs).toLoadRect (View.loadsAt_vmem h_S32x128))
  pure (k1_pay6 acc w s)

/-- One step of a group's running maximum. -/
def mxStep (w : Vec F S2560x512 .bf16) (s : Vec F S2560x128 .f32) (ow : Fin 2 → ℕ) (hw : ∀ a, ow a + S32x128.size a ≤ S2560x512.size a) (os : Fin 2 → ℕ) (hs : ∀ a, os a + S32x128.size a ≤ S2560x128.size a) (acc : FVec F S8x128 .f32) : FVec F S8x128 .f32 :=
  k1_pay6 acc (wBlk w ow hw) (sBlk s os hs)

/-- A trip of a maximum loop yields the running maximum one step on and leaves what it read as it was. -/
theorem mxTrip_sound (X1 : BufTy.Contents (Elt F) arg1.view.ty) (X2 : BufTy.Contents (Elt F) arg2.view.ty) (ow : Fin 2 → ℕ) (hw : ∀ a, ow a + S32x128.size a ≤ S2560x512.size a) (os : Fin 2 → ℕ) (hs : ∀ a, os a + S32x128.size a ≤ S2560x128.size a) (acc : FVec F S8x128 .f32) :
    iprop((arg1.view.loc (c : Thread nD τ) ↦[arg1.view.set]{fullShare} X1) ∗ (arg2.view.loc (c : Thread nD τ) ↦[arg2.view.set]{fullShare} X2))
      ⊢ wp frame (M := 𝕄G) (wpE (defs₀ (F := F)) 𝒱 (c : Thread nD τ) bd) E (mxTrip arg1 arg2 ow hw os hs acc)
          (fun r => iprop((arg1.view.loc (c : Thread nD τ) ↦[arg1.view.set]{fullShare} X1) ∗ (arg2.view.loc (c : Thread nD τ) ↦[arg2.view.set]{fullShare} X2)
            ∗ ⌜r = mxStep (arg1.view.read (Elt F) X1) (arg2.view.read (Elt F) X2) ow hw os hs acc⌝)) := by
  unfold mxTrip
  iintro ⟨H1, H2⟩
  sl_exec
  sl_step
  isplitl [H1]; · iexact H1
  isplitl [H2]; · iexact H2
  ipureintro
  rfl

/-- What a trip of a storing loop runs: load 32 rows of weights and of scales, store their codes `pc` and the same codes
    `pb` in the product's operand format. -/
def codeTrip (ow : Fin 2 → ℕ) (hw : ∀ a, ow a + S32x128.size a ≤ S2560x512.size a) (p8 : (Rect.unit (s := S2560x512) ow S32x128.size hw).PackedRows (EltTy.packing .i8))
    (p16 : (Rect.unit (s := S2560x512) ow S32x128.size hw).PackedRows (EltTy.packing .bf16)) (os : Fin 2 → ℕ) (hs : ∀ a, os a + S32x128.size a ≤ S2560x128.size a)
    (pc : Vec F S32x128 .bf16 → Vec F S32x128 .f32 → IVec S32x128 8) (pb : Vec F S32x128 .bf16 → Vec F S32x128 .f32 → FVec F S32x128 .bf16) :
    Prog (TpuEff nD τ sig (Elt F) Λ₀ .tc) Unit := do
  let w : Vec F S32x128 .bf16 ← Prog.lift (.load arg1 (Rect.unit (s := S2560x512) ow S32x128.size hw).toLoadRect (View.loadsAt_vmem h_S32x128))
  let s : Vec F S32x128 .f32 ← Prog.lift (.load arg2 (Rect.unit (s := S2560x128) os S32x128.size hs).toLoadRect (View.loadsAt_vmem h_S32x128))
  let _v : Vec F S32x128 .i8 ← Prog.lift (.load arg6 (Rect.unit (s := S2560x512) ow S32x128.size hw).toLoadRect (View.loadsAt_vmem h_S32x128))
  Prog.lift (.store arg6 (Rect.unit (s := S2560x512) ow S32x128.size hw) (pc w s) Finset.univ (View.stores_vmem h_S32x128 (harg6.storeExact_slice rfl _ p8) (fun _ => rfl)) (.inl rfl))
  let _v : Vec F S32x128 .bf16 ← Prog.lift (.load arg9 (Rect.unit (s := S2560x512) ow S32x128.size hw).toLoadRect (View.loadsAt_vmem h_S32x128))
  Prog.lift (.store arg9 (Rect.unit (s := S2560x512) ow S32x128.size hw) (pb w s) Finset.univ (View.stores_vmem h_S32x128 (harg9.storeExact_slice rfl _ p16) (fun _ => rfl)) (.inl rfl))
  pure ⟨⟩

/-- The codes a trip of a storing loop stores, with where it stores them. -/
def cPiece (pc : Vec F S32x128 .bf16 → Vec F S32x128 .f32 → IVec S32x128 8) (w : Vec F S2560x512 .bf16) (s : Vec F S2560x128 .f32)
    (ow : Fin 2 → ℕ) (hw : ∀ a, ow a + S32x128.size a ≤ S2560x512.size a) (os : Fin 2 → ℕ) (hs : ∀ a, os a + S32x128.size a ≤ S2560x128.size a) : View.Piece (Elt F) S2560x512 .i8 :=
  ⟨Rect.unit (s := S2560x512) ow S32x128.size hw, pc (wBlk w ow hw) (sBlk s os hs)⟩

/-- The same in the product's operand format. -/
def bPiece (pb : Vec F S32x128 .bf16 → Vec F S32x128 .f32 → FVec F S32x128 .bf16) (w : Vec F S2560x512 .bf16) (s : Vec F S2560x128 .f32)
    (ow : Fin 2 → ℕ) (hw : ∀ a, ow a + S32x128.size a ≤ S2560x512.size a) (os : Fin 2 → ℕ) (hs : ∀ a, os a + S32x128.size a ≤ S2560x128.size a) : View.Piece (Elt F) S2560x512 .bf16 :=
  ⟨Rect.unit (s := S2560x512) ow S32x128.size hw, pb (wBlk w ow hw) (sBlk s os hs)⟩

/-- A trip of a storing loop writes its two pieces and leaves what it read as it was. -/
theorem codeTrip_sound (X1 : BufTy.Contents (Elt F) arg1.view.ty) (X2 : BufTy.Contents (Elt F) arg2.view.ty)
    (f6 : BufTy.Contents (Elt F) arg6.view.ty) (f9 : BufTy.Contents (Elt F) arg9.view.ty)
    (ow : Fin 2 → ℕ) (hw : ∀ a, ow a + S32x128.size a ≤ S2560x512.size a) (p8 : (Rect.unit (s := S2560x512) ow S32x128.size hw).PackedRows (EltTy.packing .i8))
    (p16 : (Rect.unit (s := S2560x512) ow S32x128.size hw).PackedRows (EltTy.packing .bf16)) (os : Fin 2 → ℕ) (hs : ∀ a, os a + S32x128.size a ≤ S2560x128.size a)
    (pc : Vec F S32x128 .bf16 → Vec F S32x128 .f32 → IVec S32x128 8) (pb : Vec F S32x128 .bf16 → Vec F S32x128 .f32 → FVec F S32x128 .bf16) :
    iprop((arg1.view.loc (c : Thread nD τ) ↦[arg1.view.set]{fullShare} X1) ∗ (arg2.view.loc (c : Thread nD τ) ↦[arg2.view.set]{fullShare} X2)
        ∗ (arg6.view.loc (c : Thread nD τ) ↦[arg6.view.set]{fullShare} f6) ∗ (arg9.view.loc (c : Thread nD τ) ↦[arg9.view.set]{fullShare} f9))
      ⊢ wp frame (M := 𝕄G) (wpE (defs₀ (F := F)) 𝒱 (c : Thread nD τ) bd) E (codeTrip arg1 arg2 arg6 harg6 arg9 harg9 ow hw p8 p16 os hs pc pb)
          (fun _ => iprop((arg1.view.loc (c : Thread nD τ) ↦[arg1.view.set]{fullShare} X1) ∗ (arg2.view.loc (c : Thread nD τ) ↦[arg2.view.set]{fullShare} X2)
            ∗ (arg6.view.loc (c : Thread nD τ) ↦[arg6.view.set]{fullShare} arg6.view.writes (Elt F) f6 [cPiece pc (arg1.view.read (Elt F) X1) (arg2.view.read (Elt F) X2) ow hw os hs])
            ∗ (arg9.view.loc (c : Thread nD τ) ↦[arg9.view.set]{fullShare} arg9.view.writes (Elt F) f9 [bPiece pb (arg1.view.read (Elt F) X1) (arg2.view.read (Elt F) X2) ow hw os hs]))) := by
  unfold codeTrip
  iintro ⟨H1, H2, H6, H9⟩
  sl_exec
  sl_step
  isplitl [H1]; · iexact H1
  isplitl [H2]; · iexact H2
  isplitl [H6]; · iexact H6
  iexact H9

set_option warn.classDefReducibility false in
/-- Column group 0's maximum loop: before trip `k` the carried value is the running maximum over the trips before. -/
@[sl_loop] def maxLoop0 (X1 : BufTy.Contents (Elt F) arg1.view.ty) (X2 : BufTy.Contents (Elt F) arg2.view.ty) (init : FVec F S8x128 .f32) :
    LoopInv (M := 𝕄G) Idealize.ShloMosaic.frame (wpE defs₀ 𝒱 (c : Thread nD τ) bd) E
      k1_t1_loop.lb k1_t1_loop.ub k1_t1_loop.st k1_t1_ok init (k1_t1_body (F := F) i arg1 harg1 arg2 harg2 arg3 harg3 arg4 harg4 arg5 harg5 arg6 harg6 arg7 harg7 arg8 harg8 arg9 harg9 ) where
  inv k acc := iprop((arg1.view.loc (c : Thread nD τ) ↦[arg1.view.set]{fullShare} X1) ∗ (arg2.view.loc (c : Thread nD τ) ↦[arg2.view.set]{fullShare} X2)
    ∗ ⌜acc = carried k1_t1_loop.trips (fun k => mxStep (arg1.view.read (Elt F) X1) (arg2.view.read (Elt F) X2) (k1_off1 k) (k1_off1_inb k) (k1_off2 k) (k1_off2_inb k)) init k⌝)
  step k acc := by
    iintro ⟨H1, H2, %h⟩
    subst h
    have e := carried_succ _ (fun k => mxStep (arg1.view.read (Elt F) X1) (arg2.view.read (Elt F) X2) (k1_off1 k) (k1_off1_inb k) (k1_off2 k) (k1_off2_inb k)) init k
    rw [e]
    iapply (mxTrip_sound 𝒱 c bd E arg1 arg2 X1 X2 _ (k1_off1_inb k) _ (k1_off2_inb k) _)
    isplitl [H1]; · iexact H1
    iexact H2

set_option warn.classDefReducibility false in
/-- Column group 0's storing loop: before trip `k` the two destinations hold the pieces of the trips before. -/
@[sl_loop] def codeLoop0 (v5 : FVec F S8x128 .f32) (X1 : BufTy.Contents (Elt F) arg1.view.ty) (X2 : BufTy.Contents (Elt F) arg2.view.ty)
    (G6 : BufTy.Contents (Elt F) arg6.view.ty) (G9 : BufTy.Contents (Elt F) arg9.view.ty) :
    LoopInv (M := 𝕄G) Idealize.ShloMosaic.frame (wpE defs₀ 𝒱 (c : Thread nD τ) bd) E
      k1_t2_loop.lb k1_t2_loop.ub k1_t2_loop.st k1_t2_ok () (k1_t2_body (F := F) i arg1 harg1 arg2 harg2 arg3 harg3 arg4 harg4 arg5 harg5 arg6 harg6 arg7 harg7 arg8 harg8 arg9 harg9 v5) where
  inv k _ := iprop((arg1.view.loc (c : Thread nD τ) ↦[arg1.view.set]{fullShare} X1) ∗ (arg2.view.loc (c : Thread nD τ) ↦[arg2.view.set]{fullShare} X2)
    ∗ (∃ f, (arg6.view.loc (c : Thread nD τ) ↦[arg6.view.set]{fullShare} f) ∗ ⌜f = arg6.view.writes (Elt F) G6 (pcs k1_t2_loop.trips
        (fun k => cPiece (k1_pay8 v5) (arg1.view.read (Elt F) X1) (arg2.view.read (Elt F) X2) (k1_off3 k) (k1_off3_inb k) (k1_off4 k) (k1_off4_inb k)) k)⌝)
    ∗ (∃ f, (arg9.view.loc (c : Thread nD τ) ↦[arg9.view.set]{fullShare} f) ∗ ⌜f = arg9.view.writes (Elt F) G9 (pcs k1_t2_loop.trips
        (fun k => bPiece (k1_pay9 v5) (arg1.view.read (Elt F) X1) (arg2.view.read (Elt F) X2) (k1_off3 k) (k1_off3_inb k) (k1_off4 k) (k1_off4_inb k)) k)⌝))
  step k acc := by
    iintro ⟨H1, H2, ⟨%f6, H6, %h6⟩, ⟨%f9, H9, %h9⟩⟩
    subst h6 h9
    rw [pcs_succ _ (fun k => cPiece (k1_pay8 v5) (arg1.view.read (Elt F) X1) (arg2.view.read (Elt F) X2) (k1_off3 k) (k1_off3_inb k) (k1_off4 k) (k1_off4_inb k)) k, pcs_succ _ (fun k => bPiece (k1_pay9 v5) (arg1.view.read (Elt F) X1) (arg2.view.read (Elt F) X2) (k1_off3 k) (k1_off3_inb k) (k1_off4 k) (k1_off4_inb k)) k]
    iapply (wp_wand_r Idealize.ShloMosaic.frame (wpE (defs₀ (F := F)) 𝒱 (c : Thread nD τ) bd) E)
    isplitl [H1 H2 H6 H9]
    · iapply (codeTrip_sound 𝒱 c bd E arg1 arg2 arg6 harg6 arg9 harg9 X1 X2 _ _ _ (k1_off3_inb k) (k1_off3_packedi8 k) (k1_off3_packedbf16 k) _ (k1_off4_inb k) (k1_pay8 v5) (k1_pay9 v5))
      isplitl [H1]; · iexact H1
      isplitl [H2]; · iexact H2
      isplitl [H6]; · iexact H6
      iexact H9
    iintro %_ ⟨H1, H2, H6, H9⟩
    isplitl [H1]; · iexact H1
    isplitl [H2]; · iexact H2
    isplitl [H6]
    · iexists _; isplitl [H6]; · iexact H6
      ipureintro; exact (View.writes_append _ _ [_] _).symm
    iexists _; isplitl [H9]; · iexact H9
    ipureintro; exact (View.writes_append _ _ [_] _).symm

set_option warn.classDefReducibility false in
/-- Column group 1's maximum loop: before trip `k` the carried value is the running maximum over the trips before. -/
@[sl_loop] def maxLoop1 (X1 : BufTy.Contents (Elt F) arg1.view.ty) (X2 : BufTy.Contents (Elt F) arg2.view.ty) (init : FVec F S8x128 .f32) :
    LoopInv (M := 𝕄G) Idealize.ShloMosaic.frame (wpE defs₀ 𝒱 (c : Thread nD τ) bd) E
      k1_t3_loop.lb k1_t3_loop.ub k1_t3_loop.st k1_t3_ok init (k1_t3_body (F := F) i arg1 harg1 arg2 harg2 arg3 harg3 arg4 harg4 arg5 harg5 arg6 harg6 arg7 harg7 arg8 harg8 arg9 harg9 ) where
  inv k acc := iprop((arg1.view.loc (c : Thread nD τ) ↦[arg1.view.set]{fullShare} X1) ∗ (arg2.view.loc (c : Thread nD τ) ↦[arg2.view.set]{fullShare} X2)
    ∗ ⌜acc = carried k1_t3_loop.trips (fun k => mxStep (arg1.view.read (Elt F) X1) (arg2.view.read (Elt F) X2) (k1_off5 k) (k1_off5_inb k) (k1_off6 k) (k1_off6_inb k)) init k⌝)
  step k acc := by
    iintro ⟨H1, H2, %h⟩
    subst h
    have e := carried_succ _ (fun k => mxStep (arg1.view.read (Elt F) X1) (arg2.view.read (Elt F) X2) (k1_off5 k) (k1_off5_inb k) (k1_off6 k) (k1_off6_inb k)) init k
    rw [e]
    iapply (mxTrip_sound 𝒱 c bd E arg1 arg2 X1 X2 _ (k1_off5_inb k) _ (k1_off6_inb k) _)
    isplitl [H1]; · iexact H1
    iexact H2

set_option warn.classDefReducibility false in
/-- Column group 1's storing loop: before trip `k` the two destinations hold the pieces of the trips before. -/
@[sl_loop] def codeLoop1 (v26 : FVec F S1x128 .f32) (X1 : BufTy.Contents (Elt F) arg1.view.ty) (X2 : BufTy.Contents (Elt F) arg2.view.ty)
    (G6 : BufTy.Contents (Elt F) arg6.view.ty) (G9 : BufTy.Contents (Elt F) arg9.view.ty) :
    LoopInv (M := 𝕄G) Idealize.ShloMosaic.frame (wpE defs₀ 𝒱 (c : Thread nD τ) bd) E
      k1_t4_loop.lb k1_t4_loop.ub k1_t4_loop.st k1_t4_ok () (k1_t4_body (F := F) i arg1 harg1 arg2 harg2 arg3 harg3 arg4 harg4 arg5 harg5 arg6 harg6 arg7 harg7 arg8 harg8 arg9 harg9 v26) where
  inv k _ := iprop((arg1.view.loc (c : Thread nD τ) ↦[arg1.view.set]{fullShare} X1) ∗ (arg2.view.loc (c : Thread nD τ) ↦[arg2.view.set]{fullShare} X2)
    ∗ (∃ f, (arg6.view.loc (c : Thread nD τ) ↦[arg6.view.set]{fullShare} f) ∗ ⌜f = arg6.view.writes (Elt F) G6 (pcs k1_t4_loop.trips
        (fun k => cPiece (k1_pay13 v26) (arg1.view.read (Elt F) X1) (arg2.view.read (Elt F) X2) (k1_off7 k) (k1_off7_inb k) (k1_off8 k) (k1_off8_inb k)) k)⌝)
    ∗ (∃ f, (arg9.view.loc (c : Thread nD τ) ↦[arg9.view.set]{fullShare} f) ∗ ⌜f = arg9.view.writes (Elt F) G9 (pcs k1_t4_loop.trips
        (fun k => bPiece (k1_pay14 v26) (arg1.view.read (Elt F) X1) (arg2.view.read (Elt F) X2) (k1_off7 k) (k1_off7_inb k) (k1_off8 k) (k1_off8_inb k)) k)⌝))
  step k acc := by
    iintro ⟨H1, H2, ⟨%f6, H6, %h6⟩, ⟨%f9, H9, %h9⟩⟩
    subst h6 h9
    rw [pcs_succ _ (fun k => cPiece (k1_pay13 v26) (arg1.view.read (Elt F) X1) (arg2.view.read (Elt F) X2) (k1_off7 k) (k1_off7_inb k) (k1_off8 k) (k1_off8_inb k)) k, pcs_succ _ (fun k => bPiece (k1_pay14 v26) (arg1.view.read (Elt F) X1) (arg2.view.read (Elt F) X2) (k1_off7 k) (k1_off7_inb k) (k1_off8 k) (k1_off8_inb k)) k]
    iapply (wp_wand_r Idealize.ShloMosaic.frame (wpE (defs₀ (F := F)) 𝒱 (c : Thread nD τ) bd) E)
    isplitl [H1 H2 H6 H9]
    · iapply (codeTrip_sound 𝒱 c bd E arg1 arg2 arg6 harg6 arg9 harg9 X1 X2 _ _ _ (k1_off7_inb k) (k1_off7_packedi8 k) (k1_off7_packedbf16 k) _ (k1_off8_inb k) (k1_pay13 v26) (k1_pay14 v26))
      isplitl [H1]; · iexact H1
      isplitl [H2]; · iexact H2
      isplitl [H6]; · iexact H6
      iexact H9
    iintro %_ ⟨H1, H2, H6, H9⟩
    isplitl [H1]; · iexact H1
    isplitl [H2]; · iexact H2
    isplitl [H6]
    · iexists _; isplitl [H6]; · iexact H6
      ipureintro; exact (View.writes_append _ _ [_] _).symm
    iexists _; isplitl [H9]; · iexact H9
    ipureintro; exact (View.writes_append _ _ [_] _).symm

set_option warn.classDefReducibility false in
/-- Column group 2's maximum loop: before trip `k` the carried value is the running maximum over the trips before. -/
@[sl_loop] def maxLoop2 (v26 : FVec F S1x128 .f32) (X1 : BufTy.Contents (Elt F) arg1.view.ty) (X2 : BufTy.Contents (Elt F) arg2.view.ty) (init : FVec F S8x128 .f32) :
    LoopInv (M := 𝕄G) Idealize.ShloMosaic.frame (wpE defs₀ 𝒱 (c : Thread nD τ) bd) E
      k1_t5_loop.lb k1_t5_loop.ub k1_t5_loop.st k1_t5_ok init (k1_t5_body (F := F) i arg1 harg1 arg2 harg2 arg3 harg3 arg4 harg4 arg5 harg5 arg6 harg6 arg7 harg7 arg8 harg8 arg9 harg9 v26) where
  inv k acc := iprop((arg1.view.loc (c : Thread nD τ) ↦[arg1.view.set]{fullShare} X1) ∗ (arg2.view.loc (c : Thread nD τ) ↦[arg2.view.set]{fullShare} X2)
    ∗ ⌜acc = carried k1_t5_loop.trips (fun k => mxStep (arg1.view.read (Elt F) X1) (arg2.view.read (Elt F) X2) (k1_off9 k) (k1_off9_inb k) (k1_off10 k) (k1_off10_inb k)) init k⌝)
  step k acc := by
    iintro ⟨H1, H2, %h⟩
    subst h
    have e := carried_succ _ (fun k => mxStep (arg1.view.read (Elt F) X1) (arg2.view.read (Elt F) X2) (k1_off9 k) (k1_off9_inb k) (k1_off10 k) (k1_off10_inb k)) init k
    rw [e]
    iapply (mxTrip_sound 𝒱 c bd E arg1 arg2 X1 X2 _ (k1_off9_inb k) _ (k1_off10_inb k) _)
    isplitl [H1]; · iexact H1
    iexact H2

set_option warn.classDefReducibility false in
/-- Column group 2's storing loop: before trip `k` the two destinations hold the pieces of the trips before. -/
@[sl_loop] def codeLoop2 (v26 : FVec F S1x128 .f32) (v31 : FVec F S8x128 .f32) (X1 : BufTy.Contents (Elt F) arg1.view.ty) (X2 : BufTy.Contents (Elt F) arg2.view.ty)
    (G6 : BufTy.Contents (Elt F) arg6.view.ty) (G9 : BufTy.Contents (Elt F) arg9.view.ty) :
    LoopInv (M := 𝕄G) Idealize.ShloMosaic.frame (wpE defs₀ 𝒱 (c : Thread nD τ) bd) E
      k1_t6_loop.lb k1_t6_loop.ub k1_t6_loop.st k1_t6_ok () (k1_t6_body (F := F) i arg1 harg1 arg2 harg2 arg3 harg3 arg4 harg4 arg5 harg5 arg6 harg6 arg7 harg7 arg8 harg8 arg9 harg9 v26 v31) where
  inv k _ := iprop((arg1.view.loc (c : Thread nD τ) ↦[arg1.view.set]{fullShare} X1) ∗ (arg2.view.loc (c : Thread nD τ) ↦[arg2.view.set]{fullShare} X2)
    ∗ (∃ f, (arg6.view.loc (c : Thread nD τ) ↦[arg6.view.set]{fullShare} f) ∗ ⌜f = arg6.view.writes (Elt F) G6 (pcs k1_t6_loop.trips
        (fun k => cPiece (k1_pay18 v31) (arg1.view.read (Elt F) X1) (arg2.view.read (Elt F) X2) (k1_off11 k) (k1_off11_inb k) (k1_off12 k) (k1_off12_inb k)) k)⌝)
    ∗ (∃ f, (arg9.view.loc (c : Thread nD τ) ↦[arg9.view.set]{fullShare} f) ∗ ⌜f = arg9.view.writes (Elt F) G9 (pcs k1_t6_loop.trips
        (fun k => bPiece (k1_pay19 v31) (arg1.view.read (Elt F) X1) (arg2.view.read (Elt F) X2) (k1_off11 k) (k1_off11_inb k) (k1_off12 k) (k1_off12_inb k)) k)⌝))
  step k acc := by
    iintro ⟨H1, H2, ⟨%f6, H6, %h6⟩, ⟨%f9, H9, %h9⟩⟩
    subst h6 h9
    rw [pcs_succ _ (fun k => cPiece (k1_pay18 v31) (arg1.view.read (Elt F) X1) (arg2.view.read (Elt F) X2) (k1_off11 k) (k1_off11_inb k) (k1_off12 k) (k1_off12_inb k)) k, pcs_succ _ (fun k => bPiece (k1_pay19 v31) (arg1.view.read (Elt F) X1) (arg2.view.read (Elt F) X2) (k1_off11 k) (k1_off11_inb k) (k1_off12 k) (k1_off12_inb k)) k]
    iapply (wp_wand_r Idealize.ShloMosaic.frame (wpE (defs₀ (F := F)) 𝒱 (c : Thread nD τ) bd) E)
    isplitl [H1 H2 H6 H9]
    · iapply (codeTrip_sound 𝒱 c bd E arg1 arg2 arg6 harg6 arg9 harg9 X1 X2 _ _ _ (k1_off11_inb k) (k1_off11_packedi8 k) (k1_off11_packedbf16 k) _ (k1_off12_inb k) (k1_pay18 v31) (k1_pay19 v31))
      isplitl [H1]; · iexact H1
      isplitl [H2]; · iexact H2
      isplitl [H6]; · iexact H6
      iexact H9
    iintro %_ ⟨H1, H2, H6, H9⟩
    isplitl [H1]; · iexact H1
    isplitl [H2]; · iexact H2
    isplitl [H6]
    · iexists _; isplitl [H6]; · iexact H6
      ipureintro; exact (View.writes_append _ _ [_] _).symm
    iexists _; isplitl [H9]; · iexact H9
    ipureintro; exact (View.writes_append _ _ [_] _).symm

set_option warn.classDefReducibility false in
/-- Column group 3's maximum loop: before trip `k` the carried value is the running maximum over the trips before. -/
@[sl_loop] def maxLoop3 (v26 : FVec F S1x128 .f32) (X1 : BufTy.Contents (Elt F) arg1.view.ty) (X2 : BufTy.Contents (Elt F) arg2.view.ty) (init : FVec F S8x128 .f32) :
    LoopInv (M := 𝕄G) Idealize.ShloMosaic.frame (wpE defs₀ 𝒱 (c : Thread nD τ) bd) E
      k1_t7_loop.lb k1_t7_loop.ub k1_t7_loop.st k1_t7_ok init (k1_t7_body (F := F) i arg1 harg1 arg2 harg2 arg3 harg3 arg4 harg4 arg5 harg5 arg6 harg6 arg7 harg7 arg8 harg8 arg9 harg9 v26) where
  inv k acc := iprop((arg1.view.loc (c : Thread nD τ) ↦[arg1.view.set]{fullShare} X1) ∗ (arg2.view.loc (c : Thread nD τ) ↦[arg2.view.set]{fullShare} X2)
    ∗ ⌜acc = carried k1_t7_loop.trips (fun k => mxStep (arg1.view.read (Elt F) X1) (arg2.view.read (Elt F) X2) (k1_off13 k) (k1_off13_inb k) (k1_off14 k) (k1_off14_inb k)) init k⌝)
  step k acc := by
    iintro ⟨H1, H2, %h⟩
    subst h
    have e := carried_succ _ (fun k => mxStep (arg1.view.read (Elt F) X1) (arg2.view.read (Elt F) X2) (k1_off13 k) (k1_off13_inb k) (k1_off14 k) (k1_off14_inb k)) init k
    rw [e]
    iapply (mxTrip_sound 𝒱 c bd E arg1 arg2 X1 X2 _ (k1_off13_inb k) _ (k1_off14_inb k) _)
    isplitl [H1]; · iexact H1
    iexact H2

set_option warn.classDefReducibility false in
/-- Column group 3's storing loop: before trip `k` the two destinations hold the pieces of the trips before. -/
@[sl_loop] def codeLoop3 (v52 : FVec F S1x128 .f32) (X1 : BufTy.Contents (Elt F) arg1.view.ty) (X2 : BufTy.Contents (Elt F) arg2.view.ty)
    (G6 : BufTy.Contents (Elt F) arg6.view.ty) (G9 : BufTy.Contents (Elt F) arg9.view.ty) :
    LoopInv (M := 𝕄G) Idealize.ShloMosaic.frame (wpE defs₀ 𝒱 (c : Thread nD τ) bd) E
      k1_t8_loop.lb k1_t8_loop.ub k1_t8_loop.st k1_t8_ok () (k1_t8_body (F := F) i arg1 harg1 arg2 harg2 arg3 harg3 arg4 harg4 arg5 harg5 arg6 harg6 arg7 harg7 arg8 harg8 arg9 harg9 v52) where
  inv k _ := iprop((arg1.view.loc (c : Thread nD τ) ↦[arg1.view.set]{fullShare} X1) ∗ (arg2.view.loc (c : Thread nD τ) ↦[arg2.view.set]{fullShare} X2)
    ∗ (∃ f, (arg6.view.loc (c : Thread nD τ) ↦[arg6.view.set]{fullShare} f) ∗ ⌜f = arg6.view.writes (Elt F) G6 (pcs k1_t8_loop.trips
        (fun k => cPiece (k1_pay1 v52) (arg1.view.read (Elt F) X1) (arg2.view.read (Elt F) X2) (k1_off15 k) (k1_off15_inb k) (k1_off16 k) (k1_off16_inb k)) k)⌝)
    ∗ (∃ f, (arg9.view.loc (c : Thread nD τ) ↦[arg9.view.set]{fullShare} f) ∗ ⌜f = arg9.view.writes (Elt F) G9 (pcs k1_t8_loop.trips
        (fun k => bPiece (k1_pay2 v52) (arg1.view.read (Elt F) X1) (arg2.view.read (Elt F) X2) (k1_off15 k) (k1_off15_inb k) (k1_off16 k) (k1_off16_inb k)) k)⌝))
  step k acc := by
    iintro ⟨H1, H2, ⟨%f6, H6, %h6⟩, ⟨%f9, H9, %h9⟩⟩
    subst h6 h9
    rw [pcs_succ _ (fun k => cPiece (k1_pay1 v52) (arg1.view.read (Elt F) X1) (arg2.view.read (Elt F) X2) (k1_off15 k) (k1_off15_inb k) (k1_off16 k) (k1_off16_inb k)) k, pcs_succ _ (fun k => bPiece (k1_pay2 v52) (arg1.view.read (Elt F) X1) (arg2.view.read (Elt F) X2) (k1_off15 k) (k1_off15_inb k) (k1_off16 k) (k1_off16_inb k)) k]
    iapply (wp_wand_r Idealize.ShloMosaic.frame (wpE (defs₀ (F := F)) 𝒱 (c : Thread nD τ) bd) E)
    isplitl [H1 H2 H6 H9]
    · iapply (codeTrip_sound 𝒱 c bd E arg1 arg2 arg6 harg6 arg9 harg9 X1 X2 _ _ _ (k1_off15_inb k) (k1_off15_packedi8 k) (k1_off15_packedbf16 k) _ (k1_off16_inb k) (k1_pay1 v52) (k1_pay2 v52))
      isplitl [H1]; · iexact H1
      isplitl [H2]; · iexact H2
      isplitl [H6]; · iexact H6
      iexact H9
    iintro %_ ⟨H1, H2, H6, H9⟩
    isplitl [H1]; · iexact H1
    isplitl [H2]; · iexact H2
    isplitl [H6]
    · iexists _; isplitl [H6]; · iexact H6
      ipureintro; exact (View.writes_append _ _ [_] _).symm
    iexists _; isplitl [H9]; · iexact H9
    ipureintro; exact (View.writes_append _ _ [_] _).symm

end Cert.KernelIdeal.Hand

end
-- ==== Proof.QSpec.lean ====
/-
  What the matrix product's kernel function leaves in its outputs, as functions of the four blocks it reads: per column
  of its block of weights the scale, per element the code, and the product of the codes. The pieces the function's
  loops write are these functions on their rectangles, and cover.
-/
module

public import proofs.«01_k».proof.Proof.QLoops
public import Idealize.ShloMosaic.Lib.Pointwise
public import proofs.«01_k».proof.Proof.Gen.KernelIdeal.Launch
public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 8192
set_option maxHeartbeats 4000000

noncomputable section

namespace Cert.KernelIdeal.Hand

open Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The window of column group `j` and of the 32 rows of trip `k` lies inside the block of weights. -/
theorem inbW (j : Fin 4) (k : Fin 80) : ∀ a, (![32 * k.val, 128 * j.val] : Fin 2 → ℕ) a + S32x128.size a ≤ S2560x512.size a := by
  have hj := j.isLt; have hk := k.isLt
  refine Fin.forall_fin_two.mpr ⟨?_, ?_⟩
  · show 32 * k.val + 32 ≤ 2560; omega
  · show 128 * j.val + 128 ≤ 512; omega

/-- The 32 rows of trip `k` lie inside the replicated input scales. -/
theorem inbS (k : Fin 80) : ∀ a, (![32 * k.val, 0] : Fin 2 → ℕ) a + S32x128.size a ≤ S2560x128.size a := by
  have hk := k.isLt
  refine Fin.forall_fin_two.mpr ⟨?_, ?_⟩
  · show 32 * k.val + 32 ≤ 2560; omega
  · show 0 + 128 ≤ 128; omega

/-- Column group `j`'s maxima after all trips: eight partial maxima per column. -/
def qMax (w : Vec F S2560x512 .bf16) (s : Vec F S2560x128 .f32) (j : Fin 4) : FVec F S8x128 .f32 :=
  carried 80 (fun k => mxStep w s ![32 * k.val, 128 * j.val] (inbW j k) ![32 * k.val, 0] (inbS k)) (k1_pay5 (F := F)) 80

/-- Column group `j`'s scales. -/
def qScale (w : Vec F S2560x512 .bf16) (s : Vec F S2560x128 .f32) (j : Fin 4) : FVec F S1x128 .f32 := k1_pay7 (qMax w s j)

/-- The codes of column group `j`'s rows of trip `k`. -/
def qCode (w : Vec F S2560x512 .bf16) (s : Vec F S2560x128 .f32) (j : Fin 4) (k : Fin 80) : IVec S32x128 8 :=
  k1_pay8 (qMax w s j) (wBlk w _ (inbW j k)) (sBlk s _ (inbS k))

/-- The same codes in the product's operand format. -/
def qCodeB (w : Vec F S2560x512 .bf16) (s : Vec F S2560x128 .f32) (j : Fin 4) (k : Fin 80) : FVec F S32x128 .bf16 :=
  k1_pay9 (qMax w s j) (wBlk w _ (inbW j k)) (sBlk s _ (inbS k))

/-- A block of 2560 × 512 read off its 32 × 128 tiles. -/
def tile {α : Type} (G : Fin 4 → Fin 80 → S32x128.Idx → α) (y : S2560x512.Idx) : α :=
  have h0 : (y 0).val < 2560 := (y 0).isLt
  have h1 : (y 1).val < 512 := (y 1).isLt
  G ⟨(y 1).val / 128, by omega⟩ ⟨(y 0).val / 32, by omega⟩ (ix2 ⟨(y 0).val % 32, by omega⟩ ⟨(y 1).val % 128, by omega⟩)

/-- The block at place `x` of tile `(j, k)` is the tile there. -/
theorem tile_at {α : Type} (G : Fin 4 → Fin 80 → S32x128.Idx → α) (y : S2560x512.Idx) (j : Fin 4) (k : Fin 80) (x : S32x128.Idx)
    (h0 : (y 0).val = 32 * k.val + (x 0).val) (h1 : (y 1).val = 128 * j.val + (x 1).val) : tile G y = G j k x := by
  have hx0 : (x 0).val < 32 := (x 0).isLt
  have hx1 : (x 1).val < 128 := (x 1).isLt
  have ej : ∀ h, (⟨(y 1).val / 128, h⟩ : Fin 4) = j := fun h => Fin.ext (by show (y 1).val / 128 = j.val; omega)
  have ek : ∀ h, (⟨(y 0).val / 32, h⟩ : Fin 80) = k := fun h => Fin.ext (by show (y 0).val / 32 = k.val; omega)
  have ex : ∀ h h', (ix2 (⟨(y 0).val % 32, h⟩ : Fin 32) (⟨(y 1).val % 128, h'⟩ : Fin 128) : S32x128.Idx) = x := fun h h' => by
    funext a
    match a with
    | ⟨0, _⟩ => exact Fin.ext (by show (y 0).val % 32 = (x 0).val; omega)
    | ⟨1, _⟩ => exact Fin.ext (by show (y 1).val % 128 = (x 1).val; omega)
  unfold tile
  dsimp only
  rw [ej, ek, ex]

/-- The block of codes. -/
def wCode (w : Vec F S2560x512 .bf16) (s : Vec F S2560x128 .f32) : Vec F S2560x512 .i8 := tile (qCode w s)
/-- The block of codes in the product's operand format. -/
def wOper (w : Vec F S2560x512 .bf16) (s : Vec F S2560x128 .f32) : Vec F S2560x512 .bf16 := tile (qCodeB w s)
/-- The block of scales. -/
def wScale (w : Vec F S2560x512 .bf16) (s : Vec F S2560x128 .f32) : Vec F S1x512 .f32 := fun y =>
  have h1 : (y 1).val < 512 := (y 1).isLt
  qScale w s ⟨(y 1).val / 128, by omega⟩ (ix2 0 ⟨(y 1).val % 128, by omega⟩)

theorem wScale_at (w : Vec F S2560x512 .bf16) (s : Vec F S2560x128 .f32) (y : S1x512.Idx) (j : Fin 4) (x : S1x128.Idx)
    (h1 : (y 1).val = 128 * j.val + (x 1).val) : wScale w s y = qScale w s j x := by
  have hx0 : (x 0).val < 1 := (x 0).isLt
  have hx1 : (x 1).val < 128 := (x 1).isLt
  have ej : ∀ h, (⟨(y 1).val / 128, h⟩ : Fin 4) = j := fun h => Fin.ext (by show (y 1).val / 128 = j.val; omega)
  have ex : ∀ h', (ix2 (0 : Fin 1) (⟨(y 1).val % 128, h'⟩ : Fin 128) : S1x128.Idx) = x := fun h' => by
    funext a
    match a with
    | ⟨0, _⟩ => exact Fin.ext (by show 0 = (x 0).val; omega)
    | ⟨1, _⟩ => exact Fin.ext (by show (y 1).val % 128 = (x 1).val; omega)
  unfold wScale
  dsimp only
  rw [ej, ex]

/-- The block of the product: the activations' codes `xb` times the block's, scaled by the activations' scales and the
    block's. -/
def yBlk (xb : Vec F S1536x2560 .bf16) (w : Vec F S2560x512 .bf16) (s : Vec F S2560x128 .f32) (xs : Vec F S1536x128 .f32) : Vec F S1536x512 .bf16 :=
  k1_pay3 xb (wOper w s) (View.ld (Val := Elt F) (e' := .f32) xs (Rect.unit (s := S1536x128) ![0, 0] S1536x1.size inb_S1536x128_S1536x1_0_0)) (wScale w s)

/-! ### The loops' maxima are these -/

theorem mxStep_congr (w : Vec F S2560x512 .bf16) (s : Vec F S2560x128 .f32) {ow ow' os os' : Fin 2 → ℕ} (e : ow = ow') (e' : os = os') (hw hw' hs hs') :
    mxStep w s ow hw os hs = mxStep w s ow' hw' os' hs' := by
  subst e e'; rfl

/-- Column group 0's maxima as its loop carries them. -/
abbrev mx0 (w : Vec F S2560x512 .bf16) (s : Vec F S2560x128 .f32) : FVec F S8x128 .f32 :=
  carried k1_t1_loop.trips (fun k => mxStep w s (k1_off1 k) (k1_off1_inb k) (k1_off2 k) (k1_off2_inb k)) (k1_pay5 (F := F)) k1_t1_loop.trips

theorem mx0_eq (w : Vec F S2560x512 .bf16) (s : Vec F S2560x128 .f32) : mx0 w s = qMax w s 0 :=
  carried_congr (by decide) _ _ (fun k => mxStep_congr w s (k1_off1_eq k) (k1_off2_eq k) _ _ _ _) _

/-- Column group 1's maxima as its loop carries them. -/
abbrev mx1 (w : Vec F S2560x512 .bf16) (s : Vec F S2560x128 .f32) : FVec F S8x128 .f32 :=
  carried k1_t3_loop.trips (fun k => mxStep w s (k1_off5 k) (k1_off5_inb k) (k1_off6 k) (k1_off6_inb k)) (k1_pay10 (F := F)) k1_t3_loop.trips

theorem mx1_eq (w : Vec F S2560x512 .bf16) (s : Vec F S2560x128 .f32) : mx1 w s = qMax w s 1 :=
  carried_congr (by decide) _ _ (fun k => mxStep_congr w s (k1_off5_eq k) (k1_off6_eq k) _ _ _ _) _

/-- Column group 2's maxima as its loop carries them. -/
abbrev mx2 (w : Vec F S2560x512 .bf16) (s : Vec F S2560x128 .f32) : FVec F S8x128 .f32 :=
  carried k1_t5_loop.trips (fun k => mxStep w s (k1_off9 k) (k1_off9_inb k) (k1_off10 k) (k1_off10_inb k)) (k1_pay15 (F := F)) k1_t5_loop.trips

theorem mx2_eq (w : Vec F S2560x512 .bf16) (s : Vec F S2560x128 .f32) : mx2 w s = qMax w s 2 :=
  carried_congr (by decide) _ _ (fun k => mxStep_congr w s (k1_off9_eq k) (k1_off10_eq k) _ _ _ _) _

/-- Column group 3's maxima as its loop carries them. -/
abbrev mx3 (w : Vec F S2560x512 .bf16) (s : Vec F S2560x128 .f32) : FVec F S8x128 .f32 :=
  carried k1_t7_loop.trips (fun k => mxStep w s (k1_off13 k) (k1_off13_inb k) (k1_off14 k) (k1_off14_inb k)) (k1_pay20 (F := F)) k1_t7_loop.trips

theorem mx3_eq (w : Vec F S2560x512 .bf16) (s : Vec F S2560x128 .f32) : mx3 w s = qMax w s 3 :=
  carried_congr (by decide) _ _ (fun k => mxStep_congr w s (k1_off13_eq k) (k1_off14_eq k) _ _ _ _) _

/-! ### The storing loops' pieces -/

/-- All the pieces the four storing loops write into the codes' block, newest first; -/
abbrev cList (w : Vec F S2560x512 .bf16) (s : Vec F S2560x128 .f32) : List (View.Piece (Elt F) S2560x512 .i8) :=
  (pcs k1_t8_loop.trips (fun k => cPiece (k1_pay1 (k1_pay22 (mx3 w s))) w s (k1_off15 k) (k1_off15_inb k) (k1_off16 k) (k1_off16_inb k)) k1_t8_loop.trips
    ++ (pcs k1_t6_loop.trips (fun k => cPiece (k1_pay18 (mx2 w s)) w s (k1_off11 k) (k1_off11_inb k) (k1_off12 k) (k1_off12_inb k)) k1_t6_loop.trips
    ++ (pcs k1_t4_loop.trips (fun k => cPiece (k1_pay13 (k1_pay12 (mx1 w s))) w s (k1_off7 k) (k1_off7_inb k) (k1_off8 k) (k1_off8_inb k)) k1_t4_loop.trips
    ++ (pcs k1_t2_loop.trips (fun k => cPiece (k1_pay8 (mx0 w s)) w s (k1_off3 k) (k1_off3_inb k) (k1_off4 k) (k1_off4_inb k)) k1_t2_loop.trips))))
/-- and into the block in the product's operand format. -/
abbrev bList (w : Vec F S2560x512 .bf16) (s : Vec F S2560x128 .f32) : List (View.Piece (Elt F) S2560x512 .bf16) :=
  (pcs k1_t8_loop.trips (fun k => bPiece (k1_pay2 (k1_pay22 (mx3 w s))) w s (k1_off15 k) (k1_off15_inb k) (k1_off16 k) (k1_off16_inb k)) k1_t8_loop.trips
    ++ (pcs k1_t6_loop.trips (fun k => bPiece (k1_pay19 (mx2 w s)) w s (k1_off11 k) (k1_off11_inb k) (k1_off12 k) (k1_off12_inb k)) k1_t6_loop.trips
    ++ (pcs k1_t4_loop.trips (fun k => bPiece (k1_pay14 (k1_pay12 (mx1 w s))) w s (k1_off7 k) (k1_off7_inb k) (k1_off8 k) (k1_off8_inb k)) k1_t4_loop.trips
    ++ (pcs k1_t2_loop.trips (fun k => bPiece (k1_pay9 (mx0 w s)) w s (k1_off3 k) (k1_off3_inb k) (k1_off4 k) (k1_off4_inb k)) k1_t2_loop.trips))))

/-- A piece at tile `(j, k)`'s offsets holds that tile of the codes; -/
theorem cPiece_at (w : Vec F S2560x512 .bf16) (s : Vec F S2560x128 .f32) (j : Fin 4) (k : Fin 80) {ow os : Fin 2 → ℕ} (e : ow = ![32 * k.val, 128 * j.val])
    (e' : os = ![32 * k.val, 0]) (hw hs) (x : S32x128.Idx) :
    (cPiece (k1_pay8 (qMax w s j)) w s ow hw os hs).2 x = wCode w s ((cPiece (k1_pay8 (qMax w s j)) w s ow hw os hs).1.emb x) := by
  subst e e'
  exact (tile_at (qCode w s) _ j k x (congrArg (32 * k.val + ·) (Nat.one_mul _)) (congrArg (128 * j.val + ·) (Nat.one_mul _))).symm

/-- likewise in the product's operand format. -/
theorem bPiece_at (w : Vec F S2560x512 .bf16) (s : Vec F S2560x128 .f32) (j : Fin 4) (k : Fin 80) {ow os : Fin 2 → ℕ} (e : ow = ![32 * k.val, 128 * j.val])
    (e' : os = ![32 * k.val, 0]) (hw hs) (x : S32x128.Idx) :
    (bPiece (k1_pay9 (qMax w s j)) w s ow hw os hs).2 x = wOper w s ((bPiece (k1_pay9 (qMax w s j)) w s ow hw os hs).1.emb x) := by
  subst e e'
  exact (tile_at (qCodeB w s) _ j k x (congrArg (32 * k.val + ·) (Nat.one_mul _)) (congrArg (128 * j.val + ·) (Nat.one_mul _))).symm

/-- An element of tile `(j, k)` lies in the rectangle at that tile's offsets. -/
theorem mem_tile (y : S2560x512.Idx) (j k : ℕ) {ow : Fin 2 → ℕ} (e : ow = ![32 * k, 128 * j]) (hw : ∀ a, ow a + S32x128.size a ≤ S2560x512.size a)
    (hk : (y 0).val / 32 = k) (hj : (y 1).val / 128 = j) : y ∈ (Rect.unit (s := S2560x512) ow S32x128.size hw).set := by
  subst e
  refine (LoadRect.mem_set _).mpr (Fin.forall_fin_two.mpr ⟨⟨(y 0).val % 32, Nat.mod_lt _ (by decide), ?_⟩, ⟨(y 1).val % 128, Nat.mod_lt _ (by decide), ?_⟩⟩)
  · show (y 0).val = 32 * k + 1 * ((y 0).val % 32); omega
  · show (y 1).val = 128 * j + 1 * ((y 1).val % 128); omega

/-- After all four loops' pieces the block reads as the codes. -/
theorem cList_read {κ : Kind} {sp : Space} (v : View sig κ sp S2560x512 .i8) (f : v.ty.Contents (Elt F)) (w : Vec F S2560x512 .bf16) (s : Vec F S2560x128 .f32) :
    v.read (Elt F) (v.writes (Elt F) f (cList w s)) = wCode w s := by
  funext y
  have h0 : (y 0).val < 2560 := (y 0).isLt
  have h1 : (y 1).val < 512 := (y 1).isLt
  refine View.read_writes_apply_of_pieces v f (wCode w s) (cList w s) ?_ y ?_
  · intro p hp
    simp only [cList, mx0_eq, mx1_eq, mx2_eq, mx3_eq, List.mem_append, mem_pcs] at hp
    rcases hp with ⟨k, _, rfl⟩ | ⟨k, _, rfl⟩ | ⟨k, _, rfl⟩ | ⟨k, _, rfl⟩
    · exact cPiece_at w s 3 k (k1_off15_eq k) (k1_off16_eq k) _ _
    · exact cPiece_at w s 2 k (k1_off11_eq k) (k1_off12_eq k) _ _
    · exact cPiece_at w s 1 k (k1_off7_eq k) (k1_off8_eq k) _ _
    · exact cPiece_at w s 0 k (k1_off3_eq k) (k1_off4_eq k) _ _
  · simp only [cList, List.mem_append, mem_pcs]
    have hk : (y 0).val / 32 < 80 := by omega
    obtain hj | hj | hj | hj : (y 1).val / 128 = 3 ∨ (y 1).val / 128 = 2 ∨ (y 1).val / 128 = 1 ∨ (y 1).val / 128 = 0 := by omega
    · exact ⟨_, .inl ⟨⟨_, hk⟩, hk, rfl⟩, mem_tile y 3 _ (k1_off15_eq ⟨_, hk⟩) (k1_off15_inb ⟨_, hk⟩) rfl hj⟩
    · exact ⟨_, .inr (.inl ⟨⟨_, hk⟩, hk, rfl⟩), mem_tile y 2 _ (k1_off11_eq ⟨_, hk⟩) (k1_off11_inb ⟨_, hk⟩) rfl hj⟩
    · exact ⟨_, .inr (.inr (.inl ⟨⟨_, hk⟩, hk, rfl⟩)), mem_tile y 1 _ (k1_off7_eq ⟨_, hk⟩) (k1_off7_inb ⟨_, hk⟩) rfl hj⟩
    · exact ⟨_, .inr (.inr (.inr ⟨⟨_, hk⟩, hk, rfl⟩)), mem_tile y 0 _ (k1_off3_eq ⟨_, hk⟩) (k1_off3_inb ⟨_, hk⟩) rfl hj⟩

/-- After all four loops' pieces the block reads as the operands. -/
theorem bList_read {κ : Kind} {sp : Space} (v : View sig κ sp S2560x512 .bf16) (f : v.ty.Contents (Elt F)) (w : Vec F S2560x512 .bf16) (s : Vec F S2560x128 .f32) :
    v.read (Elt F) (v.writes (Elt F) f (bList w s)) = wOper w s := by
  funext y
  have h0 : (y 0).val < 2560 := (y 0).isLt
  have h1 : (y 1).val < 512 := (y 1).isLt
  refine View.read_writes_apply_of_pieces v f (wOper w s) (bList w s) ?_ y ?_
  · intro p hp
    simp only [bList, mx0_eq, mx1_eq, mx2_eq, mx3_eq, List.mem_append, mem_pcs] at hp
    rcases hp with ⟨k, _, rfl⟩ | ⟨k, _, rfl⟩ | ⟨k, _, rfl⟩ | ⟨k, _, rfl⟩
    · exact bPiece_at w s 3 k (k1_off15_eq k) (k1_off16_eq k) _ _
    · exact bPiece_at w s 2 k (k1_off11_eq k) (k1_off12_eq k) _ _
    · exact bPiece_at w s 1 k (k1_off7_eq k) (k1_off8_eq k) _ _
    · exact bPiece_at w s 0 k (k1_off3_eq k) (k1_off4_eq k) _ _
  · simp only [bList, List.mem_append, mem_pcs]
    have hk : (y 0).val / 32 < 80 := by omega
    obtain hj | hj | hj | hj : (y 1).val / 128 = 3 ∨ (y 1).val / 128 = 2 ∨ (y 1).val / 128 = 1 ∨ (y 1).val / 128 = 0 := by omega
    · exact ⟨_, .inl ⟨⟨_, hk⟩, hk, rfl⟩, mem_tile y 3 _ (k1_off15_eq ⟨_, hk⟩) (k1_off15_inb ⟨_, hk⟩) rfl hj⟩
    · exact ⟨_, .inr (.inl ⟨⟨_, hk⟩, hk, rfl⟩), mem_tile y 2 _ (k1_off11_eq ⟨_, hk⟩) (k1_off11_inb ⟨_, hk⟩) rfl hj⟩
    · exact ⟨_, .inr (.inr (.inl ⟨⟨_, hk⟩, hk, rfl⟩)), mem_tile y 1 _ (k1_off7_eq ⟨_, hk⟩) (k1_off7_inb ⟨_, hk⟩) rfl hj⟩
    · exact ⟨_, .inr (.inr (.inr ⟨⟨_, hk⟩, hk, rfl⟩)), mem_tile y 0 _ (k1_off3_eq ⟨_, hk⟩) (k1_off3_inb ⟨_, hk⟩) rfl hj⟩

/-- The four stores of the scales, newest first. -/
abbrev sList (w : Vec F S2560x512 .bf16) (s : Vec F S2560x128 .f32) : List (View.Piece (Elt F) S1x512 .f32) :=
  [⟨Rect.unit (s := S1x512) ![0, 384] S1x128.size inb_S1x512_S1x128_0_384, k1_pay22 (mx3 w s)⟩,
    ⟨Rect.unit (s := S1x512) ![0, 256] S1x128.size inb_S1x512_S1x128_0_256, k1_pay17 (mx2 w s)⟩,
    ⟨Rect.unit (s := S1x512) ![0, 128] S1x128.size inb_S1x512_S1x128_0_128, k1_pay12 (mx1 w s)⟩,
    ⟨Rect.unit (s := S1x512) ![0, 0] S1x128.size inb_S1x512_S1x128_0_0, k1_pay7 (mx0 w s)⟩]

/-- A piece at column group `j`'s offsets holds that group's scales. -/
theorem sPiece_at (w : Vec F S2560x512 .bf16) (s : Vec F S2560x128 .f32) (j : Fin 4) (inb) (x : S1x128.Idx) :
    qScale w s j x = wScale w s ((Rect.unit (s := S1x512) ![0, 128 * j.val] S1x128.size inb).emb x) :=
  (wScale_at w s _ j x (congrArg (128 * j.val + ·) (Nat.one_mul _))).symm

theorem mem_group (y : S1x512.Idx) (j : ℕ) (inb : ∀ a, (![0, 128 * j] : Fin 2 → ℕ) a + S1x128.size a ≤ S1x512.size a) (hj : (y 1).val / 128 = j) :
    y ∈ (Rect.unit (s := S1x512) ![0, 128 * j] S1x128.size inb).set := by
  have h0 : (y 0).val < 1 := (y 0).isLt
  refine (LoadRect.mem_set _).mpr (Fin.forall_fin_two.mpr ⟨⟨0, Nat.one_pos, ?_⟩, ⟨(y 1).val % 128, Nat.mod_lt _ (by decide), ?_⟩⟩)
  · show (y 0).val = 0 + 1 * 0; omega
  · show (y 1).val = 128 * j + 1 * ((y 1).val % 128); omega

/-- The four stores of the scales agree with the block of scales, -/
theorem sList_agree (w : Vec F S2560x512 .bf16) (s : Vec F S2560x128 .f32) :
    ∀ p ∈ sList w s, ∀ x : p.1.shape.Idx, p.2 x = wScale w s (p.1.emb x) := by
  intro p hp
  simp only [sList, mx0_eq, mx1_eq, mx2_eq, mx3_eq, List.mem_cons, List.not_mem_nil, or_false] at hp
  rcases hp with rfl | rfl | rfl | rfl
  · exact sPiece_at w s 3 inb_S1x512_S1x128_0_384
  · exact sPiece_at w s 2 inb_S1x512_S1x128_0_256
  · exact sPiece_at w s 1 inb_S1x512_S1x128_0_128
  · exact sPiece_at w s 0 inb_S1x512_S1x128_0_0

/-- and cover it. -/
theorem sList_cover (w : Vec F S2560x512 .bf16) (s : Vec F S2560x128 .f32) (y : S1x512.Idx) : ∃ p ∈ sList w s, y ∈ p.1.set := by
  have h1 : (y 1).val < 512 := (y 1).isLt
  obtain hj | hj | hj | hj : (y 1).val / 128 = 3 ∨ (y 1).val / 128 = 2 ∨ (y 1).val / 128 = 1 ∨ (y 1).val / 128 = 0 := by omega
  · exact ⟨_, .head _, mem_group y 3 inb_S1x512_S1x128_0_384 hj⟩
  · exact ⟨_, .tail _ (.head _), mem_group y 2 inb_S1x512_S1x128_0_256 hj⟩
  · exact ⟨_, .tail _ (.tail _ (.head _)), mem_group y 1 inb_S1x512_S1x128_0_128 hj⟩
  · exact ⟨_, .tail _ (.tail _ (.tail _ (.head _))), mem_group y 0 inb_S1x512_S1x128_0_0 hj⟩

/-- After the four stores the block reads as the scales. -/
theorem sList_read {κ : Kind} {sp : Space} (v : View sig κ sp S1x512 .f32) (f : v.ty.Contents (Elt F)) (w : Vec F S2560x512 .bf16) (s : Vec F S2560x128 .f32) :
    v.read (Elt F) (v.writes (Elt F) f (sList w s)) = wScale w s :=
  funext fun y => View.read_writes_apply_of_pieces v f (wScale w s) (sList w s) (sList_agree w s) y (sList_cover w s y)

end Cert.KernelIdeal.Hand

end
-- ==== Proof.QRun.lean ====
/-
  The matrix product's kernel function run on whole buffers: from the four blocks it reads, its outputs hold the
  functions of `QSpec`. At the first grid point it also fills the scratch with the activations' codes in the product's
  operand format; at the others it finds them there.
-/
module

public import proofs.«01_k».proof.Proof.QSpec
public import proofs.«01_k».proof.Proof.Gen.KernelIdeal.Launch
public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 8192
set_option maxHeartbeats 4000000

noncomputable section

namespace Cert.KernelIdeal.Hand

open Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The condition of the function's one conditional: the grid point is the first. -/
abbrev firstPoint (i : grid1.Coords) : Prop := (Scalar.cmpi .ne (Scalar.extui (Scalar.cmpi .eq (BitVec.ofNat 32 (i 0).val) 0#32)) 0#32) = 1#1

/-- The product's payload depends on its four operands only. -/
theorem pay3_congr {a a' : Vec F S1536x2560 .bf16} {b b' : Vec F S2560x512 .bf16} {d d' : Vec F S1536x1 .f32} {e e' : Vec F S1x512 .f32}
    (ha : a = a') (hb : b = b') (hd : d = d') (he : e = e') : k1_pay3 a b d e = k1_pay3 a' b' d' e' := by subst ha hb hd he; rfl

set_option maxRecDepth 16384 in
/-- At the first grid point: the scratch `arg8` may hold anything, and ends with the activations' codes. -/
theorem qmRun_first (c : Dev nD) (i : grid1.Coords) (arg1 : Memref sig .tc .vmem S2560x512 .bf16) (harg1 : arg1.IsWhole) (arg2 : Memref sig .tc .vmem S2560x128 .f32) (harg2 : arg2.IsWhole)
    (arg3 : Memref sig .tc .vmem S1536x2560 .i8) (harg3 : arg3.IsWhole) (arg4 : Memref sig .tc .vmem S1536x128 .f32) (harg4 : arg4.IsWhole)
    (arg5 : Memref sig .tc .vmem S1536x512 .bf16) (harg5 : arg5.IsWhole) (arg6 : Memref sig .tc .vmem S2560x512 .i8) (harg6 : arg6.IsWhole)
    (arg7 : Memref sig .tc .vmem S1x512 .f32) (harg7 : arg7.IsWhole) (arg8 : Memref sig .tc .vmem S1536x2560 .bf16) (harg8 : arg8.IsWhole)
    (arg9 : Memref sig .tc .vmem S2560x512 .bf16) (harg9 : arg9.IsWhole) (hc : firstPoint i)
    (x1 : Vec F S2560x512 .bf16) (x2 : Vec F S2560x128 .f32) (x3 : Vec F S1536x2560 .i8) (x4 : Vec F S1536x128 .f32) (E : Set ℕ) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (yBlk (k1_pay4 x3) x1 x2 x4) ∗ owns (c : Thread nD τ) arg6 fullShare (wCode x1 x2) ∗ owns (c : Thread nD τ) arg7 fullShare (wScale x1 x2) ∗ owns (c : Thread nD τ) arg8 fullShare (k1_pay4 x3) ∗ (∃ d, owns (c : Thread nD τ) arg9 fullShare d)) -∗ K ⟨⟩))
      ⊢ wp frame (wpE (defs₀ (F := F)) Variants.none c none) E (cc1_quant_matmul i arg1 harg1 arg2 harg2 arg3 harg3 arg4 harg4 arg5 harg5 arg6 harg6 arg7 harg7 arg8 harg8 arg9 harg9) K := by
    simp only [cc1_quant_matmul_eq_skeleton]; unfold cc1_quant_matmul_skel
    simp only [k1_part1_eq_skeleton, k1_part2_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; swap; · iexact H5
      ipureintro
      refine (View.read_writes_full arg5.view f5 _ _ []).trans ?_
      refine pay3_congr ((View.readAt_writes_full arg8.view _ _ _ _ []).trans (congrArg k1_pay4 ((View.readAt_full arg3.view _ _).trans (harg3.read_unread x3))))
        ((View.readAt_full arg9.view _ _).trans ((bList_read arg9.view _ (arg1.view.read (Elt F) (harg1.unread x1)) (arg2.view.read (Elt F) (harg2.unread x2))).trans (by rw [harg1.read_unread, harg2.read_unread])))
        (congrArg (fun z => View.ld (Val := Elt F) (e' := .f32) z (Rect.unit (s := S1536x128) ![0, 0] S1536x1.size inb_S1536x128_S1536x1_0_0)) (harg4.read_unread x4))
        ((View.readAt_full arg7.view _ _).trans ((sList_read arg7.view _ (arg1.view.read (Elt F) (harg1.unread x1)) (arg2.view.read (Elt F) (harg2.unread x2))).trans (by rw [harg1.read_unread, harg2.read_unread])))
    isplitl [H6]
    · iexists _; isplitr; swap; · iexact H6
      ipureintro
      exact (cList_read arg6.view f6 (arg1.view.read (Elt F) (harg1.unread x1)) (arg2.view.read (Elt F) (harg2.unread x2))).trans (by rw [harg1.read_unread, harg2.read_unread])
    isplitl [H7]
    · iexists _; isplitr; swap; · iexact H7
      ipureintro
      exact (sList_read arg7.view _ (arg1.view.read (Elt F) (harg1.unread x1)) (arg2.view.read (Elt F) (harg2.unread x2))).trans (by rw [harg1.read_unread, harg2.read_unread])
    isplitl [H8]
    · iexists _; isplitr; swap; · iexact H8
      ipureintro
      exact (View.read_writes_full arg8.view _ _ _ []).trans (congrArg k1_pay4 ((View.readAt_full arg3.view _ _).trans (harg3.read_unread x3)))
    iexists _, _; isplitr; swap; · iexact H9
    ipureintro; rfl

set_option maxRecDepth 16384 in
/-- At the other grid points: the scratch `arg8` holds `xb` and keeps it. -/
theorem qmRun_rest (c : Dev nD) (i : grid1.Coords) (arg1 : Memref sig .tc .vmem S2560x512 .bf16) (harg1 : arg1.IsWhole) (arg2 : Memref sig .tc .vmem S2560x128 .f32) (harg2 : arg2.IsWhole)
    (arg3 : Memref sig .tc .vmem S1536x2560 .i8) (harg3 : arg3.IsWhole) (arg4 : Memref sig .tc .vmem S1536x128 .f32) (harg4 : arg4.IsWhole)
    (arg5 : Memref sig .tc .vmem S1536x512 .bf16) (harg5 : arg5.IsWhole) (arg6 : Memref sig .tc .vmem S2560x512 .i8) (harg6 : arg6.IsWhole)
    (arg7 : Memref sig .tc .vmem S1x512 .f32) (harg7 : arg7.IsWhole) (arg8 : Memref sig .tc .vmem S1536x2560 .bf16) (harg8 : arg8.IsWhole)
    (arg9 : Memref sig .tc .vmem S2560x512 .bf16) (harg9 : arg9.IsWhole) (hc : ¬ firstPoint i)
    (x1 : Vec F S2560x512 .bf16) (x2 : Vec F S2560x128 .f32) (x3 : Vec F S1536x2560 .i8) (x4 : Vec F S1536x128 .f32) (xb : Vec F S1536x2560 .bf16) (E : Set ℕ) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xb ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (yBlk xb x1 x2 x4) ∗ owns (c : Thread nD τ) arg6 fullShare (wCode x1 x2) ∗ owns (c : Thread nD τ) arg7 fullShare (wScale x1 x2) ∗ owns (c : Thread nD τ) arg8 fullShare xb ∗ (∃ d, owns (c : Thread nD τ) arg9 fullShare d)) -∗ K ⟨⟩))
      ⊢ wp frame (wpE (defs₀ (F := F)) Variants.none c none) E (cc1_quant_matmul i arg1 harg1 arg2 harg2 arg3 harg3 arg4 harg4 arg5 harg5 arg6 harg6 arg7 harg7 arg8 harg8 arg9 harg9) K := by
    simp only [cc1_quant_matmul_eq_skeleton]; unfold cc1_quant_matmul_skel
    simp only [k1_part1_eq_skeleton, k1_part2_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%d9, %f9, -, H9⟩, Hk⟩
    obtain rfl := harg1.eq_unread hf1; obtain rfl := harg2.eq_unread hf2; obtain rfl := harg3.eq_unread hf3; obtain rfl := harg4.eq_unread hf4; obtain rfl := harg8.eq_unread hf8
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; swap; · iexact H5
      ipureintro
      refine (View.read_writes_full arg5.view f5 _ _ []).trans ?_
      refine pay3_congr ((View.readAt_full arg8.view _ _).trans (harg8.read_unread xb))
        ((View.readAt_full arg9.view _ _).trans ((bList_read arg9.view _ (arg1.view.read (Elt F) (harg1.unread x1)) (arg2.view.read (Elt F) (harg2.unread x2))).trans (by rw [harg1.read_unread, harg2.read_unread])))
        (congrArg (fun z => View.ld (Val := Elt F) (e' := .f32) z (Rect.unit (s := S1536x128) ![0, 0] S1536x1.size inb_S1536x128_S1536x1_0_0)) (harg4.read_unread x4))
        ((View.readAt_full arg7.view _ _).trans ((sList_read arg7.view _ (arg1.view.read (Elt F) (harg1.unread x1)) (arg2.view.read (Elt F) (harg2.unread x2))).trans (by rw [harg1.read_unread, harg2.read_unread])))
    isplitl [H6]
    · iexists _; isplitr; swap; · iexact H6
      ipureintro
      exact (cList_read arg6.view f6 (arg1.view.read (Elt F) (harg1.unread x1)) (arg2.view.read (Elt F) (harg2.unread x2))).trans (by rw [harg1.read_unread, harg2.read_unread])
    isplitl [H7]
    · iexists _; isplitr; swap; · iexact H7
      ipureintro
      exact (sList_read arg7.view _ (arg1.view.read (Elt F) (harg1.unread x1)) (arg2.view.read (Elt F) (harg2.unread x2))).trans (by rw [harg1.read_unread, harg2.read_unread])
    isplitl [H8]
    · iexists _; isplitr; swap; · iexact H8
      ipureintro
      exact harg8.read_unread _
    iexists _, _; isplitr; swap; · iexact H9
    ipureintro; rfl

end Cert.KernelIdeal.Hand

end
-- ==== Proof.Reg1.lean ====
/-
  The matrix product as a region of @main: its proof data over the contents the region is entered with, and the obligation
  that the body at each of its grid points leaves what the proof data say. The activations' codes in the product's operand
  format are made at the first point and stay in the scratch.
-/
module

public import proofs.«01_k».proof.Proof.QRun
public import proofs.«01_k».proof.Proof.Gen.KernelIdeal.Launch
public import proofs.«01_k».proof.Proof.Gen.KernelIdeal.Points
public import Idealize.ShloMosaic.Lib.WordCmp
public import Idealize.ShloMosaic.Lib.Pipeline.Kit
public import Idealize.ShloMosaic.Lib.Pipeline.FrameBody
public import Idealize.ShloMosaic.Lib.Pipeline.Frame
public import Idealize.ShloMosaic.Lib.Pipeline.Regions
public import Idealize.ShloMosaic.Lib.Pipeline.RegionArraysS

@[expose] public section

set_option maxRecDepth 8192
set_option maxHeartbeats 4000000

noncomputable section

namespace Cert.KernelIdeal.Hand

open Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Rounds
open Idealize.ShloMosaic.Pipeline (Dat Cfg Window BodyObligation)

variable (V : Dev nD → Valuation τ sig (Elt F))

/-- Input window `w`'s block at point `t`, read off its array at the valuation `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The first grid point. -/
def t1_0 : Fin cfg1.N := ⟨0, by rw [show cfg1.N = 20 from N_1]; decide⟩

/-- The activations' codes in the product's operand format: what the scratch holds from the first point on. -/
def xb (c : Dev nD) : Vec F S1536x2560 .bf16 := k1_pay4 (iblk1 V c 2 t1_0)

/-- The scratch buffers, whole. -/
abbrev scM1_0 : Memref sig .tc .vmem S1536x2560 .bf16 := Memref.whole cc1_scratch0
abbrev scM1_1 : Memref sig .tc .vmem S2560x512 .bf16 := Memref.whole cc1_scratch1

/-- What the invariant holds beside the two scratch buffers and the generator register. -/
def rest1 (c : Dev nD) : sProp 𝕄G := iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The first scratch before point `n`: at some contents before the first point, at the operand after it. -/
def keep (c : Dev nD) : ℕ → sProp 𝕄G
  | 0 => iprop(∃ d, owns (c : Thread nD τ) scM1_0 fullShare d)
  | _ + 1 => owns (c : Thread nD τ) scM1_0 fullShare (xb V c)

/-- The invariant before point `n`. -/
def Phi1 (c : Dev nD) (n : ℕ) : sProp 𝕄G :=
  iprop(keep V c n ∗ (∃ d, owns (c : Thread nD τ) scM1_1 fullShare d) ∗ rest1 c ∗ (∃ r, prngReg c r))

/-- The region's proof data on core `c`: the arrays at `V`; the inputs' buffers keep their blocks, the outputs' hold the
    product's block, the weights' codes and scales; the invariant follows the scratch. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => yBlk (xb V c) (iblk1 V c 0 t) (iblk1 V c 1 t) (iblk1 V c 3 t)
    | ⟨5, _⟩ => wCode (iblk1 V c 0 t) (iblk1 V c 1 t)
    | ⟨6, _⟩ => wScale (iblk1 V c 0 t) (iblk1 V c 1 t)
  Φ t := Phi1 V c t.val
  q _ := fullShare
  owed _ := 0

/-- The proof data's arrays are `V`'s. -/
theorem A1_eq (c : Dev nD) (w : Fin cfg1.W) : (dat1 V c).A w = V c (Proc.devRef .tc (Pipeline.arrRef spec1 w)) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = yBlk (xb V c) (iblk1 V c 0 t) (iblk1 V c 1 t) (iblk1 V c 3 t) := by dsimp only [dat1]
theorem after1_5 (c : Dev nD) (t : Fin cfg1.N) : (dat1 V c).after 5 t = wCode (iblk1 V c 0 t) (iblk1 V c 1 t) := by dsimp only [dat1]
theorem after1_6 (c : Dev nD) (t : Fin cfg1.N) : (dat1 V c).after 6 t = wScale (iblk1 V c 0 t) (iblk1 V c 1 t) := by dsimp only [dat1]

/-- Input 0's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
/-- Input 1's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
/-- Input 2's buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
/-- Input 3's buffer holds its block at every point. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)

/-- The body's condition holds at the first point only. -/
theorem firstPoint_iff (t : Fin cfg1.N) : firstPoint (grid1.coords t) ↔ t.val = 0 := by
  have ht : t.val < 20 := Nat.lt_of_lt_of_eq t.isLt N_1
  have e0 : (grid1.coords t 0).val = t.val / 1 % 20 := Pipeline.Grid.coords_val t 0 (by decide) rfl
  have h : firstPoint (grid1.coords t) ↔ t.val % 20 = 0 := by
    simp only [firstPoint, e0]
    word_cmp
  rw [h]; omega

/-- What the body is called with at point `t`, -/
def bodyPre1 (c : Dev nD) (t : Fin cfg1.N) : sProp 𝕄G :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄G :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point takes the first to the second. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4, after1_5, after1_6]
  rw [show (dat1 V c).Φ t.castSucc = Phi1 V c t.val from rfl, show (dat1 V c).Φ t.succ = Phi1 V c (t.val + 1) from rfl]
  unfold Phi1
  by_cases h : firstPoint (grid1.coords t)
  · obtain rfl : t = t1_0 := Fin.ext ((firstPoint_iff t).mp h)
    rw [show keep V c (t1_0 : Fin cfg1.N).val = iprop(∃ d, owns (c : Thread nD τ) scM1_0 fullShare d) from rfl,
      show keep V c ((t1_0 : Fin cfg1.N).val + 1) = owns (c : Thread nD τ) scM1_0 fullShare (xb V c) from rfl]
    iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩⟩
    iapply (qmRun_first c (grid1.coords t1_0) _ _ _ _ _ _ _ _ _ _ _ _ _ _ _ _ _ _ h (iblk1 V c 0 t1_0) (iblk1 V c 1 t1_0) (iblk1 V c 2 t1_0) (iblk1 V c 3 t1_0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h0 : t.val ≠ 0 := fun e => h ((firstPoint_iff t).mpr e)
    obtain ⟨n, hn⟩ := Nat.exists_eq_succ_of_ne_zero h0
    rw [show keep V c t.val = owns (c : Thread nD τ) scM1_0 fullShare (xb V c) from by rw [hn]; rfl,
      show keep V c (t.val + 1) = owns (c : Thread nD τ) scM1_0 fullShare (xb V c) from rfl]
    iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩⟩
    iapply (qmRun_rest c (grid1.coords t) _ _ _ _ _ _ _ _ _ _ _ _ _ _ _ _ _ _ h (iblk1 V c 0 t) (iblk1 V c 1 t) (iblk1 V c 2 t) (iblk1 V c 3 t) (xb V c) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The region's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The scoped memory and the generator register give the invariant before the first point, -/
theorem Phi1_in (c : Dev nD) : iprop(Pipeline.scopedRest (cfgs 1).spec c ∗ (∃ r, prngReg c r)) ⊢ (dat1 (F := F) V c).Φ 0 := by
  rw [show (dat1 V c).Φ 0 = Phi1 V c 0 from rfl, show Pipeline.scopedRest (cfgs 1).spec c = (Pipeline.scopedRest spec1 c : sProp 𝕄G) from rfl, scopedRest1_eq]
  unfold Phi1 rest1 keep
  simp only [scM1_0, scM1_1, owns_whole]
  iintro ⟨⟨B0, B1, B2, B3, B4, B5, B6, B7, B8, B9, B10, B11⟩, Hg⟩
  isplitl [B10]; · iexact B10
  isplitl [B11]; · iexact B11
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  iexact Hg

/-- and the invariant after the last gives them back. -/
theorem Phi1_out (c : Dev nD) : (dat1 (F := F) V c).Φ (Fin.last cfg1.N) ⊢ iprop(Pipeline.scopedRest (cfgs 1).spec c ∗ (∃ r, prngReg c r)) := by
  rw [show (dat1 V c).Φ (Fin.last cfg1.N) = Phi1 V c 20 from congrArg (Phi1 V c) (show cfg1.N = 20 from N_1),
    show Pipeline.scopedRest (cfgs 1).spec c = (Pipeline.scopedRest spec1 c : sProp 𝕄G) from rfl, scopedRest1_eq]
  unfold Phi1 rest1 keep
  simp only [scM1_0, scM1_1, owns_whole]
  iintro ⟨B10, B11, ⟨B0, B1, B2, B3, B4, B5, B6, B7, B8, B9⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexists _; iexact B10
    iexact B11
  iexact Hg

end Cert.KernelIdeal.Hand

end
-- ==== Proof.Run.lean ====
/-
  The whole kernel run: from any launch memory, @main ends with the contents `W4` in every buffer it keeps: the host
  operations' results and what the two regions leave.
-/
module

public import proofs.«01_k».proof.Proof.Reg0
public import proofs.«01_k».proof.Proof.Reg1
public import proofs.«01_k».proof.Proof.Gen.KernelIdeal.Regions
public import Idealize.ShloMosaic.Lib.WordCmp
public import Idealize.ShloMosaic.Lib.Pipeline.Kit
public import Idealize.ShloMosaic.Lib.Pipeline.FrameBody
public import Idealize.ShloMosaic.Lib.Pipeline.Frame
public import Idealize.ShloMosaic.Lib.Pipeline.Regions
public import Idealize.ShloMosaic.Lib.Pipeline.RegionArraysS

@[expose] public section

set_option maxRecDepth 8192
set_option maxHeartbeats 4000000

noncomputable section

namespace Cert.KernelIdeal.Hand

open Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Rounds
open Idealize.ShloMosaic.Pipeline (Dat Cfg Window BodyObligation Seg HostSeg RegionSeg)

variable (m : (ℓ : Loc nD τ sig) → Buf (Elt F) ℓ) (ρ : Dev nD → PrngReg)

/-- Core `c`'s buffers after the quantiser's region, -/
def W2 (c : Dev nD) : Valuation τ sig (Elt F) := Pipeline.afterRegion (dat0 (V1 m) c) (V1 m c)
/-- after the product's region, -/
def W3 (c : Dev nD) : Valuation τ sig (Elt F) := Pipeline.afterRegion (dat1 (W2 m) c) (W2 m c)
/-- and at the end, after the last host operations. -/
def W4 (c : Dev nD) : Valuation τ sig (Elt F) := StableHlo.after hostOps2 (W3 m c)

/-- The two regions' proof data. -/
def pdats : (p : Fin 2) → (c : Dev nD) → Dat τ (Elt F) Unit ℕ (UR sig nD τ) ℕ (cfgs p) c
  | ⟨0, _⟩, c => dat0 (V1 m) c
  | ⟨1, _⟩, c => dat1 (W2 m) c

/-- The levels: the staging waits' index at every TensorCore's semaphore, all at level zero. -/
def L : GSem nD τ sig → Finset Unit := fun g => if g.1.2 = .tc then {()} else ∅
abbrev lv : GSem nD τ sig → Unit → ℕ := fun _ _ => 0

/-- What a core holds between segments beside its buffers: nothing owed, and the generator register. -/
abbrev Er (c : Dev nD) : sProp 𝕄G :=
  iprop((∃ Wd, owes (c : Thread nD τ) (0 : CellTallies nD τ sig Unit) Wd) ∗ (∃ r, prngReg c r) ∗ emp)

/-- A core that owes nothing may wait at any level. -/
theorem levelCut (p : Fin 2) : Pipeline.LevelCut (pcfgs (F := F)) adm () L lv p (fun _ => 0) (fun _ => 0) where
  hι c w s := by unfold L; rw [if_pos rfl]; exact Finset.mem_singleton_self _
  hιb _ _ _ := le_refl _
  hD _ _ _ h := absurd h (lt_irrefl _)

/-- The quantiser's region. -/
def R0 : RegionSeg (pcfgs (F := F)) adm (pdats m) () defs₀ Variants.none L lv 0 :=
  RegionSeg.ofHeldIn pcfgs adm (pdats m) () defs₀ Variants.none L lv 0 (fun _ => 0) (Pipeline.ucRefs τ sig)
    (fun c => iprop(∃ r, prngReg c r)) (fun c => iprop(∃ r, prngReg c r)) launch0.toP rfl
    (fun c => (body_obligation0 (V1 m) c).loose) (fun _ _ => rfl) (fun _ => rfl) (fun c => (dat0 (V1 m) c).share_full fun _ => rfl)
    (fun _ => .rfl) (fun _ => .rfl) (fun _ => 0) (levelCut 0) (fun _ => iprop(emp)) (V1 m) (fun c w => A0_eq (V1 m) c w)

/-- The product's region. -/
def R1 : RegionSeg (pcfgs (F := F)) adm (pdats m) () defs₀ Variants.none L lv 1 :=
  RegionSeg.ofHeldIn pcfgs adm (pdats m) () defs₀ Variants.none L lv 1 (fun _ => 0) (Pipeline.ucRefs τ sig)
    (fun c => iprop(∃ r, prngReg c r)) (fun c => iprop(∃ r, prngReg c r)) launch1.toP rfl
    (fun c => (body_obligation1 (W2 m) c).loose) (fun _ _ => rfl) (fun _ => rfl) (fun c => (dat1 (W2 m) c).share_full fun _ => rfl)
    (fun c => Phi1_in (W2 m) c) (fun c => Phi1_out (W2 m) c) (fun _ => 0) (levelCut 1) (fun _ => iprop(emp)) (W2 m) (fun c w => A1_eq (W2 m) c w)

/-- The regions' arrays are among the kept buffers. -/
theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)

theorem R0_pre (c : Dev nD) : iprop(StableHlo.held (c : Thread nD τ) (Pipeline.ucRefs τ sig) (V1 m c) ∗ Er c) ⊢ (R0 m).pre c :=
  RegionSeg.ofHeldIn_pre (pcs := pcfgs (F := F)) (a := adm) (pdats := pdats m) (ι := ()) (defs₀ := defs₀) (𝒱₀ := Variants.none) (L := L) (lv := lv) (p := 0)
    (D := fun _ => 0) (X := fun c => iprop(∃ r, prngReg c r)) (Y := fun c => iprop(∃ r, prngReg c r)) (R := fun _ => iprop(emp)) (W := V1 m) (sub0 (F := F)) c
theorem R0_post (c : Dev nD) : (R0 m).post c ⊢ iprop(StableHlo.held (c : Thread nD τ) (Pipeline.ucRefs τ sig) (W2 m c) ∗ Er c) :=
  RegionSeg.ofHeldIn_post (pcs := pcfgs (F := F)) (a := adm) (pdats := pdats m) (ι := ()) (defs₀ := defs₀) (𝒱₀ := Variants.none) (L := L) (lv := lv) (p := 0)
    (D := fun _ => 0) (X := fun c => iprop(∃ r, prngReg c r)) (Y := fun c => iprop(∃ r, prngReg c r)) (R := fun _ => iprop(emp)) (W := V1 m) (sub0 (F := F)) c
theorem R1_pre (c : Dev nD) : iprop(StableHlo.held (c : Thread nD τ) (Pipeline.ucRefs τ sig) (W2 m c) ∗ Er c) ⊢ (R1 m).pre c :=
  RegionSeg.ofHeldIn_pre (pcs := pcfgs (F := F)) (a := adm) (pdats := pdats m) (ι := ()) (defs₀ := defs₀) (𝒱₀ := Variants.none) (L := L) (lv := lv) (p := 1)
    (D := fun _ => 0) (X := fun c => iprop(∃ r, prngReg c r)) (Y := fun c => iprop(∃ r, prngReg c r)) (R := fun _ => iprop(emp)) (W := W2 m) (sub1 (F := F)) c
theorem R1_post (c : Dev nD) : (R1 m).post c ⊢ iprop(StableHlo.held (c : Thread nD τ) (Pipeline.ucRefs τ sig) (W3 m c) ∗ Er c) :=
  RegionSeg.ofHeldIn_post (pcs := pcfgs (F := F)) (a := adm) (pdats := pdats m) (ι := ()) (defs₀ := defs₀) (𝒱₀ := Variants.none) (L := L) (lv := lv) (p := 1)
    (D := fun _ => 0) (X := fun c => iprop(∃ r, prngReg c r)) (Y := fun c => iprop(∃ r, prngReg c r)) (R := fun _ => iprop(emp)) (W := W2 m) (sub1 (F := F)) c

/-- The host operations before the regions, from the launch contents, -/
def hseg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Er
/-- and those after them, from what the regions leave. -/
def hseg3 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) Er

/-- @main as segments. -/
abbrev msegs (c : Dev nD) : List (Seg (pcfgs (F := F)) adm (pdats m) () defs₀ Variants.none L lv) :=
  [.host (hseg0 m), .region (R0 m), .region (R1 m), .host (hseg3 m)]

set_option backward.isDefEq.respectTransparency.types false in
/-- THE RUN: every fair execution of @main terminates with every kept buffer at `W4` and every semaphore counter at zero. -/
theorem run_W4 : θ_run defs (onTc (τ := τ) (main (F := F))) ⟨m, fun _ => 0, ρ⟩ (fun r =>
    (∀ c : Dev nD, ∀ b ∈ Pipeline.ucRefs τ sig, r.2.mem (c, b) = W4 m c b) ∧ r.2.sem = fun _ => 0) := by
  refine Pipeline.θ_run_regions_kit_dev_sems (pcfgs (F := F)) adm (pdats m) () cellOf_inj emb₁ defs₀ Variants.none L lv m ρ main
    (msegs m)
    (fun c Q => by
      rewrite [main_chain c, Seg.run_eq_chain,
        show (msegs m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [msegs, Seg.pipes_host, Seg.pipes_region, Seg.pipes_nil]; decide) (O₀ := 0) (hL := fun g h => if_neg h) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄G)
            ⊢ BI.own (emb₁ (initOf (Pipeline.cells cfgs cellOf_inj) (Pipeline.launchToks cfgs cellOf_inj))) from .rfl)
        iexact Hu
      iapply (show (BI.emp : sProp 𝕄G) ⊢ bigSep Finset.univ (fun _ : Dev nD => (BI.emp : sProp 𝕄G)) from by rw [BI.bigSep_emp_const])
      iempintro)
    (T₀ := fun c => iprop(StableHlo.held (c : Thread nD τ) (Pipeline.ucRefs τ sig) (V0 m c) ∗ Er c))
    (Tₙ := fun c => StableHlo.held (c : Thread nD τ) (Pipeline.ucRefs τ sig) (W4 m c))
    (hch := fun c => ⟨.rfl, R0_pre m c, (R0_post m c).trans (R1_pre m c), R1_post m c, sep_mono .rfl (by iintro ⟨H, -⟩; iexact H)⟩)
    (hinit := by
      refine Pipeline.initEach L lv fun c => ?_
      rw [show unscopedBufs c (fun b => m ((c.tc : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem (c, b) = W4 m c b)
    (hfin := fun c s' => ?_) (hQ := fun _ h hz => ⟨h, funext fun g => hz g (.inr (regions_no_unscoped g.2))⟩)
  unfold StableHlo.held
  iintro ⟨Hh, HSI⟩
  imodintro
  iapply (pointsTo_read_all (Pipeline.ucRefs τ sig) (fun b => ((c : Thread nD τ).1, b)) (W4 m c) s')
  isplitl [Hh] <;> iassumption

/-- A buffer of the TensorCore that no core scope bounds is kept. -/
theorem kept (r : Ref sig .tc) (h : ¬ (Proc.devRef (τ := τ) .tc r).isScoped = true) (c : Dev nD) (s : MemSt nD τ sig (Elt F))
    (hs : ∀ b ∈ Pipeline.ucRefs τ sig, s.mem (c, b) = W4 m c b) : s.mem ((c : Thread nD τ).loc r) = W4 m c r :=
  hs _ (Finset.mem_filter.mpr ⟨StableHlo.devRef_mem_tcRefs r, h⟩)

/-- A buffer that is no output array of a region and no host operation's result ends as launched. -/
theorem W4_keeps (c : Dev nD) (r : Ref sig .tc) (h0 : r ∉ hostOps0_W) (h2 : r ∉ hostOps2_W)
    (hr0 : ∀ w, Pipeline.arrRef spec0 w = r → (cfg0.win w).isOut = false) (hr1 : ∀ w, Pipeline.arrRef spec1 w = r → (cfg1.win w).isOut = false) :
    W4 m c r = m ((c : Thread nD τ).loc r) :=
  (StableHlo.after_of_writes_sub hostOps2 _ hostOps2_writes h2).trans <|
    (Pipeline.afterRegion_keeps (dat1 (W2 m) c) (W2 m c) winFacts1.arr_inj (A1_eq (W2 m) c) r hr1).trans <|
      (Pipeline.afterRegion_keeps (dat0 (V1 m) c) (V1 m c) winFacts0.arr_inj (A0_eq (V1 m) c) r hr0).trans <| V1_of m c r h0

theorem W4_main_arg0 (c : Dev nD) : W4 m c main_arg0 = m ((c : Thread nD τ).loc main_arg0) := W4_keeps m c main_arg0 (by decide) (by decide) (by decide) (by decide)
theorem W4_main_arg1 (c : Dev nD) : W4 m c main_arg1 = m ((c : Thread nD τ).loc main_arg1) := W4_keeps m c main_arg1 (by decide) (by decide) (by decide) (by decide)
theorem W4_main_arg2 (c : Dev nD) : W4 m c main_arg2 = m ((c : Thread nD τ).loc main_arg2) := W4_keeps m c main_arg2 (by decide) (by decide) (by decide) (by decide)
theorem W4_main_arg3 (c : Dev nD) : W4 m c main_arg3 = m ((c : Thread nD τ).loc main_arg3) := W4_keeps m c main_arg3 (by decide) (by decide) (by decide) (by decide)

/-- THE FRAME: the arguments end as launched and every semaphore counter is zero. -/
theorem frame_W4 : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(kept m main_arg0 (by decide) c r.2 (h.1 c)).trans (W4_main_arg0 m c), (kept m main_arg1 (by decide) c r.2 (h.1 c)).trans (W4_main_arg1 m c),
      (kept m main_arg2 (by decide) c r.2 (h.1 c)).trans (W4_main_arg2 m c), (kept m main_arg3 (by decide) c r.2 (h.1 c)).trans (W4_main_arg3 m c)⟩, h.2⟩)
    (run_W4 m ρ)

end Cert.KernelIdeal.Hand

end
-- ==== Proof.Host.lean ====
/-
  What the host's reshapes leave in their results, at an index: before the regions the arguments by rows, after them the
  regions' results in the shapes of the claim.
-/
module

public import proofs.«01_k».proof.Proof.Run
public import Idealize.ShloMosaic.Lib.Pointwise
public import Idealize.ShloMosaic.Lib.StableHlo.ReadAt

@[expose] public section

set_option maxRecDepth 8192
set_option maxHeartbeats 1000000

noncomputable section

namespace Cert.KernelIdeal.Hand

open Cert.KernelIdeal.Gen Cert.Proof
open Idealize.ShloMosaic Idealize.ShloMosaic.TcCoe Idealize.ShloMosaic.Tactic
open Idealize.SL Idealize.SL.RA Idealize.SL.BI
open Idealize.ShloMosaic.Pipeline (Dat Cfg Window)

variable (m : (ℓ : Loc nD τ sig) → Buf (Elt Ideal) ℓ) (c : Dev nD)

/-- Token `(a, b)` as a row. -/
def row (i : Fin 12 × Fin 128) : Fin 1536 := ⟨i.1.val * 128 + i.2.val, by omega⟩

/-- Every row is a token. -/
theorem row_surjective : Function.Surjective row := fun i =>
  ⟨(⟨i.val / 128, by omega⟩, ⟨i.val % 128, by omega⟩), Fin.ext (by show i.val / 128 * 128 + i.val % 128 = i.val; omega)⟩

/-- The activations by rows, -/
theorem V1_v0 (a : Fin 12) (b : Fin 128) (k : Fin 2560) :
    (V1 m c main_v0 : Vec Ideal S1536x2560 .bf16) (ix2 (row (a, b)) k) = (m ((c : Thread nD τ).loc main_arg0) : Vec Ideal S12x128x2560 .bf16) (ix3 a b k) := by
  unfold V1
  after_reads_at
  exact congrArg (V0 m c main_arg0 : Vec Ideal S12x128x2560 .bf16) (congrArg₂ (fun p q => ix3 p q k)
    (Fin.ext (by show (a.val * 128 + b.val) / 128 = a.val; omega)) (Fin.ext (by show (a.val * 128 + b.val) % 128 = b.val; omega)))

/-- the gain -/
theorem V1_v1 (k : Fin 2560) : (V1 m c main_v1 : Vec Ideal S1x2560 .f32) (ix2 0 k) = (m ((c : Thread nD τ).loc main_arg1) : Vec Ideal S2560 .f32) (ix1 k) := by
  unfold V1
  after_reads_at

/-- and the weights' maxima as rows. -/
theorem V1_v2 (k : Fin 2560) : (V1 m c main_v2 : Vec Ideal S1x2560 .f32) (ix2 0 k) = (m ((c : Thread nD τ).loc main_arg3) : Vec Ideal S2560 .f32) (ix1 k) := by
  unfold V1
  after_reads_at

/-- The product by tokens, -/
theorem W4_v5 (a : Fin 12) (b : Fin 128) (n : Fin 10240) :
    (W4 m c main_v5 : Vec Ideal S12x128x10240 .bf16) (ix3 a b n) = (W3 m c main_v4_0 : Vec Ideal S1536x10240 .bf16) (ix2 (row (a, b)) n) := by
  unfold W4
  after_reads_at
  rfl

/-- the smoothing scales, -/
theorem W4_v6 (k : Fin 2560) : (W4 m c main_v6 : Vec Ideal S2560 .f32) (ix1 k) = (W3 m c main_v3_0 : Vec Ideal S1x2560 .f32) (ix2 0 k) := by
  unfold W4
  after_reads_at

/-- the weights' scales -/
theorem W4_v7 (n : Fin 10240) : (W4 m c main_v7 : Vec Ideal S10240 .f32) (ix1 n) = (W3 m c main_v4_2 : Vec Ideal S1x10240 .f32) (ix2 0 n) := by
  unfold W4
  after_reads_at

/-- and the activations' codes by tokens. -/
theorem W4_v8 (a : Fin 12) (b : Fin 128) (k : Fin 2560) :
    (W4 m c main_v8 : Vec Ideal S12x128x2560 .i8) (ix3 a b k) = (W3 m c main_v3_2 : Vec Ideal S1536x2560 .i8) (ix2 (row (a, b)) k) := by
  unfold W4
  after_reads_at
  rfl

end Cert.KernelIdeal.Hand

end
-- ==== Proof.Scalars.lean ====
/-
  Facts about single extended reals that both the kernel and the reference compute with: what three constants denote,
  the square root as the power one half, running maxima by their upper bounds, and the two scalar formulas of the
  quantisation.
-/
module

public import Idealize.ShloMosaic.Lib.Pointwise
public import Idealize.ShloMosaic.PureOps.Ideal.Laws
public import proofs.«01_k».proof.Proof.Fold

@[expose] public section

noncomputable section

namespace Cert.Proof

open Idealize.ShloMosaic Idealize.ShloMosaic.TcCoe Idealize.ShloMosaic.Tactic

/-- The initial value of the maximum reductions is the least extended real. -/
theorem ofBits_bot : Ideal.ofBits .f32 0xFF800000#32 = (⊥ : EReal) := by
  show Ideal.ieee 8 23 0xFF800000#32 = ⊥
  unfold Ideal.ieee
  have h1 : (0xFF800000#32).extractLsb' (8 + 23) 1 = 1#1 := by decide
  have h2 : ((0xFF800000#32).extractLsb' 23 8).toNat = 2 ^ 8 - 1 := by decide
  have h3 : ((0xFF800000#32).extractLsb' 0 23).toNat = 0 := by decide
  simp [h1, h2, h3]

/-- The exponent constant is one half. -/
theorem ofBits_half : Ideal.ofBits .f32 0x3F000000#32 = (((1 / 2 : ℝ)) : EReal) := by
  show Ideal.ieee 8 23 0x3F000000#32 = _
  unfold Ideal.ieee
  have h1 : (0x3F000000#32).extractLsb' (8 + 23) 1 = 0#1 := by decide
  have h2 : ((0x3F000000#32).extractLsb' 23 8).toNat = 126 := by decide
  have h3 : ((0x3F000000#32).extractLsb' 0 23).toNat = 0 := by decide
  simp only [h1, h2, h3]
  norm_num

/-- The floor under the maxima is not negative. -/
theorem ofBits_eps : (0 : EReal) ≤ Ideal.ofBits .f32 0x3727C5AC#32 := by
  show (0 : EReal) ≤ Ideal.ieee 8 23 0x3727C5AC#32
  unfold Ideal.ieee
  have h1 : (0x3727C5AC#32).extractLsb' (8 + 23) 1 = 0#1 := by decide
  have h2 : ((0x3727C5AC#32).extractLsb' 23 8).toNat = 110 := by decide
  simp only [h1, h2]
  rw [if_neg (by decide), if_neg (by decide)]
  rw [← EReal.coe_zero, EReal.coe_le_coe_iff]
  simp only [Bool.false_eq_true, if_false, show ((0#1 : BitVec 1) == 1#1) = false from rfl]
  positivity

/-- On values that are not negative the square root is the power one half. -/
theorem sqrt_eq_pow {a : EReal} (h : 0 ≤ a) : Ideal.sqrt a = Ideal.pow a (Ideal.ofBits .f32 0x3F000000#32) := by
  rw [ofBits_half]
  induction a with
  | bot => exact absurd h (by simp)
  | top =>
    show (⊤ : EReal) = if (0 : EReal) < (((1 / 2 : ℝ)) : EReal) then ⊤ else _
    rw [if_pos]
    rw [← EReal.coe_zero, EReal.coe_lt_coe_iff]; norm_num
  | coe r =>
    have hr : 0 ≤ r := by rwa [← EReal.coe_zero, EReal.coe_le_coe_iff] at h
    show (if r < 0 then (⊥ : EReal) else (Real.sqrt r : EReal)) = ((Real.rpow r (1 / 2) : ℝ) : EReal)
    rw [if_neg (not_lt.mpr hr), Real.sqrt_eq_rpow]; rfl

/-- An absolute value is not negative. -/
theorem abs_nonneg' (v : EReal) : 0 ≤ max v (-v) := by
  rcases le_total 0 v with h | h
  · exact le_max_of_le_left h
  · exact le_max_of_le_right (by simpa using EReal.neg_le_neg_iff.mpr h)

/-- The absolute value of an extended real. -/
abbrev eabs (v : EReal) : EReal := max v (-v)

/-- A maximum reduction over one axis is the supremum. -/
theorem fold_max {n : ℕ} (f : Fin n → EReal) : Finset.fold max (Ideal.ofBits .f32 0xFF800000#32) f Finset.univ = ⨆ k, f k := by
  refine eq_of_forall_ge_iff fun c => ?_
  rw [ofBits_bot, Finset.fold_max_le, iSup_le_iff]
  simp

/-- A value carried by taking maxima is bounded by what bounds its start and each trip's value. -/
theorem carried_le {ι : Type} (n : ℕ) (B : Fin n → EReal) (f : Fin n → (ι → EReal) → ι → EReal) (i : ι)
    (hf : ∀ k a, f k a i = max (a i) (B k)) (a : ι → EReal) (c : EReal) :
    ∀ m, m ≤ n → (carried n f a m i ≤ c ↔ a i ≤ c ∧ ∀ k : Fin n, k.val < m → B k ≤ c) := by
  intro m
  induction m with
  | zero => intro _; simp [carried]
  | succ m ih =>
    intro hm
    have hk : m < n := hm
    rw [show carried n f a (m + 1) = f ⟨m, hk⟩ (carried n f a m) from carried_succ n f a ⟨m, hk⟩, hf, max_le_iff, ih (by omega)]
    constructor
    · rintro ⟨⟨h0, h1⟩, h2⟩
      refine ⟨h0, fun k hk' => ?_⟩
      rcases Nat.lt_succ_iff_lt_or_eq.mp hk' with h | h
      · exact h1 k h
      · rw [show k = ⟨m, hk⟩ from Fin.ext h]; exact h2
    · rintro ⟨h0, h1⟩
      exact ⟨⟨h0, fun k h => h1 k (by omega)⟩, h1 _ (by simp)⟩

/-- After all trips. -/
theorem carried_le_all {ι : Type} (n : ℕ) (B : Fin n → EReal) (f : Fin n → (ι → EReal) → ι → EReal) (i : ι)
    (hf : ∀ k a, f k a i = max (a i) (B k)) (a : ι → EReal) (c : EReal) :
    carried n f a n i ≤ c ↔ a i ≤ c ∧ ∀ k : Fin n, B k ≤ c :=
  (carried_le n B f i hf a c n le_rfl).trans ⟨fun h => ⟨h.1, fun k => h.2 k k.isLt⟩, fun h => ⟨h.1, fun k _ => h.2 k⟩⟩

/-- The scale that goes with a maximum: one for zero, else the maximum over 127. -/
def scaleOf (a : EReal) : EReal := if a = 0 then 1 else Ideal.div a (Ideal.ofBits .f32 1123942400#32)

/-- That scale computed element by element. -/
theorem scale_at {s : Shape} (m : FVec Ideal s .f32) (j : s.Idx) :
    select (cmpf .oeq m (broadcast s (Scalar.ofBits .f32 0x00000000#32))) (broadcast s (Scalar.ofBits .f32 0x3F800000#32))
      (divf m (broadcast s (Scalar.ofBits .f32 0x42FE0000#32))) j = scaleOf (m j) := by
  pointwise
  rfl

/-- The eight-bit code of a value. -/
def codeOf (v : EReal) : BitVec 8 :=
  FloatOps.fptosi (F := Ideal) (φ := .f32) 8 (min (((127#32).toInt : ℝ) : EReal) (max (((4294967169#32).toInt : ℝ) : EReal) (Ideal.liftRound Ideal.roundHalfEven v)))

/-- The reciprocal root mean square of a row. -/
def rmsOf (x : Fin 2560 → EReal) : EReal :=
  Ideal.rsqrt (Ideal.div (∑ k, x k * x k) (Ideal.ofBits .f32 1159725056#32) + Ideal.ofBits .f32 897988541#32)

/-- The smoothing scale from a column's two maxima. -/
def smoothOf (a w : EReal) : EReal :=
  Ideal.div (Ideal.sqrt (max a (Ideal.ofBits .f32 925353388#32))) (Ideal.sqrt (max w (Ideal.ofBits .f32 925353388#32)))

/-- It may be computed with powers one half. -/
theorem smoothOf_eq_pow (a w : EReal) : smoothOf a w =
    Ideal.div (Ideal.pow (max a (Ideal.ofBits .f32 925353388#32)) (Ideal.ofBits .f32 0x3F000000#32))
      (Ideal.pow (max w (Ideal.ofBits .f32 925353388#32)) (Ideal.ofBits .f32 0x3F000000#32)) := by
  unfold smoothOf
  rw [sqrt_eq_pow (le_max_of_le_right ofBits_eps), sqrt_eq_pow (le_max_of_le_right ofBits_eps)]

/-! ### The layer as plain formulas, over any set of tokens -/

section Layer

variable {ι : Type} (X : ι → Fin 2560 → EReal) (g w : Fin 2560 → EReal)

/-- The normalised activation of token `i` in column `k`. -/
def hOf (i : ι) (k : Fin 2560) : EReal := X i k * rmsOf (X i) * g k
/-- The smoothing scale of column `k`. -/
def sOf (k : Fin 2560) : EReal := smoothOf (⨆ i, eabs (hOf X g i k)) (w k)
/-- The smoothed activation. -/
def vOf (i : ι) (k : Fin 2560) : EReal := Ideal.div (hOf X g i k) (sOf X g w k)
/-- The scale of token `i`. -/
def xsOf (i : ι) : EReal := scaleOf (⨆ k, eabs (vOf X g w i k))
/-- The activation's code. -/
def xcOf (i : ι) (k : Fin 2560) : BitVec 8 := codeOf (Ideal.div (vOf X g w i k) (xsOf X g w i))

/-- The scale of a column `W` of weights under the smoothing scales `s`. -/
def wsOf (W s : Fin 2560 → EReal) : EReal := scaleOf (⨆ k, eabs (W k * s k))
/-- The weight's code. -/
def wcOf (W s : Fin 2560 → EReal) (k : Fin 2560) : BitVec 8 := codeOf (Ideal.div (W k * s k) (wsOf W s))

/-- An eight-bit code as a number. -/
abbrev numOf (b : BitVec 8) : EReal := FloatOps.sitofp (F := Ideal) .bf16 b

/-- The product's entry for token `i` and the weight column `W`. -/
def yOf (W : Fin 2560 → EReal) (i : ι) : EReal :=
  (∑ k, numOf (xcOf X g w i k) * numOf (wcOf W (sOf X g w) k)) * xsOf X g w i * wsOf W (sOf X g w)

variable {κ : Type} (e : κ → ι) (he : Function.Surjective e)
include he

/-- Naming the tokens otherwise changes no smoothing scale, -/
theorem sOf_comp : sOf (fun j => X (e j)) g w = sOf X g w := by
  funext k
  unfold sOf
  congr 1
  exact he.iSup_comp (fun i => eabs (hOf X g i k))
/-- no smoothed activation, -/
theorem vOf_comp (j : κ) : vOf (fun j => X (e j)) g w j = vOf X g w (e j) := by
  funext k
  unfold vOf
  rw [sOf_comp X g w e he]; rfl
/-- no token scale, -/
theorem xsOf_comp (j : κ) : xsOf (fun j => X (e j)) g w j = xsOf X g w (e j) := by
  unfold xsOf
  rw [vOf_comp X g w e he]
/-- no code -/
theorem xcOf_comp (j : κ) : xcOf (fun j => X (e j)) g w j = xcOf X g w (e j) := by
  funext k
  unfold xcOf
  rw [vOf_comp X g w e he, xsOf_comp X g w e he]
/-- and no entry of the product. -/
theorem yOf_comp (W : Fin 2560 → EReal) (j : κ) : yOf (fun j => X (e j)) g w W j = yOf X g w W (e j) := by
  unfold yOf
  rw [xcOf_comp X g w e he, xsOf_comp X g w e he, sOf_comp X g w e he]

end Layer

end Cert.Proof

end
-- ==== Proof.ActValue.lean ====
/-
  The activation quantiser's results over the extended reals, element by element: each is the plain formula of the layer,
  its running and partial maxima being the suprema they compute.
-/
module

public import proofs.«01_k».proof.Proof.Scalars
public import proofs.«01_k».proof.Proof.ASpec
public import Idealize.ShloMosaic.Lib.Pointwise

@[expose] public section

set_option maxRecDepth 8192
set_option maxHeartbeats 1000000

noncomputable section

namespace Cert.KernelIdeal.Hand

open Cert.KernelIdeal.Gen Cert.Proof
open Idealize.ShloMosaic Idealize.ShloMosaic.TcCoe Idealize.ShloMosaic.Tactic

/-! ### The quantiser's steps at an element -/

section Steps

variable (X : Vec Ideal S32x2560 .bf16) (r : Vec Ideal S32x1 .f32) (g s : Vec Ideal S1x2560 .f32)

/-- A row's reciprocal root mean square. -/
theorem pay9_at (a : Fin 32) (b : Fin 1) : k0_pay9 X (ix2 a b) = rmsOf (fun k => X (ix2 a k)) := by
  unfold k0_pay9 k0_pay8
  pointwise
  rfl

/-- It is replicated. -/
theorem pay10_at (a : Fin 32) (b : Fin 128) : k0_pay10 X (ix2 a b) = rmsOf (fun k => X (ix2 a k)) := by
  rw [← pay9_at X a 0]
  unfold k0_pay10
  pointwise

/-- One step of the running maxima. -/
theorem pay11_at (acc : Vec Ideal S8x2560 .f32) (a : Fin 8) (b : Fin 2560) :
    k0_pay11 X g acc (ix2 a b) = max (acc (ix2 a b)) (⨆ q : Fin 4, eabs (X (ix2 ⟨q.val * 8 + a.val, by omega⟩ b)
      * rmsOf (fun k => X (ix2 ⟨q.val * 8 + a.val, by omega⟩ k)) * g (ix2 0 b))) := by
  rw [← fold_max]
  simp only [← pay9_at X _ 0]
  unfold k0_pay11 k0_pay8
  pointwise
  rfl

/-- The smoothing scales from the eight partial maxima. -/
theorem pay12_at (m : Vec Ideal S8x2560 .f32) (w : Vec Ideal S1x2560 .f32) (b : Fin 2560) :
    k0_pay12 m w (ix2 0 b) = smoothOf (⨆ a : Fin 8, m (ix2 a b)) (w (ix2 0 b)) := by
  rw [← fold_max]
  unfold k0_pay12
  pointwise
  rfl

/-- The smoothed activations. -/
theorem pay3_at (a : Fin 32) (b : Fin 2560) :
    k0_pay3 X r g s (ix2 a b) = Ideal.div (X (ix2 a b) * r (ix2 a 0) * g (ix2 0 b)) (s (ix2 0 b)) := by
  unfold k0_pay3
  pointwise

/-- The rows' scales. -/
theorem pay4_at (a : Fin 32) (b : Fin 1) : k0_pay4 X r g s (ix2 a b) = scaleOf (⨆ k, eabs (k0_pay3 X r g s (ix2 a k))) := by
  rw [← fold_max]
  unfold k0_pay4
  pointwise
  rfl

/-- The codes. -/
theorem pay5_at (a : Fin 32) (b : Fin 2560) :
    k0_pay5 X r g s (ix2 a b) = codeOf (Ideal.div (k0_pay3 X r g s (ix2 a b)) (k0_pay4 X r g s (ix2 a 0))) := by
  unfold k0_pay5
  pointwise
  rfl

/-- The rows' scales, replicated. -/
theorem pay6_at (a : Fin 32) (b : Fin 128) : k0_pay6 X r g s (ix2 a b) = k0_pay4 X r g s (ix2 a 0) := by
  unfold k0_pay6
  pointwise

/-- The running maxima start at zero. -/
theorem pay7_at (y : S8x2560.Idx) : k0_pay7 (F := Ideal) y = (0 : EReal) := Ideal.ofBits_zero_f32

end Steps

/-! ### Whole arrays at an element -/

variable (x : Vec Ideal S1536x2560 .bf16) (g w : Vec Ideal S1x2560 .f32)

/-- Place `(a, b)` of block `k`. -/
theorem xBlk_at (k : Fin 48) (a : Fin 32) (b : Fin 2560) :
    xBlk x _ (inbX k) (ix2 a b) = x (ix2 ⟨32 * k.val + a.val, by omega⟩ b) := by
  refine congrArg x (funext (Fin.forall_fin_two.mpr ⟨Fin.ext ?_, Fin.ext ?_⟩))
  · show 32 * k.val + 1 * a.val = 32 * k.val + a.val; omega
  · show 0 + 1 * b.val = b.val; omega

/-- The block place of row `i`. -/
theorem xBlk_row (i : Fin 1536) (b : Fin 2560) :
    xBlk x _ (inbX ⟨i.val / 32, by omega⟩) (ix2 ⟨i.val % 32, by omega⟩ b) = x (ix2 i b) := by
  rw [xBlk_at]
  congr 2
  exact Fin.ext (by show 32 * (i.val / 32) + i.val % 32 = i.val; omega)

theorem rBlk_row (r : Vec Ideal S1536x128 .f32) (i : Fin 1536) :
    rBlk r ⟨i.val / 32, by omega⟩ (ix2 ⟨i.val % 32, by omega⟩ 0) = r (ix2 i 0) := by
  refine congrArg r (funext (Fin.forall_fin_two.mpr ⟨Fin.ext ?_, Fin.ext ?_⟩))
  · show 32 * (i.val / 32) + 1 * (i.val % 32) = i.val; omega
  · show 0 + 1 * 0 = 0; omega

/-- The activations' rows, -/
abbrev xf (i : Fin 1536) (k : Fin 2560) : EReal := x (ix2 i k)
/-- and a row vector's entries. -/
abbrev rf (g : Vec Ideal S1x2560 .f32) (k : Fin 2560) : EReal := g (ix2 0 k)

/-- The row statistics. -/
theorem actR_at (i : Fin 1536) (b : Fin 128) : actR x (ix2 i b) = rmsOf (xf x i) := by
  show k0_pay10 (xBlk x _ (inbX ⟨i.val / 32, _⟩)) (ix2 ⟨i.val % 32, _⟩ b) = _
  rw [pay10_at]
  exact congrArg rmsOf (funext fun k => xBlk_row x i k)

/-- What bounds a partial maximum. -/
theorem actMax_le (a : Fin 8) (b : Fin 2560) (c : EReal) : @LE.le EReal _ (actMax x g (ix2 a b)) c ↔
    0 ≤ c ∧ ∀ k : Fin 48, ∀ q : Fin 4, eabs (hOf (xf x) (rf g) ⟨32 * k.val + (q.val * 8 + a.val), by omega⟩ b) ≤ c := by
  refine (carried_le_all 48 (fun k => ⨆ q : Fin 4, eabs (hOf (xf x) (rf g) ⟨32 * k.val + (q.val * 8 + a.val), by omega⟩ b)) _ _ (fun k acc => ?_) _ c).trans ?_
  · refine (pay11_at _ _ _ _ _).trans (congrArg (max _) (iSup_congr fun q => ?_))
    exact congrArg eabs (congrArg₂ (· * ·) (congrArg₂ (· * ·) (xBlk_at x k _ b) (congrArg rmsOf (funext fun b' => xBlk_at x k _ b'))) rfl)
  · rw [pay7_at]
    simp only [iSup_le_iff]

/-- The smoothing scales. -/
theorem actS_at (b : Fin 2560) : actS x g w (ix2 0 b) = sOf (xf x) (rf g) (rf w) b := by
  unfold actS
  rw [pay12_at]
  unfold sOf
  congr 1
  refine eq_of_forall_ge_iff fun c => ?_
  refine iSup_le_iff.trans ((forall_congr' fun a => actMax_le x g a b c).trans (Iff.trans ?_ iSup_le_iff.symm))
  constructor
  · intro h i
    have := (h ⟨i.val % 8, by omega⟩).2 ⟨i.val / 32, by omega⟩ ⟨i.val % 32 / 8, by omega⟩
    have e : (⟨32 * (i.val / 32) + (i.val % 32 / 8 * 8 + i.val % 8), by omega⟩ : Fin 1536) = i := Fin.ext (by show 32 * (i.val / 32) + (i.val % 32 / 8 * 8 + i.val % 8) = i.val; omega)
    rw [← e]; exact this
  · exact fun h a => ⟨(abs_nonneg' _).trans (h 0), fun k q => h _⟩

/-- The smoothed activations. -/
theorem smooth_at (i : Fin 1536) (b : Fin 2560) :
    k0_pay3 (xBlk x _ (inbX ⟨i.val / 32, by omega⟩)) (rBlk (actR x) ⟨i.val / 32, by omega⟩) g (actS x g w) (ix2 ⟨i.val % 32, by omega⟩ b)
      = vOf (xf x) (rf g) (rf w) i b := by
  rw [pay3_at, xBlk_row, rBlk_row, actR_at, actS_at]
  rfl

/-- The rows' scales, -/
theorem scale_row (i : Fin 1536) (b : Fin 1) :
    k0_pay4 (xBlk x _ (inbX ⟨i.val / 32, by omega⟩)) (rBlk (actR x) ⟨i.val / 32, by omega⟩) g (actS x g w) (ix2 ⟨i.val % 32, by omega⟩ b)
      = xsOf (xf x) (rf g) (rf w) i :=
  (pay4_at _ _ _ _ _ _).trans (congrArg scaleOf (iSup_congr fun k => congrArg eabs (smooth_at x g w i k)))

/-- replicated. -/
theorem actXs_at (i : Fin 1536) (b : Fin 128) : actXs x g w (ix2 i b) = xsOf (xf x) (rf g) (rf w) i := by
  unfold actXs scalesOf
  rw [rows_at _ (ix2 i b) ⟨i.val / 32, by omega⟩ (ix2 ⟨i.val % 32, by omega⟩ b) (by show i.val = 32 * (i.val / 32) + i.val % 32; omega) rfl]
  exact (pay6_at _ _ _ _ _ _).trans (scale_row x g w i 0)

/-- The codes. -/
theorem actCode_at (i : Fin 1536) (b : Fin 2560) : actCode x g w (ix2 i b) = xcOf (xf x) (rf g) (rf w) i b :=
  (pay5_at _ _ _ _ _ _).trans (congrArg codeOf (congrArg₂ Ideal.div (smooth_at x g w i b) (scale_row x g w i 0)))

end Cert.KernelIdeal.Hand

end
-- ==== Proof.QValue.lean ====
/-
  The product kernel's results over the extended reals, element by element: each block's codes, scales and products are
  the plain formulas of the layer.
-/
module

public import proofs.«01_k».proof.Proof.Scalars
public import proofs.«01_k».proof.Proof.ASpec
public import proofs.«01_k».proof.Proof.QSpec
public import Idealize.ShloMosaic.Lib.Pointwise

@[expose] public section

set_option maxRecDepth 8192
set_option maxHeartbeats 1000000

noncomputable section

namespace Cert.KernelIdeal.Hand

open Cert.KernelIdeal.Gen Cert.Proof
open Idealize.ShloMosaic Idealize.ShloMosaic.TcCoe Idealize.ShloMosaic.Tactic

/-! ### The steps at an element -/

/-- One step of the running maxima. -/
theorem qpay6_at (acc : FVec Ideal S8x128 .f32) (w : Vec Ideal S32x128 .bf16) (s : Vec Ideal S32x128 .f32) (a : Fin 8) (b : Fin 128) :
    k1_pay6 acc w s (ix2 a b) = max (acc (ix2 a b))
      (⨆ q : Fin 4, eabs (w (ix2 ⟨q.val * 8 + a.val, by omega⟩ b) * s (ix2 ⟨q.val * 8 + a.val, by omega⟩ b))) := by
  rw [← fold_max]
  unfold k1_pay6
  pointwise
  rfl

/-- The scales from the eight partial maxima. -/
theorem qpay7_at (acc : FVec Ideal S8x128 .f32) (b : Fin 128) : k1_pay7 acc (ix2 0 b) = scaleOf (⨆ a : Fin 8, acc (ix2 a b)) := by
  rw [← fold_max]
  unfold k1_pay7
  pointwise
  rfl

/-- The codes. -/
theorem qpay8_at (acc : FVec Ideal S8x128 .f32) (w : Vec Ideal S32x128 .bf16) (s : Vec Ideal S32x128 .f32) (a : Fin 32) (b : Fin 128) :
    k1_pay8 acc w s (ix2 a b) = codeOf (Ideal.div (w (ix2 a b) * s (ix2 a b)) (k1_pay7 acc (ix2 0 b))) := by
  unfold k1_pay8
  pointwise
  rfl

/-- The codes as numbers. -/
theorem qpay9_at (acc : FVec Ideal S8x128 .f32) (w : Vec Ideal S32x128 .bf16) (s : Vec Ideal S32x128 .f32) (a : Fin 32) (b : Fin 128) :
    k1_pay9 acc w s (ix2 a b) = numOf (k1_pay8 acc w s (ix2 a b)) := by
  unfold k1_pay9
  pointwise

/-- The activations' codes as numbers. -/
theorem qpay4_at (x : Vec Ideal S1536x2560 .i8) (a : Fin 1536) (b : Fin 2560) : k1_pay4 (F := Ideal) x (ix2 a b) = numOf (x (ix2 a b)) := by
  unfold k1_pay4
  pointwise

/-- The scaled product. -/
theorem qpay3_at (x : Vec Ideal S1536x2560 .bf16) (w : Vec Ideal S2560x512 .bf16) (xs : Vec Ideal S1536x1 .f32) (ws : Vec Ideal S1x512 .f32)
    (a : Fin 1536) (b : Fin 512) :
    k1_pay3 x w xs ws (ix2 a b) = (∑ k, x (ix2 a k) * w (ix2 k b)) * xs (ix2 a 0) * ws (ix2 0 b) := by
  unfold k1_pay3
  pointwise

/-- The running maxima start at zero. -/
theorem qpay5_at (y : S8x128.Idx) : k1_pay5 (F := Ideal) y = (0 : EReal) := Ideal.ofBits_zero_f32

/-! ### A block of columns at an element -/

variable (w : Vec Ideal S2560x512 .bf16) (s : Vec Ideal S1x2560 .f32)

/-- Place `(a, b)` of tile `(j, k)` of the weights, -/
theorem wBlk_at (j : Fin 4) (k : Fin 80) (a : Fin 32) (b : Fin 128) :
    wBlk w _ (inbW j k) (ix2 a b) = w (ix2 ⟨32 * k.val + a.val, by omega⟩ ⟨128 * j.val + b.val, by omega⟩) := by
  refine congrArg w (funext (Fin.forall_fin_two.mpr ⟨Fin.ext ?_, Fin.ext ?_⟩))
  · show 32 * k.val + 1 * a.val = 32 * k.val + a.val; omega
  · show 128 * j.val + 1 * b.val = 128 * j.val + b.val; omega

/-- and of the replicated smoothing scales. -/
theorem sBlk_at (k : Fin 80) (a : Fin 32) (b : Fin 128) :
    sBlk (repl s) _ (inbS k) (ix2 a b) = s (ix2 0 ⟨32 * k.val + a.val, by omega⟩) := by
  refine congrArg (fun i => s (ix2 0 i)) (Fin.ext ?_)
  show 32 * k.val + 1 * a.val = 32 * k.val + a.val; omega

/-- A column of the block, -/
abbrev wcol (n : Fin 512) (k : Fin 2560) : EReal := w (ix2 k n)
/-- and the smoothing scales. -/
abbrev srow (k : Fin 2560) : EReal := s (ix2 0 k)

/-- What bounds a partial maximum. -/
theorem qMax_le (j : Fin 4) (a : Fin 8) (b : Fin 128) (c : EReal) : @LE.le EReal _ (qMax w (repl s) j (ix2 a b)) c ↔
    0 ≤ c ∧ ∀ k : Fin 80, ∀ q : Fin 4, eabs (w (ix2 ⟨32 * k.val + (q.val * 8 + a.val), by omega⟩ ⟨128 * j.val + b.val, by omega⟩)
      * s (ix2 0 ⟨32 * k.val + (q.val * 8 + a.val), by omega⟩)) ≤ c := by
  refine (carried_le_all 80 (fun k => ⨆ q : Fin 4, eabs (w (ix2 ⟨32 * k.val + (q.val * 8 + a.val), by omega⟩ ⟨128 * j.val + b.val, by omega⟩)
      * s (ix2 0 ⟨32 * k.val + (q.val * 8 + a.val), by omega⟩))) _ _ (fun k acc => ?_) _ c).trans ?_
  · refine (qpay6_at _ _ _ _ _).trans (congrArg (max _) (iSup_congr fun q => ?_))
    exact congrArg eabs (congrArg₂ (· * ·) (wBlk_at w j k _ b) (sBlk_at s k _ b))
  · rw [qpay5_at]
    simp only [iSup_le_iff]

/-- A column's scale. -/
theorem qScale_at (j : Fin 4) (b : Fin 128) :
    k1_pay7 (qMax w (repl s) j) (ix2 0 b) = wsOf (wcol w ⟨128 * j.val + b.val, by omega⟩) (srow s) := by
  rw [qpay7_at]
  unfold wsOf
  congr 1
  refine eq_of_forall_ge_iff fun c => ?_
  refine iSup_le_iff.trans ((forall_congr' fun a => qMax_le w s j a b c).trans (Iff.trans ?_ iSup_le_iff.symm))
  constructor
  · intro h i
    have := (h ⟨i.val % 8, by omega⟩).2 ⟨i.val / 32, by omega⟩ ⟨i.val % 32 / 8, by omega⟩
    have e : (⟨32 * (i.val / 32) + (i.val % 32 / 8 * 8 + i.val % 8), by omega⟩ : Fin 2560) = i := Fin.ext (by show 32 * (i.val / 32) + (i.val % 32 / 8 * 8 + i.val % 8) = i.val; omega)
    rw [← e]; exact this
  · exact fun h a => ⟨(abs_nonneg' _).trans (h 0), fun k q => h _⟩

/-- The block's scales. -/
theorem wScale_ix (n : Fin 512) : wScale w (repl s) (ix2 0 n) = wsOf (wcol w n) (srow s) := by
  refine (qScale_at w s ⟨n.val / 128, by omega⟩ ⟨n.val % 128, by omega⟩).trans ?_
  have e : (⟨128 * (n.val / 128) + n.val % 128, by omega⟩ : Fin 512) = n := Fin.ext (by show 128 * (n.val / 128) + n.val % 128 = n.val; omega)
  exact congrArg (fun i => wsOf (wcol w i) (srow s)) e

/-- The block's codes. -/
theorem wCode_ix (k : Fin 2560) (n : Fin 512) : wCode w (repl s) (ix2 k n) = wcOf (wcol w n) (srow s) k := by
  show k1_pay8 (qMax w (repl s) ⟨n.val / 128, _⟩) (wBlk w _ (inbW ⟨n.val / 128, _⟩ ⟨k.val / 32, _⟩)) (sBlk (repl s) _ (inbS ⟨k.val / 32, _⟩)) (ix2 ⟨k.val % 32, _⟩ ⟨n.val % 128, _⟩) = _
  rw [qpay8_at, wBlk_at, sBlk_at, qScale_at]
  have e : ∀ h, (⟨128 * (n.val / 128) + n.val % 128, h⟩ : Fin 512) = n := fun h => Fin.ext (by show 128 * (n.val / 128) + n.val % 128 = n.val; omega)
  have e' : ∀ h, (⟨32 * (k.val / 32) + k.val % 32, h⟩ : Fin 2560) = k := fun h => Fin.ext (by show 32 * (k.val / 32) + k.val % 32 = k.val; omega)
  dsimp only
  rw [e, e']
  rfl

/-- The same codes as numbers. -/
theorem wOper_ix (k : Fin 2560) (n : Fin 512) : wOper w (repl s) (ix2 k n) = numOf (wCode w (repl s) (ix2 k n)) :=
  qpay9_at _ _ _ _ _

/-- The block's products, from the activations' codes `xc` and scales `xs`. -/
theorem yBlk_ix (xc : Vec Ideal S1536x2560 .i8) (xs : Vec Ideal S1536x128 .f32) (i : Fin 1536) (n : Fin 512) :
    yBlk (k1_pay4 (F := Ideal) xc) w (repl s) xs (ix2 i n)
      = (∑ k, numOf (xc (ix2 i k)) * numOf (wcOf (wcol w n) (srow s) k)) * xs (ix2 i 0) * wsOf (wcol w n) (srow s) := by
  unfold yBlk
  rw [qpay3_at, wScale_ix]
  simp only [qpay4_at, wOper_ix, wCode_ix]
  congr 2
  refine congrArg xs (funext (Fin.forall_fin_two.mpr ⟨Fin.ext ?_, Fin.ext ?_⟩))
  · show 0 + 1 * i.val = i.val; omega
  · show 0 + 1 * 0 = 0; omega

end Cert.KernelIdeal.Hand

end
-- ==== Proof.Arrays.lean ====
/-
  What the quantiser's region leaves in its result arrays: its single point writes whole arrays.
-/
module

public import proofs.«01_k».proof.Proof.Run
public import proofs.«01_k».proof.Proof.QValue
public import Idealize.ShloMosaic.Lib.Pipeline.Value
public import Idealize.ShloMosaic.Lib.Pointwise

@[expose] public section

set_option maxRecDepth 8192
set_option maxHeartbeats 1000000

noncomputable section

namespace Cert.KernelIdeal.Hand

open Cert.KernelIdeal.Gen Cert.Proof
open Idealize.ShloMosaic Idealize.ShloMosaic.TcCoe Idealize.ShloMosaic.Tactic
open Idealize.SL Idealize.SL.RA Idealize.SL.BI
open Idealize.ShloMosaic.Pipeline (Dat Cfg Window)

/-! ### The quantiser's arrays -/

section Region0

variable {F : FTy → Type} [FloatOps F] (V : Dev nD → Valuation τ sig (Elt F)) (c : Dev nD)

/-- An index of window 0's block is the same index of its array. -/
theorem emb0_0 (t : Fin cfg0.N) (j : S1536x2560.Idx) : ((cfg0.win 0).blk t).view.emb j = j := by
  obtain ⟨e0, e1⟩ := (by decide +kernel : ∀ t : Fin grid0.N, win0_0.index t (0 : Fin 2) = 0 ∧ win0_0.index t (1 : Fin 2) = 0) t
  funext a; apply Fin.ext
  match a with
  | ⟨0, _⟩ => show win0_0.index t (0 : Fin 2) * 1536 + 1 * (j 0).val = (j 0).val; omega
  | ⟨1, _⟩ => show win0_0.index t (1 : Fin 2) * 2560 + 1 * (j 1).val = (j 1).val; omega

/-- An index of window 1's block is the same index of its array. -/
theorem emb0_1 (t : Fin cfg0.N) (j : S1x2560.Idx) : ((cfg0.win 1).blk t).view.emb j = j := by
  obtain ⟨e0, e1⟩ := (by decide +kernel : ∀ t : Fin grid0.N, win0_1.index t (0 : Fin 2) = 0 ∧ win0_1.index t (1 : Fin 2) = 0) t
  funext a; apply Fin.ext
  match a with
  | ⟨0, _⟩ => show win0_1.index t (0 : Fin 2) * 1 + 1 * (j 0).val = (j 0).val; omega
  | ⟨1, _⟩ => show win0_1.index t (1 : Fin 2) * 2560 + 1 * (j 1).val = (j 1).val; omega

/-- An index of window 2's block is the same index of its array. -/
theorem emb0_2 (t : Fin cfg0.N) (j : S1x2560.Idx) : ((cfg0.win 2).blk t).view.emb j = j := by
  obtain ⟨e0, e1⟩ := (by decide +kernel : ∀ t : Fin grid0.N, win0_2.index t (0 : Fin 2) = 0 ∧ win0_2.index t (1 : Fin 2) = 0) t
  funext a; apply Fin.ext
  match a with
  | ⟨0, _⟩ => show win0_2.index t (0 : Fin 2) * 1 + 1 * (j 0).val = (j 0).val; omega
  | ⟨1, _⟩ => show win0_2.index t (1 : Fin 2) * 2560 + 1 * (j 1).val = (j 1).val; omega

/-- An index of window 3's block is the same index of its array. -/
theorem emb0_3 (t : Fin cfg0.N) (j : S1x2560.Idx) : ((cfg0.win 3).blk t).view.emb j = j := by
  obtain ⟨e0, e1⟩ := (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 1 + 1 * (j 0).val = (j 0).val; omega
  | ⟨1, _⟩ => show win0_3.index t (1 : Fin 2) * 2560 + 1 * (j 1).val = (j 1).val; omega

/-- An index of window 4's block is the same index of its array. -/
theorem emb0_4 (t : Fin cfg0.N) (j : S2560x128.Idx) : ((cfg0.win 4).blk t).view.emb j = j := by
  obtain ⟨e0, e1⟩ := (by decide +kernel : ∀ t : Fin grid0.N, win0_4.index t (0 : Fin 2) = 0 ∧ win0_4.index t (1 : Fin 2) = 0) t
  funext a; apply Fin.ext
  match a with
  | ⟨0, _⟩ => show win0_4.index t (0 : Fin 2) * 2560 + 1 * (j 0).val = (j 0).val; omega
  | ⟨1, _⟩ => show win0_4.index t (1 : Fin 2) * 128 + 1 * (j 1).val = (j 1).val; omega

/-- An index of window 5's block is the same index of its array. -/
theorem emb0_5 (t : Fin cfg0.N) (j : S1536x2560.Idx) : ((cfg0.win 5).blk t).view.emb j = j := by
  obtain ⟨e0, e1⟩ := (by decide +kernel : ∀ t : Fin grid0.N, win0_5.index t (0 : Fin 2) = 0 ∧ win0_5.index t (1 : Fin 2) = 0) t
  funext a; apply Fin.ext
  match a with
  | ⟨0, _⟩ => show win0_5.index t (0 : Fin 2) * 1536 + 1 * (j 0).val = (j 0).val; omega
  | ⟨1, _⟩ => show win0_5.index t (1 : Fin 2) * 2560 + 1 * (j 1).val = (j 1).val; omega

/-- An index of window 6's block is the same index of its array. -/
theorem emb0_6 (t : Fin cfg0.N) (j : S1536x128.Idx) : ((cfg0.win 6).blk t).view.emb j = j := by
  obtain ⟨e0, e1⟩ := (by decide +kernel : ∀ t : Fin grid0.N, win0_6.index t (0 : Fin 2) = 0 ∧ win0_6.index t (1 : Fin 2) = 0) t
  funext a; apply Fin.ext
  match a with
  | ⟨0, _⟩ => show win0_6.index t (0 : Fin 2) * 1536 + 1 * (j 0).val = (j 0).val; omega
  | ⟨1, _⟩ => show win0_6.index t (1 : Fin 2) * 128 + 1 * (j 1).val = (j 1).val; omega

/-- An index of window 7's block is the same index of its array. -/
theorem emb0_7 (t : Fin cfg0.N) (j : S12x128.Idx) : ((cfg0.win 7).blk t).view.emb j = j := by
  obtain ⟨e0, e1⟩ := (by decide +kernel : ∀ t : Fin grid0.N, win0_7.index t (0 : Fin 2) = 0 ∧ win0_7.index t (1 : Fin 2) = 0) t
  funext a; apply Fin.ext
  match a with
  | ⟨0, _⟩ => show win0_7.index t (0 : Fin 2) * 12 + 1 * (j 0).val = (j 0).val; omega
  | ⟨1, _⟩ => show win0_7.index t (1 : Fin 2) * 128 + 1 * (j 1).val = (j 1).val; omega

/-- Input window 0's block is its array. -/
theorem iblk0_0 (t : Fin cfg0.N) : iblk0 V c 0 t = V c main_v0 := by
  funext j; show V c main_v0 (((cfg0.win 0).blk t).view.emb j) = V c main_v0 j; rw [emb0_0]

/-- Input window 1's block is its array. -/
theorem iblk0_1 (t : Fin cfg0.N) : iblk0 V c 1 t = V c main_v1 := by
  funext j; show V c main_v1 (((cfg0.win 1).blk t).view.emb j) = V c main_v1 j; rw [emb0_1]

/-- Input window 2's block is its array. -/
theorem iblk0_2 (t : Fin cfg0.N) : iblk0 V c 2 t = V c main_v2 := by
  funext j; show V c main_v2 (((cfg0.win 2).blk t).view.emb j) = V c main_v2 j; rw [emb0_2]

/-- Result array 3 ends holding the smoothing scales. -/
theorem final0_3 : (dat0 V c).arrAt 3 cfg0.N = actS (V c main_v0) (V c main_v1) (V c main_v2) := by
  refine (dat0 V c).arrAt_eq_of_cover 3 (actS (V c main_v0) (V c main_v1) (V c main_v2)) (fun t _ => ?_) (fun i => ⟨⟨0, by decide⟩, flush0_3 _, ?_⟩)
  · show (cfg0.win 3).cut (grid0.coords t) ((dat0 V c).after 3 t) = _
    rw [after0_3, iblk0_0, iblk0_1, iblk0_2]
    funext j
    exact (congrArg (actS (V c main_v0) (V c main_v1) (V c main_v2)) (emb0_3 t j)).symm
  · have h := ((cfg0.win 3).blk (⟨0, by decide⟩ : Fin cfg0.N)).view.emb_mem_set i
    rwa [emb0_3] at h

/-- Result array 4 ends holding the replicated smoothing scales. -/
theorem final0_4 : (dat0 V c).arrAt 4 cfg0.N = repl (actS (V c main_v0) (V c main_v1) (V c main_v2)) := by
  refine (dat0 V c).arrAt_eq_of_cover 4 (repl (actS (V c main_v0) (V c main_v1) (V c main_v2))) (fun t _ => ?_) (fun i => ⟨⟨0, by decide⟩, flush0_4 _, ?_⟩)
  · show (cfg0.win 4).cut (grid0.coords t) ((dat0 V c).after 4 t) = _
    rw [after0_4, iblk0_0, iblk0_1, iblk0_2]
    funext j
    exact (congrArg (repl (actS (V c main_v0) (V c main_v1) (V c main_v2))) (emb0_4 t j)).symm
  · have h := ((cfg0.win 4).blk (⟨0, by decide⟩ : Fin cfg0.N)).view.emb_mem_set i
    rwa [emb0_4] at h

/-- Result array 5 ends holding the activations' codes. -/
theorem final0_5 : (dat0 V c).arrAt 5 cfg0.N = actCode (V c main_v0) (V c main_v1) (V c main_v2) := by
  refine (dat0 V c).arrAt_eq_of_cover 5 (actCode (V c main_v0) (V c main_v1) (V c main_v2)) (fun t _ => ?_) (fun i => ⟨⟨0, by decide⟩, flush0_5 _, ?_⟩)
  · show (cfg0.win 5).cut (grid0.coords t) ((dat0 V c).after 5 t) = _
    rw [after0_5, iblk0_0, iblk0_1, iblk0_2]
    funext j
    exact (congrArg (actCode (V c main_v0) (V c main_v1) (V c main_v2)) (emb0_5 t j)).symm
  · have h := ((cfg0.win 5).blk (⟨0, by decide⟩ : Fin cfg0.N)).view.emb_mem_set i
    rwa [emb0_5] at h

/-- Result array 6 ends holding the rows' scales, replicated. -/
theorem final0_6 : (dat0 V c).arrAt 6 cfg0.N = actXs (V c main_v0) (V c main_v1) (V c main_v2) := by
  refine (dat0 V c).arrAt_eq_of_cover 6 (actXs (V c main_v0) (V c main_v1) (V c main_v2)) (fun t _ => ?_) (fun i => ⟨⟨0, by decide⟩, flush0_6 _, ?_⟩)
  · show (cfg0.win 6).cut (grid0.coords t) ((dat0 V c).after 6 t) = _
    rw [after0_6, iblk0_0, iblk0_1, iblk0_2]
    funext j
    exact (congrArg (actXs (V c main_v0) (V c main_v1) (V c main_v2)) (emb0_6 t j)).symm
  · have h := ((cfg0.win 6).blk (⟨0, by decide⟩ : Fin cfg0.N)).view.emb_mem_set i
    rwa [emb0_6] at h

/-- Result array 7 ends holding the tokens' scales. -/
theorem final0_7 : (dat0 V c).arrAt 7 cfg0.N = fold12 (actXs (V c main_v0) (V c main_v1) (V c main_v2)) := by
  refine (dat0 V c).arrAt_eq_of_cover 7 (fold12 (actXs (V c main_v0) (V c main_v1) (V c main_v2))) (fun t _ => ?_) (fun i => ⟨⟨0, by decide⟩, flush0_7 _, ?_⟩)
  · show (cfg0.win 7).cut (grid0.coords t) ((dat0 V c).after 7 t) = _
    rw [after0_7, iblk0_0, iblk0_1, iblk0_2]
    funext j
    exact (congrArg (fold12 (actXs (V c main_v0) (V c main_v1) (V c main_v2))) (emb0_7 t j)).symm
  · have h := ((cfg0.win 7).blk (⟨0, by decide⟩ : Fin cfg0.N)).view.emb_mem_set i
    rwa [emb0_7] at h

end Region0

end Cert.KernelIdeal.Hand

end
-- ==== Proof.Arrays1.lean ====
/-
  What the product's region leaves in its result arrays: its twenty points write 512 columns each, which together are
  the arrays of the layer's plain formulas.
-/
module

public import proofs.«01_k».proof.Proof.Run
public import proofs.«01_k».proof.Proof.QValue
public import Idealize.ShloMosaic.Lib.Pipeline.Value
public import Idealize.ShloMosaic.Lib.Pointwise

@[expose] public section

set_option maxRecDepth 8192
set_option maxHeartbeats 1000000

noncomputable section

namespace Cert.KernelIdeal.Hand

open Cert.KernelIdeal.Gen Cert.Proof
open Idealize.ShloMosaic Idealize.ShloMosaic.TcCoe Idealize.ShloMosaic.Tactic
open Idealize.SL Idealize.SL.RA Idealize.SL.BI
open Idealize.ShloMosaic.Pipeline (Dat Cfg Window)

/-! ### The product's arrays -/

section Region1

variable (V : Dev nD → Valuation τ sig (Elt Ideal)) (c : Dev nD)

/-- A point's number is below twenty. -/
theorem lt20 (t : Fin cfg1.N) : t.val < 20 := lt_of_lt_of_eq t.isLt N_1

/-- Column `n` of point `t`'s block, as a column of the array. -/
def gcol (t : Fin cfg1.N) (n : Fin 512) : Fin 10240 := ⟨t.val * 512 + n.val, by have := lt20 t; omega⟩

/-- Every column of the array is a column of some point's block. -/
theorem col_split (n : Fin 10240) : ∃ (t : Fin cfg1.N) (q : Fin 512), gcol t q = n :=
  ⟨⟨n.val / 512, by rw [show cfg1.N = 20 from N_1]; omega⟩, ⟨n.val % 512, by omega⟩,
    Fin.ext (by show n.val / 512 * 512 + n.val % 512 = n.val; omega)⟩

/-- An index of window 0's block at point `t` is the index of its array `t` blocks of columns on. -/
theorem emb1_0 (t : Fin cfg1.N) (j : S2560x512.Idx) : ((cfg1.win 0).blk t).view.emb j = ix2 (j 0 : Fin 2560) (gcol t (j 1 : Fin 512)) := by
  obtain ⟨e0, e1⟩ := (by decide +kernel : ∀ t : Fin grid1.N, win1_0.index t (0 : Fin 2) = 0 ∧ win1_0.index t (1 : Fin 2) = t.val) t
  funext a; apply Fin.ext
  match a with
  | ⟨0, _⟩ => show win1_0.index t (0 : Fin 2) * 2560 + 1 * (j 0).val = (j 0).val; omega
  | ⟨1, _⟩ => show win1_0.index t (1 : Fin 2) * 512 + 1 * (j 1).val = t.val * 512 + (j 1).val; rw [e1]; omega

/-- An index of window 1's block is the same index of its array. -/
theorem emb1_1 (t : Fin cfg1.N) (j : S2560x128.Idx) : ((cfg1.win 1).blk t).view.emb j = j := by
  obtain ⟨e0, e1⟩ := (by decide +kernel : ∀ t : Fin grid1.N, win1_1.index t (0 : Fin 2) = 0 ∧ win1_1.index t (1 : Fin 2) = 0) t
  funext a; apply Fin.ext
  match a with
  | ⟨0, _⟩ => show win1_1.index t (0 : Fin 2) * 2560 + 1 * (j 0).val = (j 0).val; omega
  | ⟨1, _⟩ => show win1_1.index t (1 : Fin 2) * 128 + 1 * (j 1).val = (j 1).val; omega

/-- Input window 1's block is its array. -/
theorem iblk1_1 (t : Fin cfg1.N) : iblk1 V c 1 t = V c main_v3_1 := by
  funext j; show V c main_v3_1 (((cfg1.win 1).blk t).view.emb j) = V c main_v3_1 j; rw [emb1_1]

/-- An index of window 2's block is the same index of its array. -/
theorem emb1_2 (t : Fin cfg1.N) (j : S1536x2560.Idx) : ((cfg1.win 2).blk t).view.emb j = j := by
  obtain ⟨e0, e1⟩ := (by decide +kernel : ∀ t : Fin grid1.N, win1_2.index t (0 : Fin 2) = 0 ∧ win1_2.index t (1 : Fin 2) = 0) t
  funext a; apply Fin.ext
  match a with
  | ⟨0, _⟩ => show win1_2.index t (0 : Fin 2) * 1536 + 1 * (j 0).val = (j 0).val; omega
  | ⟨1, _⟩ => show win1_2.index t (1 : Fin 2) * 2560 + 1 * (j 1).val = (j 1).val; omega

/-- Input window 2's block is its array. -/
theorem iblk1_2 (t : Fin cfg1.N) : iblk1 V c 2 t = V c main_v3_2 := by
  funext j; show V c main_v3_2 (((cfg1.win 2).blk t).view.emb j) = V c main_v3_2 j; rw [emb1_2]

/-- An index of window 3's block is the same index of its array. -/
theorem emb1_3 (t : Fin cfg1.N) (j : S1536x128.Idx) : ((cfg1.win 3).blk t).view.emb j = j := by
  obtain ⟨e0, e1⟩ := (by decide +kernel : ∀ t : Fin grid1.N, win1_3.index t (0 : Fin 2) = 0 ∧ win1_3.index t (1 : Fin 2) = 0) t
  funext a; apply Fin.ext
  match a with
  | ⟨0, _⟩ => show win1_3.index t (0 : Fin 2) * 1536 + 1 * (j 0).val = (j 0).val; omega
  | ⟨1, _⟩ => show win1_3.index t (1 : Fin 2) * 128 + 1 * (j 1).val = (j 1).val; omega

/-- Input window 3's block is its array. -/
theorem iblk1_3 (t : Fin cfg1.N) : iblk1 V c 3 t = V c main_v3_3 := by
  funext j; show V c main_v3_3 (((cfg1.win 3).blk t).view.emb j) = V c main_v3_3 j; rw [emb1_3]

/-- An index of window 4's block at point `t` is the index of its array `t` blocks of columns on. -/
theorem emb1_4 (t : Fin cfg1.N) (j : S1536x512.Idx) : ((cfg1.win 4).blk t).view.emb j = ix2 (j 0 : Fin 1536) (gcol t (j 1 : Fin 512)) := by
  obtain ⟨e0, e1⟩ := (by decide +kernel : ∀ t : Fin grid1.N, win1_4.index t (0 : Fin 2) = 0 ∧ win1_4.index t (1 : Fin 2) = t.val) t
  funext a; apply Fin.ext
  match a with
  | ⟨0, _⟩ => show win1_4.index t (0 : Fin 2) * 1536 + 1 * (j 0).val = (j 0).val; omega
  | ⟨1, _⟩ => show win1_4.index t (1 : Fin 2) * 512 + 1 * (j 1).val = t.val * 512 + (j 1).val; rw [e1]; omega

/-- An index of window 5's block at point `t` is the index of its array `t` blocks of columns on. -/
theorem emb1_5 (t : Fin cfg1.N) (j : S2560x512.Idx) : ((cfg1.win 5).blk t).view.emb j = ix2 (j 0 : Fin 2560) (gcol t (j 1 : Fin 512)) := by
  obtain ⟨e0, e1⟩ := (by decide +kernel : ∀ t : Fin grid1.N, win1_5.index t (0 : Fin 2) = 0 ∧ win1_5.index t (1 : Fin 2) = t.val) t
  funext a; apply Fin.ext
  match a with
  | ⟨0, _⟩ => show win1_5.index t (0 : Fin 2) * 2560 + 1 * (j 0).val = (j 0).val; omega
  | ⟨1, _⟩ => show win1_5.index t (1 : Fin 2) * 512 + 1 * (j 1).val = t.val * 512 + (j 1).val; rw [e1]; omega

/-- An index of window 6's block at point `t` is the index of its array `t` blocks of columns on. -/
theorem emb1_6 (t : Fin cfg1.N) (j : S1x512.Idx) : ((cfg1.win 6).blk t).view.emb j = ix2 (j 0 : Fin 1) (gcol t (j 1 : Fin 512)) := by
  obtain ⟨e0, e1⟩ := (by decide +kernel : ∀ t : Fin grid1.N, win1_6.index t (0 : Fin 2) = 0 ∧ win1_6.index t (1 : Fin 2) = t.val) t
  funext a; apply Fin.ext
  match a with
  | ⟨0, _⟩ => show win1_6.index t (0 : Fin 2) * 1 + 1 * (j 0).val = (j 0).val; omega
  | ⟨1, _⟩ => show win1_6.index t (1 : Fin 2) * 512 + 1 * (j 1).val = t.val * 512 + (j 1).val; rw [e1]; omega

/-- A column of point `t`'s block of weights is a column of the weights. -/
theorem wcol_blk (t : Fin cfg1.N) (n : Fin 512) (k : Fin 2560) :
    (iblk1 V c 0 t : Vec Ideal S2560x512 .bf16) (ix2 k n) = (V c main_arg2 : Vec Ideal S2560x10240 .bf16) (ix2 k (gcol t n)) := by
  show V c main_arg2 (((cfg1.win 0).blk t).view.emb (ix2 k n)) = _
  rw [emb1_0]
  rfl

/-- A column of the weights. -/
abbrev acol (n : Fin 10240) (k : Fin 2560) : EReal := (V c main_arg2 : Vec Ideal S2560x10240 .bf16) (ix2 k n)

theorem wcol_eq (t : Fin cfg1.N) (n : Fin 512) : wcol (iblk1 V c 0 t) n = acol V c (gcol t n) := funext fun k => wcol_blk V c t n k

variable (s : Vec Ideal S1x2560 .f32)

/-- The products as one array, from the codes and scales the region finds; -/
def prodOf (y : S1536x10240.Idx) : EReal :=
  (∑ k, numOf ((V c main_v3_2 : Vec Ideal S1536x2560 .i8) (ix2 (y 0 : Fin 1536) k)) * numOf (wcOf (acol V c (y 1)) (srow s) k))
    * (V c main_v3_3 : Vec Ideal S1536x128 .f32) (ix2 (y 0 : Fin 1536) 0) * wsOf (acol V c (y 1)) (srow s)
/-- the weights' codes -/
def codesW (y : S2560x10240.Idx) : BitVec 8 := wcOf (acol V c (y 1)) (srow s) (y 0)
/-- and their scales. -/
def scalesW (y : S1x10240.Idx) : EReal := wsOf (acol V c (y 1)) (srow s)

variable (hs : (V c main_v3_1 : Vec Ideal S2560x128 .f32) = repl s)
include hs

/-- The product's array. -/
theorem final1_4 : (dat1 V c).arrAt 4 cfg1.N = (prodOf V c s : S1536x10240.Idx → _) := by
  refine (dat1 V c).arrAt_eq_of_cover 4 (prodOf V c s : S1536x10240.Idx → _) (fun t _ => ?_) (fun i => ?_)
  · show (cfg1.win 4).cut (grid1.coords t) ((dat1 V c).after 4 t) = _
    rw [after1_4, show xb V c = k1_pay4 (V c main_v3_2 : Vec Ideal S1536x2560 .i8) from congrArg k1_pay4 (iblk1_2 V c _), iblk1_3, iblk1_1, hs]
    funext j
    refine Eq.trans ?_ (congrArg (prodOf V c s : S1536x10240.Idx → _) (emb1_4 t j)).symm
    obtain ⟨p, q, rfl⟩ : ∃ (p : Fin 1536) (q : Fin 512), j = ix2 p q := ⟨j 0, j 1, by funext a; match a with | ⟨0, _⟩ => rfl | ⟨1, _⟩ => rfl⟩
    refine (yBlk_ix (iblk1 V c 0 t) s (V c main_v3_2) (V c main_v3_3) p q).trans ?_
    rw [wcol_eq]
    rfl
  · obtain ⟨t, q, hq⟩ := col_split (i 1 : Fin 10240)
    have e : ((cfg1.win 4).blk t).view.emb (ix2 (i 0 : Fin 1536) q : S1536x512.Idx) = i := by
      rw [emb1_4]
      funext a
      match a with
      | ⟨0, _⟩ => rfl
      | ⟨1, _⟩ => exact hq
    exact ⟨t, flush1_4 t, Eq.subst (motive := fun x => x ∈ ((cfg1.win 4).blk t).view.set) e (((cfg1.win 4).blk t).view.emb_mem_set _)⟩

/-- The weights' codes. -/
theorem final1_5 : (dat1 V c).arrAt 5 cfg1.N = (codesW V c s : S2560x10240.Idx → _) := by
  refine (dat1 V c).arrAt_eq_of_cover 5 (codesW V c s : S2560x10240.Idx → _) (fun t _ => ?_) (fun i => ?_)
  · show (cfg1.win 5).cut (grid1.coords t) ((dat1 V c).after 5 t) = _
    rw [after1_5, iblk1_1, hs]
    funext j
    refine Eq.trans ?_ (congrArg (codesW V c s : S2560x10240.Idx → _) (emb1_5 t j)).symm
    obtain ⟨p, q, rfl⟩ : ∃ (p : Fin 2560) (q : Fin 512), j = ix2 p q := ⟨j 0, j 1, by funext a; match a with | ⟨0, _⟩ => rfl | ⟨1, _⟩ => rfl⟩
    refine (wCode_ix (iblk1 V c 0 t) s p q).trans ?_
    rw [wcol_eq]
    rfl
  · obtain ⟨t, q, hq⟩ := col_split (i 1 : Fin 10240)
    have e : ((cfg1.win 5).blk t).view.emb (ix2 (i 0 : Fin 2560) q : S2560x512.Idx) = i := by
      rw [emb1_5]
      funext a
      match a with
      | ⟨0, _⟩ => rfl
      | ⟨1, _⟩ => exact hq
    exact ⟨t, flush1_5 t, Eq.subst (motive := fun x => x ∈ ((cfg1.win 5).blk t).view.set) e (((cfg1.win 5).blk t).view.emb_mem_set _)⟩

/-- The weights' scales. -/
theorem final1_6 : (dat1 V c).arrAt 6 cfg1.N = (scalesW V c s : S1x10240.Idx → _) := by
  refine (dat1 V c).arrAt_eq_of_cover 6 (scalesW V c s : S1x10240.Idx → _) (fun t _ => ?_) (fun i => ?_)
  · show (cfg1.win 6).cut (grid1.coords t) ((dat1 V c).after 6 t) = _
    rw [after1_6, iblk1_1, hs]
    funext j
    refine Eq.trans ?_ (congrArg (scalesW V c s : S1x10240.Idx → _) (emb1_6 t j)).symm
    obtain ⟨p, q, rfl⟩ : ∃ (p : Fin 1) (q : Fin 512), j = ix2 p q := ⟨j 0, j 1, by funext a; match a with | ⟨0, _⟩ => rfl | ⟨1, _⟩ => rfl⟩
    refine ((show wScale (iblk1 V c 0 t) (repl s) (ix2 p q) = wScale (iblk1 V c 0 t) (repl s) (ix2 0 q) from by rw [Subsingleton.elim p 0]).trans (wScale_ix (iblk1 V c 0 t) s q)).trans ?_
    rw [wcol_eq]
    rfl
  · obtain ⟨t, q, hq⟩ := col_split (i 1 : Fin 10240)
    have e : ((cfg1.win 6).blk t).view.emb (ix2 (i 0 : Fin 1) q : S1x512.Idx) = i := by
      rw [emb1_6]
      funext a
      match a with
      | ⟨0, _⟩ => rfl
      | ⟨1, _⟩ => exact hq
    exact ⟨t, flush1_6 t, Eq.subst (motive := fun x => x ∈ ((cfg1.win 6).blk t).view.set) e (((cfg1.win 6).blk t).view.emb_mem_set _)⟩

end Region1

end Cert.KernelIdeal.Hand

end
-- ==== Proof.RefValue.lean ====
/-
  The reference's results over the extended reals, element by element: the plain formulas of the layer, its tokens named
  by their two coordinates.
-/
module

public import proofs.«01_k».proof.Proof.Scalars
public import proofs.«01_k».proof.Proof.Gen.ReferenceIdeal.Value
public import Idealize.ShloMosaic.Lib.Pointwise

@[expose] public section

set_option maxRecDepth 8192
set_option maxHeartbeats 1000000

noncomputable section

namespace Cert.ReferenceIdeal.Hand

open Cert.ReferenceIdeal.Gen Cert.ReferenceIdeal.Value Cert.Proof
open Idealize.ShloMosaic Idealize.ShloMosaic.TcCoe Idealize.ShloMosaic.Tactic

variable (x : Vec Ideal S12x128x2560 .bf16) (g w : Vec Ideal S2560 .f32) (W : Vec Ideal S2560x10240 .bf16)

/-- The activations by token and column, -/
abbrev xf (i : Fin 12 × Fin 128) (k : Fin 2560) : EReal := x (ix3 i.1 i.2 k)
/-- a row vector's entries -/
abbrev rf (g : Vec Ideal S2560 .f32) (k : Fin 2560) : EReal := g (ix1 k)
/-- and a column of the weights. -/
abbrev wcol (n : Fin 10240) (k : Fin 2560) : EReal := W (ix2 k n)

/-- The normalised activations. -/
theorem h_at (a : Fin 12) (b : Fin 128) (k : Fin 2560) : k0_pay2 x g (ix3 a b k) = hOf (xf x) (rf g) (a, b) k := by
  unfold k0_pay2
  pointwise
  rfl

/-- The maximum over the two token axes. -/
theorem max2_at (h : FVec Ideal S12x128x2560 .f32) (k : Fin 2560) :
    multiReduction .maximumf [0, 1] S2560 (absf h) 0xFF800000#32 reduces_S12x128x2560_S2560 (.inl rfl) rfl (ix1 k)
      = ⨆ i : Fin 12 × Fin 128, eabs (h (ix3 i.1 i.2 k)) := by
  refine (multiReduction_maximumf_eq_fold _ _ _ _ _ _).trans ?_
  refine eq_of_forall_ge_iff fun c => ?_
  refine Iff.trans (Finset.fold_max_le (b := Ideal.ofBits .f32 0xFF800000#32) (f := fun i => eabs (h i)) c) ?_
  rw [ofBits_bot, iSup_le_iff]
  constructor
  · rintro ⟨-, H⟩ ⟨a, b⟩
    refine H _ (Finset.mem_filter.mpr ⟨Finset.mem_univ _, ?_⟩)
    funext q
    match q with
    | ⟨0, _⟩ => exact Fin.ext (Shape.Reduces.drop_apply_val_of_eq reduces_S12x128x2560_S2560 (ix3 a b k) 0 2)
  · intro H
    refine ⟨bot_le, fun i hi => ?_⟩
    have hk : (i 2 : Fin 2560) = k := by
      have := congrFun (Finset.mem_filter.mp hi).2 0
      exact Fin.ext ((Shape.Reduces.drop_apply_val_of_eq reduces_S12x128x2560_S2560 i 0 2).symm.trans (congrArg Fin.val this))
    have ei : ix3 (i 0) (i 1) k = i := by
      funext q
      match q with
      | ⟨0, _⟩ => rfl
      | ⟨1, _⟩ => rfl
      | ⟨2, _⟩ => exact hk.symm
    exact (congrArg (fun z => eabs (h z)) ei).symm.trans_le (H (i 0, i 1))

/-- The scales from the two maxima, computed element by element. -/
theorem smooth_at (m v : FVec Ideal S2560 .f32) (k : Fin 2560) :
    divf (powf (maximumf m (broadcast S2560 (Scalar.ofBits .f32 0x3727C5AC#32))) (broadcast S2560 (Scalar.ofBits .f32 0x3F000000#32)))
      (powf (maximumf v (broadcast S2560 (Scalar.ofBits .f32 0x3727C5AC#32))) (broadcast S2560 (Scalar.ofBits .f32 0x3F000000#32))) (ix1 k)
      = smoothOf (m (ix1 k)) (v (ix1 k)) :=
  (smoothOf_eq_pow _ _).symm

/-- The smoothing scales. -/
theorem s_at (k : Fin 2560) : k0_pay3 x g w (ix1 k) = sOf (xf x) (rf g) (rf w) k :=
  (smooth_at (multiReduction .maximumf [0, 1] S2560 (absf (k0_pay2 x g)) 0xFF800000#32 reduces_S12x128x2560_S2560 (.inl rfl) rfl) w k).trans
    (congrArg (smoothOf · (w (ix1 k))) ((max2_at _ k).trans (iSup_congr fun i => congrArg eabs (h_at x g i.1 i.2 k))))

/-- The scaled weights. -/
theorem wv_at (k : Fin 2560) (n : Fin 10240) : k0_pay4 x g w W (ix2 k n) = wcol W n k * sOf (xf x) (rf g) (rf w) k := by
  rw [← s_at]
  unfold k0_pay4
  pointwise

/-- Their column maxima. -/
theorem wm_at (n : Fin 10240) : k0_pay5 x g w W (ix1 n) = ⨆ k, eabs (wcol W n k * sOf (xf x) (rf g) (rf w) k) := by
  refine Eq.trans ?_ (iSup_congr fun k => congrArg eabs (wv_at x g w W k n))
  rw [← fold_max]
  unfold k0_pay5
  pointwise
  rfl

/-- The weights' scales. -/
theorem ws_at (n : Fin 10240) : k0_pay8 (k0_pay6 x g w W) (k0_pay7 x g w W) (ix1 n) = wsOf (wcol W n) (sOf (xf x) (rf g) (rf w)) :=
  (scale_at (k0_pay5 x g w W) (ix1 n)).trans (congrArg scaleOf (wm_at x g w W n))

/-- A weight's code from the scaled weight and the column's scale. -/
theorem pay9_at (v : FVec Ideal S2560x10240 .f32) (p : IVec S10240 1) (q : FVec Ideal S10240 .f32) (k : Fin 2560) (n : Fin 10240) :
    k0_pay9 v p q (ix2 k n) = codeOf (Ideal.div (v (ix2 k n)) (k0_pay8 p q (ix1 n))) := by
  unfold k0_pay9
  pointwise
  rfl

/-- The weights' codes. -/
theorem wc_at (k : Fin 2560) (n : Fin 10240) :
    k0_pay9 (k0_pay4 x g w W) (k0_pay6 x g w W) (k0_pay7 x g w W) (ix2 k n) = wcOf (wcol W n) (sOf (xf x) (rf g) (rf w)) k :=
  (pay9_at _ _ _ k n).trans (congrArg codeOf (congrArg₂ Ideal.div (wv_at x g w W k n) (ws_at x g w W n)))

/-- The smoothed activations. -/
theorem v_at (a : Fin 12) (b : Fin 128) (k : Fin 2560) :
    k0_pay10 (k0_pay2 x g) (k0_pay3 x g w) (ix3 a b k) = vOf (xf x) (rf g) (rf w) (a, b) k := by
  unfold vOf
  rw [← s_at, ← h_at]
  unfold k0_pay10
  pointwise

/-- A maximum along a token's row. -/
theorem max1_at (v : FVec Ideal S12x128x2560 .f32) (a : Fin 12) (b : Fin 128) :
    multiReduction .maximumf [2] S12x128 (absf v) 0xFF800000#32 reduces_S12x128x2560_S12x128 (.inl rfl) rfl (ix2 a b)
      = ⨆ k : Fin 2560, eabs (v (ix3 a b k)) := by
  rw [← fold_max]
  pointwise
  rfl

/-- The tokens' scales. -/
theorem xs_at (a : Fin 12) (b : Fin 128) : k0_pay11 (k0_pay2 x g) (k0_pay3 x g w) (ix2 a b) = xsOf (xf x) (rf g) (rf w) (a, b) :=
  (scale_at (multiReduction .maximumf [2] S12x128 (absf (k0_pay10 (k0_pay2 x g) (k0_pay3 x g w))) 0xFF800000#32 reduces_S12x128x2560_S12x128 (.inl rfl) rfl) (ix2 a b)).trans
    (congrArg scaleOf ((max1_at _ a b).trans (iSup_congr fun k => congrArg eabs (v_at x g w a b k))))

/-- An activation's code from the smoothed activation and the token's scale. -/
theorem code_at (v : FVec Ideal S12x128x2560 .f32) (s : FVec Ideal S12x128 .f32) (a : Fin 12) (b : Fin 128) (k : Fin 2560) :
    fptosi 8 (minimumf (broadcast S12x128x2560 (Scalar.sitofp (F := Ideal) .f32 127#32)) (maximumf (broadcast S12x128x2560 (Scalar.sitofp (F := Ideal) .f32 4294967169#32))
      (roundeven (divf v (broadcastTo S12x128x2560 (shapeCast S12x128x1 s shapeCasts_S12x128_S12x128x1) broadcasts_S12x128x1_S12x128x2560))))) (ix3 a b k)
      = codeOf (Ideal.div (v (ix3 a b k)) (s (ix2 a b))) := by
  pointwise
  rfl

/-- The activations' codes. -/
theorem xc_at (a : Fin 12) (b : Fin 128) (k : Fin 2560) :
    k0_pay12 (k0_pay2 x g) (k0_pay3 x g w) (ix3 a b k) = xcOf (xf x) (rf g) (rf w) (a, b) k :=
  (code_at (k0_pay10 (k0_pay2 x g) (k0_pay3 x g w)) (k0_pay11 (k0_pay2 x g) (k0_pay3 x g w)) a b k).trans
    (congrArg codeOf (congrArg₂ Ideal.div (v_at x g w a b k) (xs_at x g w a b)))

/-- The product's entry from the codes and the scales. -/
theorem pay1_at (p : FVec Ideal S10240 .f32) (q : IVec S2560x10240 8) (r : FVec Ideal S12x128 .f32) (s : IVec S12x128x2560 8)
    (a : Fin 12) (b : Fin 128) (n : Fin 10240) :
    k0_pay1 p q r s (ix3 a b n) = (∑ k : Fin 2560, numOf (s (ix3 a b k)) * numOf (q (ix2 k n))) * r (ix2 a b) * p (ix1 n) := by
  unfold k0_pay1
  pointwise

/-- The product. -/
theorem y_at (a : Fin 12) (b : Fin 128) (n : Fin 10240) :
    k0_pay1 (k0_pay8 (k0_pay6 x g w W) (k0_pay7 x g w W)) (k0_pay9 (k0_pay4 x g w W) (k0_pay6 x g w W) (k0_pay7 x g w W))
      (k0_pay11 (k0_pay2 x g) (k0_pay3 x g w)) (k0_pay12 (k0_pay2 x g) (k0_pay3 x g w)) (ix3 a b n)
      = yOf (xf x) (rf g) (rf w) (wcol W n) (a, b) :=
  (pay1_at _ _ _ _ a b n).trans (congrArg₂ (· * ·) (congrArg₂ (· * ·)
    (Finset.sum_congr rfl fun k _ => congrArg₂ (· * ·) (congrArg numOf (xc_at x g w a b k)) (congrArg numOf (wc_at x g w W k n)))
    (xs_at x g w a b)) (ws_at x g w W n))

/-! ### The loads are of whole arrays -/

theorem ld0 : (View.ld x r0_0 : Vec Ideal S12x128x2560 .bf16) = x := View.ld_unit_zero (S := S12x128x2560) hz0 _ x
theorem ld1 (g : Vec Ideal S2560 .f32) : (View.ld g r0_1 : Vec Ideal S2560 .f32) = g := View.ld_unit_zero (S := S2560) hz1 _ g
theorem ld2 : (View.ld W r0_2 : Vec Ideal S2560x10240 .bf16) = W := View.ld_unit_zero (S := S2560x10240) hz2 _ W

theorem p13 : k0_pay13 x g W w = k0_pay2 x g := by unfold k0_pay13; rw [ld0, ld1]
theorem p14 : k0_pay14 x g W w = k0_pay3 x g w := by unfold k0_pay14; rw [ld0, ld1, ld1]
theorem p15 : k0_pay15 x g W w = k0_pay4 x g w W := by unfold k0_pay15; rw [ld0, ld1, ld1, ld2]
theorem p16 : k0_pay16 x g W w = k0_pay6 x g w W := by unfold k0_pay16; rw [ld0, ld1, ld1, ld2]
theorem p17 : k0_pay17 x g W w = k0_pay7 x g w W := by unfold k0_pay17; rw [ld0, ld1, ld1, ld2]

/-! ### The six results -/

/-- The product's result. -/
theorem G4_at (a : Fin 12) (b : Fin 128) (n : Fin 10240) : G4 x g W w (ix3 a b n) = yOf (xf x) (rf g) (rf w) (wcol W n) (a, b) := by
  show k0_pay1 _ _ _ _ _ = _
  rw [p13, p14, p15, p16, p17, y_at]
/-- The smoothing scales. -/
theorem G5_at (k : Fin 2560) : G5 x g W w (ix1 k) = sOf (xf x) (rf g) (rf w) k := s_at x g w k
/-- The weights' codes. -/
theorem G6_at (k : Fin 2560) (n : Fin 10240) : G6 x g W w (ix2 k n) = wcOf (wcol W n) (sOf (xf x) (rf g) (rf w)) k := by
  show k0_pay9 _ _ _ _ = _
  rw [p15, p16, p17, wc_at]
/-- The weights' scales. -/
theorem G7_at (n : Fin 10240) : G7 x g W w (ix1 n) = wsOf (wcol W n) (sOf (xf x) (rf g) (rf w)) := by
  show k0_pay8 _ _ _ = _
  rw [p16, p17, ws_at]
/-- The activations' codes. -/
theorem G8_at (a : Fin 12) (b : Fin 128) (k : Fin 2560) : G8 x g W w (ix3 a b k) = xcOf (xf x) (rf g) (rf w) (a, b) k := by
  show k0_pay12 _ _ _ = _
  rw [p13, p14, xc_at]
/-- The tokens' scales. -/
theorem G9_at (a : Fin 12) (b : Fin 128) : G9 x g W w (ix2 a b) = xsOf (xf x) (rf g) (rf w) (a, b) := by
  show k0_pay11 _ _ _ = _
  rw [p13, p14, xs_at]

end Cert.ReferenceIdeal.Hand

end
-- ==== Proof.Final.lean ====
/-
  The kernel's results are the reference's: each, element by element, is the same plain formula of the arguments.
-/
module

public import proofs.«01_k».proof.Proof.Host
public import proofs.«01_k».proof.Proof.ActValue
public import proofs.«01_k».proof.Proof.Arrays
public import proofs.«01_k».proof.Proof.Arrays1
public import proofs.«01_k».proof.Proof.RefValue

@[expose] public section

set_option maxRecDepth 8192
set_option maxHeartbeats 1000000

noncomputable section

namespace Cert.KernelIdeal.Hand

open Cert.KernelIdeal.Gen Cert.Proof
open Idealize.ShloMosaic Idealize.ShloMosaic.TcCoe Idealize.ShloMosaic.Tactic

variable (m : (ℓ : Loc nD τ sig) → Buf (Elt Ideal) ℓ) (c : Dev nD)

/-- The activations, -/
abbrev a0 : Vec Ideal S12x128x2560 .bf16 := m ((c : Thread nD τ).loc main_arg0)
/-- the gain, -/
abbrev a1 : Vec Ideal S2560 .f32 := m ((c : Thread nD τ).loc main_arg1)
/-- the weights -/
abbrev a2 : Vec Ideal S2560x10240 .bf16 := m ((c : Thread nD τ).loc main_arg2)
/-- and the weights' maxima. -/
abbrev a3 : Vec Ideal S2560 .f32 := m ((c : Thread nD τ).loc main_arg3)

/-- The activations by token and column, -/
abbrev X : Fin 12 × Fin 128 → Fin 2560 → EReal := Cert.ReferenceIdeal.Hand.xf (a0 m c)
/-- the gain's entries -/
abbrev g : Fin 2560 → EReal := Cert.ReferenceIdeal.Hand.rf (a1 m c)
/-- and the weights' maxima's. -/
abbrev w : Fin 2560 → EReal := Cert.ReferenceIdeal.Hand.rf (a3 m c)
/-- The activations by row, as the quantiser reads them. -/
abbrev Xr : Fin 1536 → Fin 2560 → EReal := xf (V1 m c main_v0)

theorem X_eq : X m c = fun p => Xr m c (row p) := funext fun p => funext fun k => (V1_v0 m c p.1 p.2 k).symm
theorem g_eq : rf (V1 m c main_v1) = g m c := funext fun k => V1_v1 m c k
theorem w_eq : rf (V1 m c main_v2) = w m c := funext fun k => V1_v2 m c k

/-- The quantiser's smoothing scales are the layer's, -/
theorem s_eq (k : Fin 2560) : actS (V1 m c main_v0) (V1 m c main_v1) (V1 m c main_v2) (ix2 0 k) = sOf (X m c) (g m c) (w m c) k := by
  rw [actS_at, g_eq, w_eq, X_eq]
  exact (congrFun (sOf_comp (Xr m c) (g m c) (w m c) row row_surjective) k).symm
theorem srow_eq : srow (actS (V1 m c main_v0) (V1 m c main_v1) (V1 m c main_v2)) = sOf (X m c) (g m c) (w m c) := funext fun k => s_eq m c k
/-- its codes the layer's -/
theorem xc_eq (p : Fin 12 × Fin 128) (k : Fin 2560) :
    actCode (V1 m c main_v0) (V1 m c main_v1) (V1 m c main_v2) (ix2 (row p) k) = xcOf (X m c) (g m c) (w m c) p k := by
  rw [actCode_at, g_eq, w_eq, X_eq]
  exact (congrFun (xcOf_comp (Xr m c) (g m c) (w m c) row row_surjective p) k).symm
/-- and its rows' scales the layer's. -/
theorem xs_eq (p : Fin 12 × Fin 128) (b : Fin 128) :
    actXs (V1 m c main_v0) (V1 m c main_v1) (V1 m c main_v2) (ix2 (row p) b) = xsOf (X m c) (g m c) (w m c) p := by
  rw [actXs_at, g_eq, w_eq, X_eq]
  exact (xsOf_comp (Xr m c) (g m c) (w m c) row row_surjective p).symm

/-! ### What the product's region finds -/

theorem W2_v3_0 : W2 m c main_v3_0 = actS (V1 m c main_v0) (V1 m c main_v1) (V1 m c main_v2) :=
  (Pipeline.afterRegion_arr (dat0 (V1 m) c) (V1 m c) winFacts0.arr_inj 3).trans (final0_3 (V1 m) c)
theorem W2_v3_1 : W2 m c main_v3_1 = repl (actS (V1 m c main_v0) (V1 m c main_v1) (V1 m c main_v2)) :=
  (Pipeline.afterRegion_arr (dat0 (V1 m) c) (V1 m c) winFacts0.arr_inj 4).trans (final0_4 (V1 m) c)
theorem W2_v3_2 : W2 m c main_v3_2 = actCode (V1 m c main_v0) (V1 m c main_v1) (V1 m c main_v2) :=
  (Pipeline.afterRegion_arr (dat0 (V1 m) c) (V1 m c) winFacts0.arr_inj 5).trans (final0_5 (V1 m) c)
theorem W2_v3_3 : W2 m c main_v3_3 = actXs (V1 m c main_v0) (V1 m c main_v1) (V1 m c main_v2) :=
  (Pipeline.afterRegion_arr (dat0 (V1 m) c) (V1 m c) winFacts0.arr_inj 6).trans (final0_6 (V1 m) c)
theorem W2_v3_4 : W2 m c main_v3_4 = fold12 (actXs (V1 m c main_v0) (V1 m c main_v1) (V1 m c main_v2)) :=
  (Pipeline.afterRegion_arr (dat0 (V1 m) c) (V1 m c) winFacts0.arr_inj 7).trans (final0_7 (V1 m) c)
theorem W2_arg2 : W2 m c main_arg2 = a2 m c :=
  (Pipeline.afterRegion_keeps (dat0 (V1 m) c) (V1 m c) winFacts0.arr_inj (A0_eq (V1 m) c) main_arg2 (by decide)).trans (V1_of m c main_arg2 (by decide))

/-- A column of the weights the region finds is the argument's. -/
theorem acol_eq (n : Fin 10240) : acol (W2 m) c n = Cert.ReferenceIdeal.Hand.wcol (a2 m c) n := funext fun k =>
  congrFun (W2_arg2 m c) (ix2 k n)

/-! ### What it leaves -/

theorem W3_v4_0 : W3 m c main_v4_0 = prodOf (W2 m) c (actS (V1 m c main_v0) (V1 m c main_v1) (V1 m c main_v2)) :=
  (Pipeline.afterRegion_arr (dat1 (W2 m) c) (W2 m c) winFacts1.arr_inj 4).trans (final1_4 (W2 m) c _ (W2_v3_1 m c))
theorem W3_v4_1 : W3 m c main_v4_1 = codesW (W2 m) c (actS (V1 m c main_v0) (V1 m c main_v1) (V1 m c main_v2)) :=
  (Pipeline.afterRegion_arr (dat1 (W2 m) c) (W2 m c) winFacts1.arr_inj 5).trans (final1_5 (W2 m) c _ (W2_v3_1 m c))
theorem W3_v4_2 : W3 m c main_v4_2 = scalesW (W2 m) c (actS (V1 m c main_v0) (V1 m c main_v1) (V1 m c main_v2)) :=
  (Pipeline.afterRegion_arr (dat1 (W2 m) c) (W2 m c) winFacts1.arr_inj 6).trans (final1_6 (W2 m) c _ (W2_v3_1 m c))

/-- A buffer that is no result array of the product's region is as that region found it. -/
theorem W3_keeps (r : Ref sig .tc) (h : ∀ w, Pipeline.arrRef spec1 w = r → (cfg1.win w).isOut = false) : W3 m c r = W2 m c r :=
  Pipeline.afterRegion_keeps (dat1 (W2 m) c) (W2 m c) winFacts1.arr_inj (A1_eq (W2 m) c) r h

/-! ### The six results -/

theorem eta1 {n : ℕ} (i : (⟨1, ![n]⟩ : Shape).Idx) : i = ix1 (i 0) := funext fun a => match a with | ⟨0, _⟩ => rfl
theorem eta2 {n k : ℕ} (i : (⟨2, ![n, k]⟩ : Shape).Idx) : i = ix2 (i 0) (i 1) := funext fun a => match a with | ⟨0, _⟩ => rfl | ⟨1, _⟩ => rfl
theorem eta3 {n k l : ℕ} (i : (⟨3, ![n, k, l]⟩ : Shape).Idx) : i = ix3 (i 0) (i 1) (i 2) :=
  funext fun a => match a with | ⟨0, _⟩ => rfl | ⟨1, _⟩ => rfl | ⟨2, _⟩ => rfl

/-- The product's array at a token and a column is the layer's. -/
theorem y_eq (p : Fin 12 × Fin 128) (n : Fin 10240) :
    prodOf (W2 m) c (actS (V1 m c main_v0) (V1 m c main_v1) (V1 m c main_v2)) (ix2 (row p) n)
      = yOf (X m c) (g m c) (w m c) (Cert.ReferenceIdeal.Hand.wcol (a2 m c) n) p := by
  show (∑ k, numOf ((W2 m c main_v3_2 : Vec Ideal S1536x2560 .i8) (ix2 (row p) k)) * numOf (wcOf (acol (W2 m) c n) (srow _) k))
    * (W2 m c main_v3_3 : Vec Ideal S1536x128 .f32) (ix2 (row p) 0) * wsOf (acol (W2 m) c n) (srow _) = _
  rw [W2_v3_2, W2_v3_3, srow_eq, acol_eq, xs_eq]
  unfold yOf
  have e : ∀ k, actCode (V1 m c main_v0) (V1 m c main_v1) (V1 m c main_v2) (ix2 (row p) k) = xcOf (X m c) (g m c) (w m c) p k := xc_eq m c p
  generalize actCode (V1 m c main_v0) (V1 m c main_v1) (V1 m c main_v2) = A at e ⊢
  rw [Finset.sum_congr rfl fun k _ => by rw [e k]]

/-- Result 1, the product. -/
theorem res1 : W4 m c main_v5 = Cert.ReferenceIdeal.Value.G4 (a0 m c) (a1 m c) (a2 m c) (a3 m c) := by
  funext i
  obtain ⟨a, b, n, rfl⟩ : ∃ (a : Fin 12) (b : Fin 128) (n : Fin 10240), i = ix3 a b n := ⟨_, _, _, eta3 i⟩
  exact (W4_v5 m c a b n).trans ((congrFun (W3_v4_0 m c) _).trans ((y_eq m c (a, b) n).trans
    (Cert.ReferenceIdeal.Hand.G4_at (a0 m c) (a1 m c) (a3 m c) (a2 m c) a b n).symm))

/-- Result 2, the smoothing scales. -/
theorem res2 : W4 m c main_v6 = Cert.ReferenceIdeal.Value.G5 (a0 m c) (a1 m c) (a2 m c) (a3 m c) := by
  funext i
  obtain ⟨k, rfl⟩ : ∃ k : Fin 2560, i = ix1 k := ⟨_, eta1 i⟩
  exact (W4_v6 m c k).trans ((congrFun ((W3_keeps m c main_v3_0 (by decide)).trans (W2_v3_0 m c)) _).trans ((s_eq m c k).trans
    (Cert.ReferenceIdeal.Hand.G5_at (a0 m c) (a1 m c) (a3 m c) (a2 m c) k).symm))

/-- Result 3, the weights' codes. -/
theorem res3 : W4 m c main_v4_1 = Cert.ReferenceIdeal.Value.G6 (a0 m c) (a1 m c) (a2 m c) (a3 m c) := by
  refine (StableHlo.after_of_writes_sub hostOps2 _ hostOps2_writes (by decide : main_v4_1 ∉ hostOps2_W)).trans ((W3_v4_1 m c).trans ?_)
  funext i
  obtain ⟨k, n, rfl⟩ : ∃ (k : Fin 2560) (n : Fin 10240), i = ix2 k n := ⟨_, _, eta2 i⟩
  refine Eq.trans ?_ (Cert.ReferenceIdeal.Hand.G6_at (a0 m c) (a1 m c) (a3 m c) (a2 m c) k n).symm
  show wcOf (acol (W2 m) c n) (srow _) k = _
  rw [srow_eq, acol_eq]

/-- Result 4, the weights' scales. -/
theorem res4 : W4 m c main_v7 = Cert.ReferenceIdeal.Value.G7 (a0 m c) (a1 m c) (a2 m c) (a3 m c) := by
  funext i
  obtain ⟨n, rfl⟩ : ∃ n : Fin 10240, i = ix1 n := ⟨_, eta1 i⟩
  refine (W4_v7 m c n).trans ((congrFun (W3_v4_2 m c) _).trans
    (Eq.trans ?_ (Cert.ReferenceIdeal.Hand.G7_at (a0 m c) (a1 m c) (a3 m c) (a2 m c) n).symm))
  show wsOf (acol (W2 m) c n) (srow _) = _
  rw [srow_eq, acol_eq]

/-- Result 5, the activations' codes. -/
theorem res5 : W4 m c main_v8 = Cert.ReferenceIdeal.Value.G8 (a0 m c) (a1 m c) (a2 m c) (a3 m c) := by
  funext i
  obtain ⟨a, b, k, rfl⟩ : ∃ (a : Fin 12) (b : Fin 128) (k : Fin 2560), i = ix3 a b k := ⟨_, _, _, eta3 i⟩
  exact (W4_v8 m c a b k).trans ((congrFun ((W3_keeps m c main_v3_2 (by decide)).trans (W2_v3_2 m c)) _).trans ((xc_eq m c (a, b) k).trans
    (Cert.ReferenceIdeal.Hand.G8_at (a0 m c) (a1 m c) (a3 m c) (a2 m c) a b k).symm))

/-- Result 6, the tokens' scales. -/
theorem res6 : W4 m c main_v3_4 = Cert.ReferenceIdeal.Value.G9 (a0 m c) (a1 m c) (a2 m c) (a3 m c) := by
  refine (StableHlo.after_of_writes_sub hostOps2 _ hostOps2_writes (by decide : main_v3_4 ∉ hostOps2_W)).trans
    ((W3_keeps m c main_v3_4 (by decide)).trans ((W2_v3_4 m c).trans ?_))
  funext i
  obtain ⟨a, b, rfl⟩ : ∃ (a : Fin 12) (b : Fin 128), i = ix2 a b := ⟨_, _, eta2 i⟩
  refine Eq.trans ?_ ((xs_eq m c (a, b) 0).trans (Cert.ReferenceIdeal.Hand.G9_at (a0 m c) (a1 m c) (a3 m c) (a2 m c) a b).symm)
  exact congrArg (actXs (V1 m c main_v0) (V1 m c main_v1) (V1 m c main_v2)) (congrArg (fun r => ix2 r (0 : Fin 128))
    (Fin.ext (by show 128 * a.val + b.val = a.val * 128 + b.val; omega)))

end Cert.KernelIdeal.Hand

end
-- ==== Proof.K.ALoops.lean ====
/-
  The two counted loops of the activation quantiser's kernel function, each by its invariant. The first fills the scratch
  of reciprocal root mean squares block by block and keeps the running column maxima in a second scratch, stored whole
  at every trip; the second stores codes and scales block by block.
-/
module

public import proofs.«01_k».proof.Proof.Fold
public import proofs.«01_k».proof.Proof.Gen.Kernel.Launch
public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 8192
set_option maxHeartbeats 4000000

noncomputable section

namespace Cert.Kernel.Hand

open Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ)
  (arg0 : Memref sig .tc .vmem S1536x2560 .bf16) (harg0 : arg0.IsWhole) (arg1 : Memref sig .tc .vmem S1x2560 .f32) (harg1 : arg1.IsWhole)
  (arg2 : Memref sig .tc .vmem S1x2560 .f32) (harg2 : arg2.IsWhole) (arg3 : Memref sig .tc .vmem S1x2560 .f32) (harg3 : arg3.IsWhole)
  (arg4 : Memref sig .tc .vmem S2560x128 .f32) (harg4 : arg4.IsWhole) (arg5 : Memref sig .tc .vmem S1536x2560 .i8) (harg5 : arg5.IsWhole)
  (arg6 : Memref sig .tc .vmem S1536x128 .f32) (harg6 : arg6.IsWhole) (arg7 : Memref sig .tc .vmem S12x128 .f32) (harg7 : arg7.IsWhole)
  (arg8 : Memref sig .tc .vmem S1536x128 .f32) (harg8 : arg8.IsWhole) (arg9 : Memref sig .tc .vmem S8x2560 .f32) (harg9 : arg9.IsWhole)

/-- Block `k`'s 32 rows of the activations. -/
abbrev xBlk (x : Vec F S1536x2560 .bf16) (o : Fin 2 → ℕ) (ho : ∀ a, o a + S32x2560.size a ≤ S1536x2560.size a) : Vec F S32x2560 .bf16 :=
  View.ld (Val := Elt F) (e' := .bf16) x (Rect.unit (s := S1536x2560) o S32x2560.size ho)

/-- The reciprocal root mean squares a trip of the first loop stores, with where. -/
def rPiece (x : Vec F S1536x2560 .bf16) (k : Fin k0_t1_loop.trips) : View.Piece (Elt F) S1536x128 .f32 :=
  ⟨Rect.unit (s := S1536x128) (k0_off2 k) S32x128.size (k0_off2_inb k), k0_pay10 (xBlk x (k0_off1 k) (k0_off1_inb k))⟩

/-- One step of the running column maxima. -/
def axStep (x : Vec F S1536x2560 .bf16) (g : Vec F S1x2560 .f32) (k : Fin k0_t1_loop.trips) (a : Vec F S8x2560 .f32) : Vec F S8x2560 .f32 :=
  k0_pay11 (xBlk x (k0_off1 k) (k0_off1_inb k)) g a

/-- The whole-array store of the running maxima at trip `k`. -/
def axPiece (x : Vec F S1536x2560 .bf16) (g : Vec F S1x2560 .f32) (a : Vec F S8x2560 .f32) (k : Fin k0_t1_loop.trips) : View.Piece (Elt F) S8x2560 .f32 :=
  ⟨Rect.unit (s := S8x2560) ![0, 0] S8x2560.size inb_S8x2560_S8x2560_0_0, axStep x g k (carried k0_t1_loop.trips (axStep x g) a k.val)⟩

/-- After the stores before trip `k` the array reads as the running maxima. -/
theorem axRead {κ : Kind} {sp : Space} (v : View sig κ sp S8x2560 .f32) (f : v.ty.Contents (Elt F)) (x : Vec F S1536x2560 .bf16) (g : Vec F S1x2560 .f32) :
    ∀ k, k ≤ k0_t1_loop.trips → v.read (Elt F) (v.writes (Elt F) f (pcs k0_t1_loop.trips (axPiece x g (v.read (Elt F) f)) k))
      = carried k0_t1_loop.trips (axStep x g) (v.read (Elt F) f) k
  | 0, _ => rfl
  | k + 1, hk => by
    rw [pcs_succ k0_t1_loop.trips (axPiece x g (v.read (Elt F) f)) ⟨k, hk⟩, carried_succ k0_t1_loop.trips (axStep x g) (v.read (Elt F) f) ⟨k, hk⟩]
    exact View.read_writes_full v f _ _ _

set_option warn.classDefReducibility false in
/-- The first loop: before trip `k` the first scratch holds the pieces of the trips before and the second the whole-array
    stores of the trips before. -/
@[sl_loop] def statLoop (X0 : BufTy.Contents (Elt F) arg0.view.ty) (X1 : BufTy.Contents (Elt F) arg1.view.ty)
    (G8 : BufTy.Contents (Elt F) arg8.view.ty) (G9 : BufTy.Contents (Elt F) arg9.view.ty) :
    LoopInv (M := 𝕄G) Idealize.ShloMosaic.frame (wpE defs₀ 𝒱 (c : Thread nD τ) bd) E
      k0_t1_loop.lb k0_t1_loop.ub k0_t1_loop.st k0_t1_ok () (k0_t1_body (F := F) arg0 harg0 arg1 harg1 arg2 harg2 arg3 harg3 arg4 harg4 arg5 harg5 arg6 harg6 arg7 harg7 arg8 harg8 arg9 harg9) where
  inv k _ := iprop((arg0.view.loc (c : Thread nD τ) ↦[arg0.view.set]{fullShare} X0) ∗ (arg1.view.loc (c : Thread nD τ) ↦[arg1.view.set]{fullShare} X1)
    ∗ (∃ f, (arg8.view.loc (c : Thread nD τ) ↦[arg8.view.set]{fullShare} f) ∗ ⌜f = arg8.view.writes (Elt F) G8 (pcs k0_t1_loop.trips (rPiece (arg0.view.read (Elt F) X0)) k)⌝)
    ∗ (∃ f, (arg9.view.loc (c : Thread nD τ) ↦[arg9.view.set]{fullShare} f) ∗ ⌜f = arg9.view.writes (Elt F) G9 (pcs k0_t1_loop.trips (axPiece (arg0.view.read (Elt F) X0) (arg1.view.read (Elt F) X1) (arg9.view.read (Elt F) G9)) k)⌝))
  step k acc := by
    iintro ⟨H0, H1, ⟨%f8, H8, %h8⟩, ⟨%f9, H9, %h9⟩⟩
    subst h8 h9
    rw [pcs_succ k0_t1_loop.trips (rPiece (arg0.view.read (Elt F) X0)) k, pcs_succ k0_t1_loop.trips (axPiece (arg0.view.read (Elt F) X0) (arg1.view.read (Elt F) X1) (arg9.view.read (Elt F) G9)) k]
    unfold k0_t1_body
    sl_exec
    sl_step
    isplitl [H0]; · iexact H0
    isplitl [H1]; · iexact H1
    isplitl [H8]
    · iexists _; isplitl [H8]; · iexact H8
      ipureintro; exact (View.writes_append _ _ [_] _).symm
    iexists _; isplitl [H9]; · iexact H9
    ipureintro
    have e : axPiece (arg0.view.read (Elt F) X0) (arg1.view.read (Elt F) X1) (arg9.view.read (Elt F) G9) k = ⟨Rect.unit (s := S8x2560) ![0, 0] S8x2560.size inb_S8x2560_S8x2560_0_0,
        k0_pay11 (xBlk (arg0.view.read (Elt F) X0) (k0_off1 k) (k0_off1_inb k)) (arg1.view.readAt (Elt F) (Rect.unit (s := S1x2560) ![0, 0] S1x2560.size inb_S1x2560_S1x2560_0_0).toLoadRect X1)
          (arg9.view.readAt (Elt F) (Rect.unit (s := S8x2560) ![0, 0] S8x2560.size inb_S8x2560_S8x2560_0_0).toLoadRect (arg9.view.writes (Elt F) G9 (pcs k0_t1_loop.trips (axPiece (arg0.view.read (Elt F) X0) (arg1.view.read (Elt F) X1) (arg9.view.read (Elt F) G9)) k)))⟩ := by
      rw [View.readAt_full arg1.view, View.readAt_full arg9.view, axRead arg9.view G9 (arg0.view.read (Elt F) X0) (arg1.view.read (Elt F) X1) k k.isLt.le]; rfl
    rw [View.writes_cons, e]
    rfl

/-- The codes a trip of the second loop stores, with where. -/
def xcPiece (x : Vec F S1536x2560 .bf16) (r : Vec F S1536x128 .f32) (g s : Vec F S1x2560 .f32) (k : Fin k0_t2_loop.trips) : View.Piece (Elt F) S1536x2560 .i8 :=
  ⟨Rect.unit (s := S1536x2560) (k0_off3 k) S32x2560.size (k0_off3_inb k), k0_pay5 (xBlk x (k0_off3 k) (k0_off3_inb k))
    (View.ld (Val := Elt F) (e' := .f32) r (Rect.unit (s := S1536x128) (k0_off4 k) S32x1.size (k0_off4_inb k))) g s⟩

/-- The replicated scales a trip of the second loop stores, with where. -/
def xsPiece (x : Vec F S1536x2560 .bf16) (r : Vec F S1536x128 .f32) (g s : Vec F S1x2560 .f32) (k : Fin k0_t2_loop.trips) : View.Piece (Elt F) S1536x128 .f32 :=
  ⟨Rect.unit (s := S1536x128) (k0_off5 k) S32x128.size (k0_off5_inb k), k0_pay6 (xBlk x (k0_off3 k) (k0_off3_inb k))
    (View.ld (Val := Elt F) (e' := .f32) r (Rect.unit (s := S1536x128) (k0_off4 k) S32x1.size (k0_off4_inb k))) g s⟩

set_option warn.classDefReducibility false in
/-- The second loop: before trip `k` the two destinations hold the pieces of the trips before. -/
@[sl_loop] def storeLoop (v16 : FVec F S1x2560 .f32) (v106 : FVec F S128x128 .f32) (X0 : BufTy.Contents (Elt F) arg0.view.ty) (X1 : BufTy.Contents (Elt F) arg1.view.ty)
    (X3 : BufTy.Contents (Elt F) arg3.view.ty) (X8 : BufTy.Contents (Elt F) arg8.view.ty) (G5 : BufTy.Contents (Elt F) arg5.view.ty) (G6 : BufTy.Contents (Elt F) arg6.view.ty) :
    LoopInv (M := 𝕄G) Idealize.ShloMosaic.frame (wpE defs₀ 𝒱 (c : Thread nD τ) bd) E
      k0_t2_loop.lb k0_t2_loop.ub k0_t2_loop.st k0_t2_ok () (k0_t2_body (F := F) arg0 harg0 arg1 harg1 arg2 harg2 arg3 harg3 arg4 harg4 arg5 harg5 arg6 harg6 arg7 harg7 arg8 harg8 arg9 harg9 v16 v106) where
  inv k _ := iprop((arg0.view.loc (c : Thread nD τ) ↦[arg0.view.set]{fullShare} X0) ∗ (arg1.view.loc (c : Thread nD τ) ↦[arg1.view.set]{fullShare} X1) ∗ (arg3.view.loc (c : Thread nD τ) ↦[arg3.view.set]{fullShare} X3) ∗ (arg8.view.loc (c : Thread nD τ) ↦[arg8.view.set]{fullShare} X8)
    ∗ (∃ f, (arg5.view.loc (c : Thread nD τ) ↦[arg5.view.set]{fullShare} f) ∗ ⌜f = arg5.view.writes (Elt F) G5 (pcs k0_t2_loop.trips (xcPiece (arg0.view.read (Elt F) X0) (arg8.view.read (Elt F) X8) (arg1.view.read (Elt F) X1) (arg3.view.read (Elt F) X3)) k)⌝)
    ∗ (∃ f, (arg6.view.loc (c : Thread nD τ) ↦[arg6.view.set]{fullShare} f) ∗ ⌜f = arg6.view.writes (Elt F) G6 (pcs k0_t2_loop.trips (xsPiece (arg0.view.read (Elt F) X0) (arg8.view.read (Elt F) X8) (arg1.view.read (Elt F) X1) (arg3.view.read (Elt F) X3)) k)⌝))
  step k acc := by
    iintro ⟨H0, H1, H3, H8, ⟨%f5, H5, %h5⟩, ⟨%f6, H6, %h6⟩⟩
    subst h5 h6
    rw [pcs_succ k0_t2_loop.trips (xcPiece (arg0.view.read (Elt F) X0) (arg8.view.read (Elt F) X8) (arg1.view.read (Elt F) X1) (arg3.view.read (Elt F) X3)) k, pcs_succ k0_t2_loop.trips (xsPiece (arg0.view.read (Elt F) X0) (arg8.view.read (Elt F) X8) (arg1.view.read (Elt F) X1) (arg3.view.read (Elt F) X3)) k]
    unfold k0_t2_body
    simp only [k0_part1_eq_skeleton]
    unfold k0_part1_skel
    sl_exec
    sl_step
    isplitl [H0]; · iexact H0
    isplitl [H1]; · iexact H1
    isplitl [H3]; · iexact H3
    isplitl [H8]; · iexact H8
    have e1 := View.readAt_full arg1.view X1 inb_S1x2560_S1x2560_0_0
    have e3 := View.readAt_full arg3.view X3 inb_S1x2560_S1x2560_0_0
    isplitl [H5]
    · iexists _; isplitl [H5]; · iexact H5
      ipureintro
      refine (View.writes_append _ _ [_] _).symm.trans ?_
      rw [e1, e3]; rfl
    iexists _; isplitl [H6]; · iexact H6
    ipureintro
    refine (View.writes_append _ _ [_] _).symm.trans ?_
    rw [e1, e3]; rfl

end Cert.Kernel.Hand

end
-- ==== Proof.K.ASpec.lean ====
/-
  What the activation quantiser's kernel function leaves in its buffers, as functions of the activations, the weights of
  the normalisation and the columns' weight maxima: the piece lists of its two loops and of its two series of stores,
  read back.
-/
module

public import proofs.«01_k».proof.Proof.K.ALoops
public import Idealize.ShloMosaic.Lib.Pointwise
public import proofs.«01_k».proof.Proof.Gen.Kernel.Launch
public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 8192
set_option maxHeartbeats 4000000

noncomputable section

namespace Cert.Kernel.Hand

open Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Block `k`'s 32 rows lie inside the activations; -/
theorem inbX (k : Fin 48) : ∀ a, (![32 * k.val, 0] : Fin 2 → ℕ) a + S32x2560.size a ≤ S1536x2560.size a := by
  have hk := k.isLt
  refine Fin.forall_fin_two.mpr ⟨?_, ?_⟩
  · show 32 * k.val + 32 ≤ 1536; omega
  · show 0 + 2560 ≤ 2560; omega

/-- and inside the first column of the row statistics. -/
theorem inbR (k : Fin 48) : ∀ a, (![32 * k.val, 0] : Fin 2 → ℕ) a + S32x1.size a ≤ S1536x128.size a := by
  have hk := k.isLt
  refine Fin.forall_fin_two.mpr ⟨?_, ?_⟩
  · show 32 * k.val + 32 ≤ 1536; omega
  · show 0 + 1 ≤ 128; omega

/-- 1536 rows read off blocks of 32. -/
def rows {w : ℕ} {α : Type} (G : Fin 48 → Shape.Idx ⟨2, ![32, w]⟩ → α) (y : Shape.Idx ⟨2, ![1536, w]⟩) : α :=
  have h0 : (y 0).val < 1536 := (y 0).isLt
  G ⟨(y 0).val / 32, by omega⟩ (ix2 ⟨(y 0).val % 32, by omega⟩ (y 1))

/-- Place `x` of block `k` of those rows is the block there. -/
theorem rows_at {w : ℕ} {α : Type} (G : Fin 48 → Shape.Idx ⟨2, ![32, w]⟩ → α) (y : Shape.Idx ⟨2, ![1536, w]⟩) (k : Fin 48) (x : Shape.Idx ⟨2, ![32, w]⟩)
    (h0 : (y 0).val = 32 * k.val + (x 0).val) (h1 : (y 1).val = (x 1).val) : rows G y = G k x := by
  have hx0 : (x 0).val < 32 := (x 0).isLt
  have ek : ∀ h, (⟨(y 0).val / 32, h⟩ : Fin 48) = k := fun h => Fin.ext (by show (y 0).val / 32 = k.val; omega)
  have ex : ∀ h, (ix2 (⟨(y 0).val % 32, h⟩ : Fin 32) (y 1 : Fin w) : Shape.Idx ⟨2, ![32, w]⟩) = x := fun h => by
    funext a
    match a with
    | ⟨0, _⟩ => exact Fin.ext (by show (y 0).val % 32 = (x 0).val; omega)
    | ⟨1, _⟩ => exact Fin.ext h1
  unfold rows
  dsimp only
  rw [ek, ex]

/-- A row lies in the rectangle of its block. -/
theorem mem_rows {w : ℕ} (y : Shape.Idx ⟨2, ![1536, w]⟩) {o : Fin 2 → ℕ} (e : o = ![32 * ((y 0).val / 32), 0])
    (ho : ∀ a, o a + (⟨2, ![32, w]⟩ : Shape).size a ≤ (⟨2, ![1536, w]⟩ : Shape).size a) :
    y ∈ (Rect.unit (s := ⟨2, ![1536, w]⟩) o (⟨2, ![32, w]⟩ : Shape).size ho).set := by
  subst e
  refine (LoadRect.mem_set _).mpr (Fin.forall_fin_two.mpr ⟨⟨(y 0).val % 32, Nat.mod_lt _ (by decide), ?_⟩, ⟨(y 1).val, (y 1).isLt, ?_⟩⟩)
  · show (y 0).val = 32 * ((y 0).val / 32) + 1 * ((y 0).val % 32); omega
  · show (y 1).val = 0 + 1 * (y 1).val; omega

/-- The reciprocal root mean squares of the rows, replicated. -/
def actR (x : Vec F S1536x2560 .bf16) : Vec F S1536x128 .f32 := rows (fun k => k0_pay10 (xBlk x _ (inbX k)))

/-- The column maxima after all blocks: eight partial maxima per column. -/
def actMax (x : Vec F S1536x2560 .bf16) (g : Vec F S1x2560 .f32) : Vec F S8x2560 .f32 :=
  carried 48 (fun k a => k0_pay11 (xBlk x _ (inbX k)) g a) (k0_pay7 (F := F)) 48

/-- The smoothing scales of the columns. -/
def actS (x : Vec F S1536x2560 .bf16) (g w : Vec F S1x2560 .f32) : Vec F S1x2560 .f32 := k0_pay12 (actMax x g) w

/-- One value per column, down the rows and replicated. -/
def repl (s : Vec F S1x2560 .f32) : Vec F S2560x128 .f32 := fun y => s (ix2 0 (y 0))

/-- The first column of block `k` of the row statistics. -/
abbrev rBlk (r : Vec F S1536x128 .f32) (k : Fin 48) : Vec F S32x1 .f32 :=
  View.ld (Val := Elt F) (e' := .f32) r (Rect.unit (s := S1536x128) ![32 * k.val, 0] S32x1.size (inbR k))

/-- The activations' codes from the row statistics and the smoothing scales; -/
def codesOf (x : Vec F S1536x2560 .bf16) (r : Vec F S1536x128 .f32) (g s : Vec F S1x2560 .f32) : Vec F S1536x2560 .i8 :=
  rows (fun k => k0_pay5 (xBlk x _ (inbX k)) (rBlk r k) g s)
/-- their rows' scales, replicated; -/
def scalesOf (x : Vec F S1536x2560 .bf16) (r : Vec F S1536x128 .f32) (g s : Vec F S1x2560 .f32) : Vec F S1536x128 .f32 :=
  rows (fun k => k0_pay6 (xBlk x _ (inbX k)) (rBlk r k) g s)
/-- replicated row values as twelve rows of 128. -/
def fold12 (r : Vec F S1536x128 .f32) : Vec F S12x128 .f32 := fun y =>
  have h0 : (y 0).val < 12 := (y 0).isLt
  have h1 : (y 1).val < 128 := (y 1).isLt
  r (ix2 ⟨128 * (y 0).val + (y 1).val, by omega⟩ 0)

/-- The activations' codes. -/
def actCode (x : Vec F S1536x2560 .bf16) (g w : Vec F S1x2560 .f32) : Vec F S1536x2560 .i8 := codesOf x (actR x) g (actS x g w)
/-- The rows' scales, replicated. -/
def actXs (x : Vec F S1536x2560 .bf16) (g w : Vec F S1x2560 .f32) : Vec F S1536x128 .f32 := scalesOf x (actR x) g (actS x g w)

/-! ### The loops' pieces read back -/

/-- The block at a trip's offsets. -/
theorem xBlk_congr (x : Vec F S1536x2560 .bf16) {o o' : Fin 2 → ℕ} (e : o = o') (ho ho') : xBlk x o ho = xBlk x o' ho' := by subst e; rfl

/-- The first loop's carried maxima after all trips. -/
theorem actMax_eq (x : Vec F S1536x2560 .bf16) (g : Vec F S1x2560 .f32) :
    carried k0_t1_loop.trips (axStep x g) (k0_pay7 (F := F)) k0_t1_loop.trips = actMax x g :=
  carried_congr (by decide) _ _ (fun k => funext fun a => congrArg (fun b => k0_pay11 b g a) (xBlk_congr x (k0_off1_eq k) _ _)) _

/-- A piece at block `k`'s offsets is that block of the rows. -/
theorem rows_piece {w : ℕ} {e : EltTy} (G : Fin 48 → Shape.Idx ⟨2, ![32, w]⟩ → Elt F e) (k : Fin 48) {o : Fin 2 → ℕ} (ho : o = ![32 * k.val, 0])
    (inb : ∀ a, o a + (⟨2, ![32, w]⟩ : Shape).size a ≤ (⟨2, ![1536, w]⟩ : Shape).size a) (x : Shape.Idx ⟨2, ![32, w]⟩) :
    G k x = rows G ((Rect.unit (s := ⟨2, ![1536, w]⟩) o (⟨2, ![32, w]⟩ : Shape).size inb).emb x) := by
  subst ho
  refine (rows_at G _ k x (congrArg (32 * k.val + ·) (Nat.one_mul _)) ?_).symm
  show 0 + 1 * (x 1).val = (x 1).val
  omega

/-- Blocks of 32 rows written one per trip, all 48 of them, read as the rows they are the blocks of. -/
theorem rows_read {w : ℕ} {e : EltTy} {κ : Kind} {sp : Space} (v : View sig κ sp ⟨2, ![1536, w]⟩ e) (f : v.ty.Contents (Elt F))
    (G : Fin 48 → Shape.Idx ⟨2, ![32, w]⟩ → Elt F e) {n : ℕ} (hn : n = 48) (o : Fin n → Fin 2 → ℕ)
    (inb : ∀ k a, o k a + (⟨2, ![32, w]⟩ : Shape).size a ≤ (⟨2, ![1536, w]⟩ : Shape).size a) (ho : ∀ k, o k = ![32 * k.val, 0])
    (P : Fin n → View.Piece (Elt F) ⟨2, ![1536, w]⟩ e) (hP : ∀ k, P k = ⟨Rect.unit (s := ⟨2, ![1536, w]⟩) (o k) (⟨2, ![32, w]⟩ : Shape).size (inb k), G (k.cast hn)⟩) :
    v.read (Elt F) (v.writes (Elt F) f (pcs n P n)) = rows G := by
  subst hn
  funext y
  have h0 : (y 0).val < 1536 := (y 0).isLt
  refine View.read_writes_apply_of_pieces v f (rows G) _ ?_ y ?_
  · intro p hp
    obtain ⟨k, _, rfl⟩ := (mem_pcs _ _ _ _).mp hp
    rw [hP k]
    exact rows_piece G k (ho k) (inb k)
  · have hk : (y 0).val / 32 < 48 := by omega
    refine ⟨P ⟨_, hk⟩, (mem_pcs _ _ _ _).mpr ⟨⟨_, hk⟩, hk, rfl⟩, ?_⟩
    rw [hP ⟨_, hk⟩]
    exact mem_rows y (ho ⟨_, hk⟩) (inb ⟨_, hk⟩)

/-- After the first loop's pieces the scratch reads as the row statistics; -/
theorem actR_read {κ : Kind} {sp : Space} (v : View sig κ sp S1536x128 .f32) (f : v.ty.Contents (Elt F)) (x : Vec F S1536x2560 .bf16) :
    v.read (Elt F) (v.writes (Elt F) f (pcs k0_t1_loop.trips (rPiece x) k0_t1_loop.trips)) = actR x :=
  rows_read v f _ (by decide) k0_off2 k0_off2_inb k0_off2_eq _ fun k => by
    unfold rPiece
    rw [xBlk_congr x (k0_off1_eq k) _ (inbX (k.cast (by decide)))]; rfl

theorem rBlk_congr (r : Vec F S1536x128 .f32) {o : Fin 2 → ℕ} (k : Fin 48) (e : o = ![32 * k.val, 0]) (ho : ∀ a, o a + S32x1.size a ≤ S1536x128.size a) :
    View.ld (Val := Elt F) (e' := .f32) r (Rect.unit (s := S1536x128) o S32x1.size ho) = rBlk r k := by subst e; rfl

/-- after the second loop's the codes' buffer reads as the codes, -/
theorem codes_read {κ : Kind} {sp : Space} (v : View sig κ sp S1536x2560 .i8) (f : v.ty.Contents (Elt F)) (x : Vec F S1536x2560 .bf16) (r : Vec F S1536x128 .f32) (g s : Vec F S1x2560 .f32) :
    v.read (Elt F) (v.writes (Elt F) f (pcs k0_t2_loop.trips (xcPiece x r g s) k0_t2_loop.trips)) = codesOf x r g s :=
  rows_read v f _ (by decide) k0_off3 k0_off3_inb k0_off3_eq _ fun k => by
    unfold xcPiece
    rw [xBlk_congr x (k0_off3_eq k) _ (inbX (k.cast (by decide))), rBlk_congr r (k.cast (by decide)) (k0_off4_eq k)]; rfl

/-- and the scales' buffer as the scales. -/
theorem scales_read {κ : Kind} {sp : Space} (v : View sig κ sp S1536x128 .f32) (f : v.ty.Contents (Elt F)) (x : Vec F S1536x2560 .bf16) (r : Vec F S1536x128 .f32) (g s : Vec F S1x2560 .f32) :
    v.read (Elt F) (v.writes (Elt F) f (pcs k0_t2_loop.trips (xsPiece x r g s) k0_t2_loop.trips)) = scalesOf x r g s :=
  rows_read v f _ (by decide) k0_off5 k0_off5_inb k0_off5_eq _ fun k => by
    unfold xsPiece
    rw [xBlk_congr x (k0_off3_eq k) _ (inbX (k.cast (by decide))), rBlk_congr r (k.cast (by decide)) (k0_off4_eq k)]; rfl

/-! ### The two series of stores read back -/

/-- 128 columns' values turned down the rows and replicated. -/
def repChunk (s : FVec F S1x2560 .f32) (o : ℕ) (h : S1x2560.Slices ![0, o] S1x128) : FVec F S128x128 .f32 :=
  transpose S128x128 [1, 0] (broadcastTo S128x128 (shapeCast S1x128 (extractStridedSlice S1x128 ![0, o] s h)))

/-- Row `a` of such a chunk is column `o + a`'s value. -/
theorem repPiece_at (s : FVec F S1x2560 .f32) (o : ℕ) (h : S1x2560.Slices ![0, o] S1x128) (inb) (x : S128x128.Idx) :
    repChunk s o h x = repl s ((Rect.unit (s := S2560x128) ![o, 0] S128x128.size inb).emb x) := by
  obtain ⟨a, b, rfl⟩ : ∃ (a : Fin 128) (b : Fin 128), x = ix2 a b := ⟨x 0, x 1, by funext i; match i with | ⟨0, _⟩ => rfl | ⟨1, _⟩ => rfl⟩
  unfold repChunk repl
  pointwise
  refine congrArg s ?_
  funext i
  match i with
  | ⟨0, _⟩ => exact Fin.ext (by first | rfl | simp)
  | ⟨1, _⟩ => exact Fin.ext (by first | rfl | simp)

/-- The stores of the replicated smoothing scales, newest first. -/
abbrev repList (a : Vec F S8x2560 .f32) (w : Vec F S1x2560 .f32) : List (View.Piece (Elt F) S2560x128 .f32) :=
  [⟨Rect.unit (s := S2560x128) ![2432, 0] S128x128.size inb_S2560x128_S128x128_2432_0, k0_pay33 (k0_pay12 a w)⟩,
    ⟨Rect.unit (s := S2560x128) ![2304, 0] S128x128.size inb_S2560x128_S128x128_2304_0, k0_pay32 (k0_pay12 a w)⟩,
    ⟨Rect.unit (s := S2560x128) ![2176, 0] S128x128.size inb_S2560x128_S128x128_2176_0, k0_pay31 (k0_pay12 a w)⟩,
    ⟨Rect.unit (s := S2560x128) ![2048, 0] S128x128.size inb_S2560x128_S128x128_2048_0, k0_pay30 (k0_pay12 a w)⟩,
    ⟨Rect.unit (s := S2560x128) ![1920, 0] S128x128.size inb_S2560x128_S128x128_1920_0, k0_pay29 (k0_pay12 a w)⟩,
    ⟨Rect.unit (s := S2560x128) ![1792, 0] S128x128.size inb_S2560x128_S128x128_1792_0, k0_pay28 (k0_pay12 a w)⟩,
    ⟨Rect.unit (s := S2560x128) ![1664, 0] S128x128.size inb_S2560x128_S128x128_1664_0, k0_pay27 (k0_pay12 a w)⟩,
    ⟨Rect.unit (s := S2560x128) ![1536, 0] S128x128.size inb_S2560x128_S128x128_1536_0, k0_pay26 (k0_pay12 a w)⟩,
    ⟨Rect.unit (s := S2560x128) ![1408, 0] S128x128.size inb_S2560x128_S128x128_1408_0, k0_pay25 (k0_pay12 a w)⟩,
    ⟨Rect.unit (s := S2560x128) ![1280, 0] S128x128.size inb_S2560x128_S128x128_1280_0, k0_pay24 (k0_pay23 (k0_pay12 a w))⟩,
    ⟨Rect.unit (s := S2560x128) ![1152, 0] S128x128.size inb_S2560x128_S128x128_1152_0, k0_pay22 (k0_pay12 a w)⟩,
    ⟨Rect.unit (s := S2560x128) ![1024, 0] S128x128.size inb_S2560x128_S128x128_1024_0, k0_pay21 (k0_pay12 a w)⟩,
    ⟨Rect.unit (s := S2560x128) ![896, 0] S128x128.size inb_S2560x128_S128x128_896_0, k0_pay20 (k0_pay12 a w)⟩,
    ⟨Rect.unit (s := S2560x128) ![768, 0] S128x128.size inb_S2560x128_S128x128_768_0, k0_pay19 (k0_pay12 a w)⟩,
    ⟨Rect.unit (s := S2560x128) ![640, 0] S128x128.size inb_S2560x128_S128x128_640_0, k0_pay18 (k0_pay12 a w)⟩,
    ⟨Rect.unit (s := S2560x128) ![512, 0] S128x128.size inb_S2560x128_S128x128_512_0, k0_pay17 (k0_pay12 a w)⟩,
    ⟨Rect.unit (s := S2560x128) ![384, 0] S128x128.size inb_S2560x128_S128x128_384_0, k0_pay16 (k0_pay12 a w)⟩,
    ⟨Rect.unit (s := S2560x128) ![256, 0] S128x128.size inb_S2560x128_S128x128_256_0, k0_pay15 a w⟩,
    ⟨Rect.unit (s := S2560x128) ![128, 0] S128x128.size inb_S2560x128_S128x128_128_0, k0_pay14 a w⟩,
    ⟨Rect.unit (s := S2560x128) ![0, 0] S128x128.size inb_S2560x128_S128x128_0_0, k0_pay13 a w⟩]

theorem mem_chunk (y : S2560x128.Idx) (b : ℕ) (inb : ∀ a, (![128 * b, 0] : Fin 2 → ℕ) a + S128x128.size a ≤ S2560x128.size a) (hb : (y 0).val / 128 = b) :
    y ∈ (Rect.unit (s := S2560x128) ![128 * b, 0] S128x128.size inb).set := by
  refine (LoadRect.mem_set _).mpr (Fin.forall_fin_two.mpr ⟨⟨(y 0).val % 128, Nat.mod_lt _ (by decide), ?_⟩, ⟨(y 1).val, (y 1).isLt, ?_⟩⟩)
  · show (y 0).val = 128 * b + 1 * ((y 0).val % 128); omega
  · show (y 1).val = 0 + 1 * (y 1).val; omega

/-- The stores agree with the replicated scales, -/
theorem repList_agree (a : Vec F S8x2560 .f32) (w : Vec F S1x2560 .f32) :
    ∀ p ∈ repList a w, ∀ x : p.1.shape.Idx, p.2 x = repl (k0_pay12 a w) (p.1.emb x) := by
  intro p hp
  simp only [repList, List.mem_cons, List.not_mem_nil, or_false] at hp
  rcases hp with rfl | rfl | rfl | rfl | rfl | rfl | rfl | rfl | rfl | rfl | rfl | rfl | rfl | rfl | rfl | rfl | rfl | rfl | rfl | rfl
  · exact repPiece_at (k0_pay12 a w) 2432 (by decide) inb_S2560x128_S128x128_2432_0
  · exact repPiece_at (k0_pay12 a w) 2304 (by decide) inb_S2560x128_S128x128_2304_0
  · exact repPiece_at (k0_pay12 a w) 2176 (by decide) inb_S2560x128_S128x128_2176_0
  · exact repPiece_at (k0_pay12 a w) 2048 (by decide) inb_S2560x128_S128x128_2048_0
  · exact repPiece_at (k0_pay12 a w) 1920 (by decide) inb_S2560x128_S128x128_1920_0
  · exact repPiece_at (k0_pay12 a w) 1792 (by decide) inb_S2560x128_S128x128_1792_0
  · exact repPiece_at (k0_pay12 a w) 1664 (by decide) inb_S2560x128_S128x128_1664_0
  · exact repPiece_at (k0_pay12 a w) 1536 (by decide) inb_S2560x128_S128x128_1536_0
  · exact repPiece_at (k0_pay12 a w) 1408 (by decide) inb_S2560x128_S128x128_1408_0
  · exact repPiece_at (k0_pay12 a w) 1280 (by decide) inb_S2560x128_S128x128_1280_0
  · exact repPiece_at (k0_pay12 a w) 1152 (by decide) inb_S2560x128_S128x128_1152_0
  · exact repPiece_at (k0_pay12 a w) 1024 (by decide) inb_S2560x128_S128x128_1024_0
  · exact repPiece_at (k0_pay12 a w) 896 (by decide) inb_S2560x128_S128x128_896_0
  · exact repPiece_at (k0_pay12 a w) 768 (by decide) inb_S2560x128_S128x128_768_0
  · exact repPiece_at (k0_pay12 a w) 640 (by decide) inb_S2560x128_S128x128_640_0
  · exact repPiece_at (k0_pay12 a w) 512 (by decide) inb_S2560x128_S128x128_512_0
  · exact repPiece_at (k0_pay12 a w) 384 (by decide) inb_S2560x128_S128x128_384_0
  · exact repPiece_at (k0_pay12 a w) 256 (by decide) inb_S2560x128_S128x128_256_0
  · exact repPiece_at (k0_pay12 a w) 128 (by decide) inb_S2560x128_S128x128_128_0
  · exact repPiece_at (k0_pay12 a w) 0 (by decide) inb_S2560x128_S128x128_0_0

/-- and cover the buffer. -/
theorem repList_cover (a : Vec F S8x2560 .f32) (w : Vec F S1x2560 .f32) (y : S2560x128.Idx) : ∃ p ∈ repList a w, y ∈ p.1.set := by
  have h0 : (y 0).val < 2560 := (y 0).isLt
  obtain hb | hb | hb | hb | hb | hb | hb | hb | hb | hb | hb | hb | hb | hb | hb | hb | hb | hb | hb | hb : (y 0).val / 128 = 19 ∨ (y 0).val / 128 = 18 ∨ (y 0).val / 128 = 17 ∨ (y 0).val / 128 = 16 ∨ (y 0).val / 128 = 15 ∨ (y 0).val / 128 = 14 ∨ (y 0).val / 128 = 13 ∨ (y 0).val / 128 = 12 ∨ (y 0).val / 128 = 11 ∨ (y 0).val / 128 = 10 ∨ (y 0).val / 128 = 9 ∨ (y 0).val / 128 = 8 ∨ (y 0).val / 128 = 7 ∨ (y 0).val / 128 = 6 ∨ (y 0).val / 128 = 5 ∨ (y 0).val / 128 = 4 ∨ (y 0).val / 128 = 3 ∨ (y 0).val / 128 = 2 ∨ (y 0).val / 128 = 1 ∨ (y 0).val / 128 = 0 := by omega
  · exact ⟨_, .head _, mem_chunk y 19 inb_S2560x128_S128x128_2432_0 hb⟩
  · exact ⟨_, .tail _ (.head _), mem_chunk y 18 inb_S2560x128_S128x128_2304_0 hb⟩
  · exact ⟨_, .tail _ (.tail _ (.head _)), mem_chunk y 17 inb_S2560x128_S128x128_2176_0 hb⟩
  · exact ⟨_, .tail _ (.tail _ (.tail _ (.head _))), mem_chunk y 16 inb_S2560x128_S128x128_2048_0 hb⟩
  · exact ⟨_, .tail _ (.tail _ (.tail _ (.tail _ (.head _)))), mem_chunk y 15 inb_S2560x128_S128x128_1920_0 hb⟩
  · exact ⟨_, .tail _ (.tail _ (.tail _ (.tail _ (.tail _ (.head _))))), mem_chunk y 14 inb_S2560x128_S128x128_1792_0 hb⟩
  · exact ⟨_, .tail _ (.tail _ (.tail _ (.tail _ (.tail _ (.tail _ (.head _)))))), mem_chunk y 13 inb_S2560x128_S128x128_1664_0 hb⟩
  · exact ⟨_, .tail _ (.tail _ (.tail _ (.tail _ (.tail _ (.tail _ (.tail _ (.head _))))))), mem_chunk y 12 inb_S2560x128_S128x128_1536_0 hb⟩
  · exact ⟨_, .tail _ (.tail _ (.tail _ (.tail _ (.tail _ (.tail _ (.tail _ (.tail _ (.head _)))))))), mem_chunk y 11 inb_S2560x128_S128x128_1408_0 hb⟩
  · exact ⟨_, .tail _ (.tail _ (.tail _ (.tail _ (.tail _ (.tail _ (.tail _ (.tail _ (.tail _ (.head _))))))))), mem_chunk y 10 inb_S2560x128_S128x128_1280_0 hb⟩
  · exact ⟨_, .tail _ (.tail _ (.tail _ (.tail _ (.tail _ (.tail _ (.tail _ (.tail _ (.tail _ (.tail _ (.head _)))))))))), mem_chunk y 9 inb_S2560x128_S128x128_1152_0 hb⟩
  · exact ⟨_, .tail _ (.tail _ (.tail _ (.tail _ (.tail _ (.tail _ (.tail _ (.tail _ (.tail _ (.tail _ (.tail _ (.head _))))))))))), mem_chunk y 8 inb_S2560x128_S128x128_1024_0 hb⟩
  · exact ⟨_, .tail _ (.tail _ (.tail _ (.tail _ (.tail _ (.tail _ (.tail _ (.tail _ (.tail _ (.tail _ (.tail _ (.tail _ (.head _)))))))))))), mem_chunk y 7 inb_S2560x128_S128x128_896_0 hb⟩
  · exact ⟨_, .tail _ (.tail _ (.tail _ (.tail _ (.tail _ (.tail _ (.tail _ (.tail _ (.tail _ (.tail _ (.tail _ (.tail _ (.tail _ (.head _))))))))))))), mem_chunk y 6 inb_S2560x128_S128x128_768_0 hb⟩
  · exact ⟨_, .tail _ (.tail _ (.tail _ (.tail _ (.tail _ (.tail _ (.tail _ (.tail _ (.tail _ (.tail _ (.tail _ (.tail _ (.tail _ (.tail _ (.head _)))))))))))))), mem_chunk y 5 inb_S2560x128_S128x128_640_0 hb⟩
  · exact ⟨_, .tail _ (.tail _ (.tail _ (.tail _ (.tail _ (.tail _ (.tail _ (.tail _ (.tail _ (.tail _ (.tail _ (.tail _ (.tail _ (.tail _ (.tail _ (.head _))))))))))))))), mem_chunk y 4 inb_S2560x128_S128x128_512_0 hb⟩
  · exact ⟨_, .tail _ (.tail _ (.tail _ (.tail _ (.tail _ (.tail _ (.tail _ (.tail _ (.tail _ (.tail _ (.tail _ (.tail _ (.tail _ (.tail _ (.tail _ (.tail _ (.head _)))))))))))))))), mem_chunk y 3 inb_S2560x128_S128x128_384_0 hb⟩
  · exact ⟨_, .tail _ (.tail _ (.tail _ (.tail _ (.tail _ (.tail _ (.tail _ (.tail _ (.tail _ (.tail _ (.tail _ (.tail _ (.tail _ (.tail _ (.tail _ (.tail _ (.tail _ (.head _))))))))))))))))), mem_chunk y 2 inb_S2560x128_S128x128_256_0 hb⟩
  · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), mem_chunk y 1 inb_S2560x128_S128x128_128_0 hb⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), mem_chunk y 0 inb_S2560x128_S128x128_0_0 hb⟩

/-- After the stores the buffer reads as the replicated scales. -/
theorem repList_read {κ : Kind} {sp : Space} (v : View sig κ sp S2560x128 .f32) (f : v.ty.Contents (Elt F)) (a : Vec F S8x2560 .f32) (w : Vec F S1x2560 .f32) :
    v.read (Elt F) (v.writes (Elt F) f (repList a w)) = repl (k0_pay12 a w) :=
  funext fun y => View.read_writes_apply_of_pieces v f _ _ (repList_agree a w) y (repList_cover a w y)

/-- The first column of a square block, laid along a row. -/
def colChunk (b : FVec F S128x128 .f32) : FVec F S1x128 .f32 :=
  extractStridedSlice S1x128 ![0, 0] (transpose S128x128 [1, 0] (shapeCast S128x128 b))

/-- Entry `j` of such a row is row `j`'s first value. -/
theorem colChunk_at (b : FVec F S128x128 .f32) (i : Fin 1) (j : Fin 128) : colChunk b (ix2 i j) = b (ix2 j 0) := by
  unfold colChunk
  pointwise

/-- The stores of the rows' scales, newest first. -/
abbrev colList {κ : Kind} {sp : Space} (v : View sig κ sp S1536x128 .f32) (L : List (View.Piece (Elt F) S1536x128 .f32)) : List (View.Piece (Elt F) S12x128 .f32) :=
  [⟨Rect.unit (s := S12x128) ![11, 0] S1x128.size inb_S12x128_S1x128_11_0, k0_pay2 (v.readCov L (Rect.unit (s := S1536x128) ![1408, 0] S128x128.size inb_S1536x128_S128x128_1408_0).toLoadRect)⟩,
    ⟨Rect.unit (s := S12x128) ![10, 0] S1x128.size inb_S12x128_S1x128_10_0, k0_pay1 (v.readCov L (Rect.unit (s := S1536x128) ![1280, 0] S128x128.size inb_S1536x128_S128x128_1280_0).toLoadRect)⟩,
    ⟨Rect.unit (s := S12x128) ![9, 0] S1x128.size inb_S12x128_S1x128_9_0, k0_pay43 (v.readCov L (Rect.unit (s := S1536x128) ![1152, 0] S128x128.size inb_S1536x128_S128x128_1152_0).toLoadRect)⟩,
    ⟨Rect.unit (s := S12x128) ![8, 0] S1x128.size inb_S12x128_S1x128_8_0, k0_pay42 (v.readCov L (Rect.unit (s := S1536x128) ![1024, 0] S128x128.size inb_S1536x128_S128x128_1024_0).toLoadRect)⟩,
    ⟨Rect.unit (s := S12x128) ![7, 0] S1x128.size inb_S12x128_S1x128_7_0, k0_pay41 (v.readCov L (Rect.unit (s := S1536x128) ![896, 0] S128x128.size inb_S1536x128_S128x128_896_0).toLoadRect)⟩,
    ⟨Rect.unit (s := S12x128) ![6, 0] S1x128.size inb_S12x128_S1x128_6_0, k0_pay40 (v.readCov L (Rect.unit (s := S1536x128) ![768, 0] S128x128.size inb_S1536x128_S128x128_768_0).toLoadRect)⟩,
    ⟨Rect.unit (s := S12x128) ![5, 0] S1x128.size inb_S12x128_S1x128_5_0, k0_pay39 (v.readCov L (Rect.unit (s := S1536x128) ![640, 0] S128x128.size inb_S1536x128_S128x128_640_0).toLoadRect)⟩,
    ⟨Rect.unit (s := S12x128) ![4, 0] S1x128.size inb_S12x128_S1x128_4_0, k0_pay38 (v.readCov L (Rect.unit (s := S1536x128) ![512, 0] S128x128.size inb_S1536x128_S128x128_512_0).toLoadRect)⟩,
    ⟨Rect.unit (s := S12x128) ![3, 0] S1x128.size inb_S12x128_S1x128_3_0, k0_pay37 (v.readCov L (Rect.unit (s := S1536x128) ![384, 0] S128x128.size inb_S1536x128_S128x128_384_0).toLoadRect)⟩,
    ⟨Rect.unit (s := S12x128) ![2, 0] S1x128.size inb_S12x128_S1x128_2_0, k0_pay36 (v.readCov L (Rect.unit (s := S1536x128) ![256, 0] S128x128.size inb_S1536x128_S128x128_256_0).toLoadRect)⟩,
    ⟨Rect.unit (s := S12x128) ![1, 0] S1x128.size inb_S12x128_S1x128_1_0, k0_pay35 (v.readCov L (Rect.unit (s := S1536x128) ![128, 0] S128x128.size inb_S1536x128_S128x128_128_0).toLoadRect)⟩,
    ⟨Rect.unit (s := S12x128) ![0, 0] S1x128.size inb_S12x128_S1x128_0_0, k0_pay34 (v.readCov L (Rect.unit (s := S1536x128) ![0, 0] S128x128.size inb_S1536x128_S128x128_0_0).toLoadRect)⟩]

/-- Row `b` of the folded scales is the first column of block `b`. -/
theorem colPiece_at {κ : Kind} {sp : Space} (v : View sig κ sp S1536x128 .f32) (f : v.ty.Contents (Elt F)) (b : ℕ) (inb inb') (x : S1x128.Idx) :
    colChunk (v.readAt (Elt F) (Rect.unit (s := S1536x128) ![128 * b, 0] S128x128.size inb).toLoadRect f) x
      = fold12 (v.read (Elt F) f) ((Rect.unit (s := S12x128) ![b, 0] S1x128.size inb').emb x) := by
  obtain ⟨i, j, rfl⟩ : ∃ (i : Fin 1) (j : Fin 128), x = ix2 i j := ⟨x 0, x 1, by funext i; match i with | ⟨0, _⟩ => rfl | ⟨1, _⟩ => rfl⟩
  have hi : i.val = 0 := by omega
  rw [colChunk_at]
  unfold fold12
  refine congrArg (v.read (Elt F) f) ?_
  funext a
  match a with
  | ⟨0, _⟩ => exact Fin.ext (by show 128 * b + 1 * j.val = 128 * (b + 1 * i.val) + (0 + 1 * j.val); omega)
  | ⟨1, _⟩ => exact Fin.ext (by show 0 + 1 * 0 = 0; rfl)

theorem mem_row12 (y : S12x128.Idx) (b : ℕ) (inb : ∀ a, (![b, 0] : Fin 2 → ℕ) a + S1x128.size a ≤ S12x128.size a) (hb : (y 0).val = b) :
    y ∈ (Rect.unit (s := S12x128) ![b, 0] S1x128.size inb).set := by
  refine (LoadRect.mem_set _).mpr (Fin.forall_fin_two.mpr ⟨⟨0, Nat.one_pos, ?_⟩, ⟨(y 1).val, (y 1).isLt, ?_⟩⟩)
  · show (y 0).val = b + 1 * 0; omega
  · show (y 1).val = 0 + 1 * (y 1).val; omega

/-- The stores agree with the folded scales, -/
theorem colList_agree {κ : Kind} {sp : Space} (v : View sig κ sp S1536x128 .f32) (L : List (View.Piece (Elt F) S1536x128 .f32)) :
    ∀ p ∈ colList v L, ∀ x : p.1.shape.Idx, p.2 x = fold12 (v.read (Elt F) (v.writes (Elt F) v.junk L)) (p.1.emb x) := by
  intro p hp
  simp only [colList, List.mem_cons, List.not_mem_nil, or_false] at hp
  rcases hp with rfl | rfl | rfl | rfl | rfl | rfl | rfl | rfl | rfl | rfl | rfl | rfl
  · exact colPiece_at v (v.writes (Elt F) v.junk L) 11 inb_S1536x128_S128x128_1408_0 inb_S12x128_S1x128_11_0
  · exact colPiece_at v (v.writes (Elt F) v.junk L) 10 inb_S1536x128_S128x128_1280_0 inb_S12x128_S1x128_10_0
  · exact colPiece_at v (v.writes (Elt F) v.junk L) 9 inb_S1536x128_S128x128_1152_0 inb_S12x128_S1x128_9_0
  · exact colPiece_at v (v.writes (Elt F) v.junk L) 8 inb_S1536x128_S128x128_1024_0 inb_S12x128_S1x128_8_0
  · exact colPiece_at v (v.writes (Elt F) v.junk L) 7 inb_S1536x128_S128x128_896_0 inb_S12x128_S1x128_7_0
  · exact colPiece_at v (v.writes (Elt F) v.junk L) 6 inb_S1536x128_S128x128_768_0 inb_S12x128_S1x128_6_0
  · exact colPiece_at v (v.writes (Elt F) v.junk L) 5 inb_S1536x128_S128x128_640_0 inb_S12x128_S1x128_5_0
  · exact colPiece_at v (v.writes (Elt F) v.junk L) 4 inb_S1536x128_S128x128_512_0 inb_S12x128_S1x128_4_0
  · exact colPiece_at v (v.writes (Elt F) v.junk L) 3 inb_S1536x128_S128x128_384_0 inb_S12x128_S1x128_3_0
  · exact colPiece_at v (v.writes (Elt F) v.junk L) 2 inb_S1536x128_S128x128_256_0 inb_S12x128_S1x128_2_0
  · exact colPiece_at v (v.writes (Elt F) v.junk L) 1 inb_S1536x128_S128x128_128_0 inb_S12x128_S1x128_1_0
  · exact colPiece_at v (v.writes (Elt F) v.junk L) 0 inb_S1536x128_S128x128_0_0 inb_S12x128_S1x128_0_0

/-- and cover the buffer. -/
theorem colList_cover {κ : Kind} {sp : Space} (v : View sig κ sp S1536x128 .f32) (L : List (View.Piece (Elt F) S1536x128 .f32)) (y : S12x128.Idx) : ∃ p ∈ colList v L, y ∈ p.1.set := by
  have h0 : (y 0).val < 12 := (y 0).isLt
  obtain hb | hb | hb | hb | hb | hb | hb | hb | hb | hb | hb | hb : (y 0).val = 11 ∨ (y 0).val = 10 ∨ (y 0).val = 9 ∨ (y 0).val = 8 ∨ (y 0).val = 7 ∨ (y 0).val = 6 ∨ (y 0).val = 5 ∨ (y 0).val = 4 ∨ (y 0).val = 3 ∨ (y 0).val = 2 ∨ (y 0).val = 1 ∨ (y 0).val = 0 := by omega
  · exact ⟨_, .head _, mem_row12 y 11 inb_S12x128_S1x128_11_0 hb⟩
  · exact ⟨_, .tail _ (.head _), mem_row12 y 10 inb_S12x128_S1x128_10_0 hb⟩
  · exact ⟨_, .tail _ (.tail _ (.head _)), mem_row12 y 9 inb_S12x128_S1x128_9_0 hb⟩
  · exact ⟨_, .tail _ (.tail _ (.tail _ (.head _))), mem_row12 y 8 inb_S12x128_S1x128_8_0 hb⟩
  · exact ⟨_, .tail _ (.tail _ (.tail _ (.tail _ (.head _)))), mem_row12 y 7 inb_S12x128_S1x128_7_0 hb⟩
  · exact ⟨_, .tail _ (.tail _ (.tail _ (.tail _ (.tail _ (.head _))))), mem_row12 y 6 inb_S12x128_S1x128_6_0 hb⟩
  · exact ⟨_, .tail _ (.tail _ (.tail _ (.tail _ (.tail _ (.tail _ (.head _)))))), mem_row12 y 5 inb_S12x128_S1x128_5_0 hb⟩
  · exact ⟨_, .tail _ (.tail _ (.tail _ (.tail _ (.tail _ (.tail _ (.tail _ (.head _))))))), mem_row12 y 4 inb_S12x128_S1x128_4_0 hb⟩
  · exact ⟨_, .tail _ (.tail _ (.tail _ (.tail _ (.tail _ (.tail _ (.tail _ (.tail _ (.head _)))))))), mem_row12 y 3 inb_S12x128_S1x128_3_0 hb⟩
  · exact ⟨_, .tail _ (.tail _ (.tail _ (.tail _ (.tail _ (.tail _ (.tail _ (.tail _ (.tail _ (.head _))))))))), mem_row12 y 2 inb_S12x128_S1x128_2_0 hb⟩
  · exact ⟨_, .tail _ (.tail _ (.tail _ (.tail _ (.tail _ (.tail _ (.tail _ (.tail _ (.tail _ (.tail _ (.head _)))))))))), mem_row12 y 1 inb_S12x128_S1x128_1_0 hb⟩
  · exact ⟨_, .tail _ (.tail _ (.tail _ (.tail _ (.tail _ (.tail _ (.tail _ (.tail _ (.tail _ (.tail _ (.tail _ (.head _))))))))))), mem_row12 y 0 inb_S12x128_S1x128_0_0 hb⟩

/-- After the stores the buffer reads as the folded scales. -/
theorem colList_read {κ κ' : Kind} {sp sp' : Space} (v : View sig κ sp S12x128 .f32) (f : v.ty.Contents (Elt F)) (u : View sig κ' sp' S1536x128 .f32) (L : List (View.Piece (Elt F) S1536x128 .f32)) :
    v.read (Elt F) (v.writes (Elt F) f (colList u L)) = fold12 (u.read (Elt F) (u.writes (Elt F) u.junk L)) :=
  funext fun y => View.read_writes_apply_of_pieces v f _ _ (colList_agree u L) y (colList_cover u L y)

end Cert.Kernel.Hand

end
-- ==== Proof.K.ARun.lean ====
/-
  The activation quantiser's kernel function run from any contents of its outputs and scratches: it leaves in its outputs
  the smoothing scales, their replicated copy, the activations' codes and the rows' scales.
-/
module

public import proofs.«01_k».proof.Proof.K.ASpec
public import proofs.«01_k».proof.Proof.Gen.Kernel.Launch
public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 8192
set_option maxHeartbeats 4000000

noncomputable section

namespace Cert.Kernel.Hand

open Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The codes depend on their four operands only; -/
theorem codesOf_congr {x x' : Vec F S1536x2560 .bf16} {r r' : Vec F S1536x128 .f32} {g g' s s' : Vec F S1x2560 .f32}
    (hx : x = x') (hr : r = r') (hg : g = g') (hs : s = s') : codesOf x r g s = codesOf x' r' g' s' := by subst hx hr hg hs; rfl
/-- so do the scales. -/
theorem scalesOf_congr {x x' : Vec F S1536x2560 .bf16} {r r' : Vec F S1536x128 .f32} {g g' s s' : Vec F S1x2560 .f32}
    (hx : x = x') (hr : r = r') (hg : g = g') (hs : s = s') : scalesOf x r g s = scalesOf x' r' g' s' := by subst hx hr hg hs; rfl

/-- The store of zeros, then the first loop's stores: loaded whole, the array is the column maxima. -/
theorem maxOf {κ : Kind} {sp : Space} (v : View sig κ sp S8x2560 .f32) (x : Vec F S1536x2560 .bf16) (g : Vec F S1x2560 .f32) :
    v.readCov (pcs k0_t1_loop.trips (axPiece x g (v.read (Elt F) (v.writes (Elt F) v.junk [⟨Rect.unit (s := S8x2560) ![0, 0] S8x2560.size inb_S8x2560_S8x2560_0_0, k0_pay7 (F := F)⟩])))
        (Scf.trips k0_t1_loop.lb k0_t1_loop.ub k0_t1_loop.st) ++ [⟨Rect.unit (s := S8x2560) ![0, 0] S8x2560.size inb_S8x2560_S8x2560_0_0, k0_pay7 (F := F)⟩])
      (Rect.unit (s := S8x2560) ![0, 0] S8x2560.size inb_S8x2560_S8x2560_0_0).toLoadRect = actMax x g := by
  refine (View.readAt_full v _ _).trans ?_
  rw [View.writes_append]
  refine (axRead v _ x g k0_t1_loop.trips le_rfl).trans ?_
  rw [View.read_writes_full v v.junk]
  exact actMax_eq x g

set_option maxRecDepth 16384 in
/-- The function leaves the five results and its inputs as they were. -/
theorem aqRun (c : Dev nD) (arg0 : Memref sig .tc .vmem S1536x2560 .bf16) (harg0 : arg0.IsWhole) (arg1 : Memref sig .tc .vmem S1x2560 .f32) (harg1 : arg1.IsWhole)
    (arg2 : Memref sig .tc .vmem S1x2560 .f32) (harg2 : arg2.IsWhole) (arg3 : Memref sig .tc .vmem S1x2560 .f32) (harg3 : arg3.IsWhole)
    (arg4 : Memref sig .tc .vmem S2560x128 .f32) (harg4 : arg4.IsWhole) (arg5 : Memref sig .tc .vmem S1536x2560 .i8) (harg5 : arg5.IsWhole)
    (arg6 : Memref sig .tc .vmem S1536x128 .f32) (harg6 : arg6.IsWhole) (arg7 : Memref sig .tc .vmem S12x128 .f32) (harg7 : arg7.IsWhole)
    (arg8 : Memref sig .tc .vmem S1536x128 .f32) (harg8 : arg8.IsWhole) (arg9 : Memref sig .tc .vmem S8x2560 .f32) (harg9 : arg9.IsWhole)
    (x0 : Vec F S1536x2560 .bf16) (x1 x2 : Vec F S1x2560 .f32) (E : Set ℕ) (K : PUnit → sProp 𝕄G) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare (actS x0 x1 x2) ∗ owns (c : Thread nD τ) arg4 fullShare (repl (actS x0 x1 x2)) ∗ owns (c : Thread nD τ) arg5 fullShare (actCode x0 x1 x2) ∗ owns (c : Thread nD τ) arg6 fullShare (actXs x0 x1 x2) ∗ owns (c : Thread nD τ) arg7 fullShare (fold12 (actXs x0 x1 x2)) ∗ (∃ d, owns (c : Thread nD τ) arg8 fullShare d) ∗ (∃ d, owns (c : Thread nD τ) arg9 fullShare d)) -∗ K ⟨⟩))
      ⊢ wp frame (wpE (defs₀ (F := F)) Variants.none c none) E (cc0_act_quant arg0 harg0 arg1 harg1 arg2 harg2 arg3 harg3 arg4 harg4 arg5 harg5 arg6 harg6 arg7 harg7 arg8 harg8 arg9 harg9) K := by
    simp only [cc0_act_quant_eq_skeleton]; unfold cc0_act_quant_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    have hS := congrArg₂ (k0_pay12 (F := F)) ((maxOf arg9.view (arg0.view.read (Elt F) (harg0.unread x0)) (arg1.view.read (Elt F) (harg1.unread x1))).trans
      (congrArg₂ actMax (harg0.read_unread x0) (harg1.read_unread x1))) ((View.readAt_full arg2.view (harg2.unread x2) inb_S1x2560_S1x2560_0_0).trans (harg2.read_unread x2))
    have hR := (actR_read arg8.view arg8.view.junk (arg0.view.read (Elt F) (harg0.unread x0))).trans (congrArg actR (harg0.read_unread x0))
    isplitl [H3]
    · iexists _; isplitr; swap; · iexact H3
      ipureintro
      exact (View.read_writes_full arg3.view _ _ _ []).trans hS
    isplitl [H4]
    · iexists _; isplitr; swap; · iexact H4
      ipureintro
      exact (repList_read arg4.view _ _ _).trans (congrArg repl hS)
    isplitl [H5]
    · iexists _; isplitr; swap; · iexact H5
      ipureintro
      exact (codes_read arg5.view f5 _ _ _ _).trans (codesOf_congr (harg0.read_unread x0) hR (harg1.read_unread x1) ((View.read_writes_full arg3.view _ _ _ []).trans hS))
    isplitl [H6]
    · iexists _; isplitr; swap; · iexact H6
      ipureintro
      exact (scales_read arg6.view f6 _ _ _ _)
        |>.trans (scalesOf_congr (harg0.read_unread x0) hR (harg1.read_unread x1) ((View.read_writes_full arg3.view _ _ _ []).trans hS))
    isplitl [H7]
    · iexists _; isplitr; swap; · iexact H7
      ipureintro
      exact (colList_read arg7.view f7 arg6.view _).trans (congrArg fold12 ((scales_read arg6.view _ _ _ _ _).trans
        (scalesOf_congr (harg0.read_unread x0) hR (harg1.read_unread x1) ((View.read_writes_full arg3.view _ _ _ []).trans hS))))
    isplitl [H8]
    · iexists _, _; isplitr; swap; · iexact H8
      ipureintro; rfl
    iexists _, _; isplitr; swap; · iexact H9
    ipureintro; rfl

end Cert.Kernel.Hand

end
-- ==== Proof.K.Reg0.lean ====
/-
  The activations' quantiser as a region of @main: its proof data over the contents the region is entered with, and the
  obligation that the body at its one grid point leaves what the proof data say.
-/
module

public import proofs.«01_k».proof.Proof.K.ARun
public import proofs.«01_k».proof.Proof.Gen.Kernel.Launch
public import proofs.«01_k».proof.Proof.Gen.Kernel.Points
public import Idealize.ShloMosaic.Lib.WordCmp
public import Idealize.ShloMosaic.Lib.Pipeline.Kit
public import Idealize.ShloMosaic.Lib.Pipeline.FrameBody
public import Idealize.ShloMosaic.Lib.Pipeline.Frame
public import Idealize.ShloMosaic.Lib.Pipeline.Regions
public import Idealize.ShloMosaic.Lib.Pipeline.RegionArraysS

@[expose] public section

set_option maxRecDepth 8192
set_option maxHeartbeats 4000000

noncomputable section

namespace Cert.Kernel.Hand

open Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Rounds
open Idealize.ShloMosaic.Pipeline (Dat Cfg Window BodyObligation)

variable (V : Dev nD → Valuation τ sig (Elt F))

/-- Input window `w`'s block at point `t`, read off its array at the valuation `V` the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The region's proof data on core `c`: the arrays at `V`; the inputs' buffers keep their blocks, the outputs' hold the
    quantiser's results; the invariant is the rest of the scoped memory and the generator register. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => iblk0 V c 2 t
    | ⟨3, _⟩ => actS (iblk0 V c 0 t) (iblk0 V c 1 t) (iblk0 V c 2 t)
    | ⟨4, _⟩ => repl (actS (iblk0 V c 0 t) (iblk0 V c 1 t) (iblk0 V c 2 t))
    | ⟨5, _⟩ => actCode (iblk0 V c 0 t) (iblk0 V c 1 t) (iblk0 V c 2 t)
    | ⟨6, _⟩ => actXs (iblk0 V c 0 t) (iblk0 V c 1 t) (iblk0 V c 2 t)
    | ⟨7, _⟩ => fold12 (actXs (iblk0 V c 0 t) (iblk0 V c 1 t) (iblk0 V c 2 t))
  Φ _ := Pipeline.ΦA spec0 c
  q _ := fullShare
  owed _ := 0

/-- The proof data's arrays are `V`'s. -/
theorem A0_eq (c : Dev nD) (w : Fin cfg0.W) : (dat0 V c).A w = V c (Proc.devRef .tc (Pipeline.arrRef spec0 w)) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = actS (iblk0 V c 0 t) (iblk0 V c 1 t) (iblk0 V c 2 t) := by dsimp only [dat0]
theorem after0_4 (c : Dev nD) (t : Fin cfg0.N) : (dat0 V c).after 4 t = repl (actS (iblk0 V c 0 t) (iblk0 V c 1 t) (iblk0 V c 2 t)) := by dsimp only [dat0]
theorem after0_5 (c : Dev nD) (t : Fin cfg0.N) : (dat0 V c).after 5 t = actCode (iblk0 V c 0 t) (iblk0 V c 1 t) (iblk0 V c 2 t) := by dsimp only [dat0]
theorem after0_6 (c : Dev nD) (t : Fin cfg0.N) : (dat0 V c).after 6 t = actXs (iblk0 V c 0 t) (iblk0 V c 1 t) (iblk0 V c 2 t) := by dsimp only [dat0]
theorem after0_7 (c : Dev nD) (t : Fin cfg0.N) : (dat0 V c).after 7 t = fold12 (actXs (iblk0 V c 0 t) (iblk0 V c 1 t) (iblk0 V c 2 t)) := by dsimp only [dat0]

/-- Input 0's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
/-- Input 1's buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
/-- Input 2's buffer holds its block at every point. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)

/-- The scratch buffers, whole. -/
abbrev scM0_0 : Memref sig .tc .vmem S1536x128 .f32 := Memref.whole cc0_scratch0
abbrev scM0_1 : Memref sig .tc .vmem S8x2560 .f32 := Memref.whole cc0_scratch1

/-- What the invariant holds beside the two scratch buffers. -/
def rest0 (c : Dev nD) : sProp 𝕄G := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The invariant with the scratch buffers as memrefs owned at some contents. -/
theorem PhiA0_eq (c : Dev nD) : (Pipeline.ΦA spec0 c : sProp 𝕄G)
    = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

/-- What the body is called with at point `t`, -/
def bodyPre0 (c : Dev nD) (t : Fin cfg0.N) : sProp 𝕄G :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄G :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at the one point takes the first to the second. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = Pipeline.ΦA spec0 c from rfl, PhiA0_eq]
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (aqRun c _ _ _ _ _ _ _ _ _ _ _ _ _ _ _ _ _ _ _ _ (iblk0 V c 0 t) (iblk0 V c 1 t) (iblk0 V c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 HR Hg]
  · isplitl [HS0 HS1 HR]
    · isplitl [HS0]; · iexact HS0
      isplitl [HS1]; · iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The region's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Hand

end
-- ==== Proof.K.QLoops.lean ====
/-
  The counted loops of the matrix product's kernel function, each by its invariant: a loop that carries a running
  maximum by the value its trips carry, a loop that stores codes by the list of the pieces its trips write. The
  function treats its block of weights in four groups of 128 columns, one loop of each kind per group. What a trip
  does is proved once, for any offsets; the eight invariants are instances.
-/
module

public import proofs.«01_k».proof.Proof.Fold
public import proofs.«01_k».proof.Proof.Gen.Kernel.Launch
public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 8192
set_option maxHeartbeats 4000000

noncomputable section

namespace Cert.Kernel.Hand

open Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ) (i : grid1.Coords)
  (arg1 : Memref sig .tc .vmem S2560x512 .bf16) (harg1 : arg1.IsWhole) (arg2 : Memref sig .tc .vmem S2560x128 .f32) (harg2 : arg2.IsWhole)
  (arg3 : Memref sig .tc .vmem S1536x2560 .i8) (harg3 : arg3.IsWhole) (arg4 : Memref sig .tc .vmem S1536x128 .f32) (harg4 : arg4.IsWhole)
  (arg5 : Memref sig .tc .vmem S1536x512 .bf16) (harg5 : arg5.IsWhole) (arg6 : Memref sig .tc .vmem S2560x512 .i8) (harg6 : arg6.IsWhole)
  (arg7 : Memref sig .tc .vmem S1x512 .f32) (harg7 : arg7.IsWhole) (arg8 : Memref sig .tc .vmem S1536x2560 .bf16) (harg8 : arg8.IsWhole)
  (arg9 : Memref sig .tc .vmem S2560x512 .bf16) (harg9 : arg9.IsWhole)

/-- The 32 × 128 window of the weights `w` at offsets `ow`. -/
abbrev wBlk (w : Vec F S2560x512 .bf16) (ow : Fin 2 → ℕ) (hw : ∀ a, ow a + S32x128.size a ≤ S2560x512.size a) : Vec F S32x128 .bf16 :=
  View.ld (Val := Elt F) (e' := .bf16) w (Rect.unit (s := S2560x512) ow S32x128.size hw)

/-- The 32 rows of the replicated input scales `s` at offsets `os`. -/
abbrev sBlk (s : Vec F S2560x128 .f32) (os : Fin 2 → ℕ) (hs : ∀ a, os a + S32x128.size a ≤ S2560x128.size a) : Vec F S32x128 .f32 :=
  View.ld (Val := Elt F) (e' := .f32) s (Rect.unit (s := S2560x128) os S32x128.size hs)

/-- What a trip of a maximum loop runs: load 32 rows of weights and of scales, fold them into the maximum. -/
def mxTrip (ow : Fin 2 → ℕ) (hw : ∀ a, ow a + S32x128.size a ≤ S2560x512.size a) (os : Fin 2 → ℕ) (hs : ∀ a, os a + S32x128.size a ≤ S2560x128.size a) (acc : FVec F S8x128 .f32) : Prog (TpuEff nD τ sig (Elt F) Λ₀ .tc) (FVec F S8x128 .f32) := do
  let w : Vec F S32x128 .bf16 ← Prog.lift (.load arg1 (Rect.unit (s := S2560x512) ow S32x128.size hw).toLoadRect (View.loadsAt_vmem h_S32x128))
  let s : Vec F S32x128 .f32 ← Prog.lift (.load arg2 (Rect.unit (s := S2560x128) os S32x128.size hs).toLoadRect (View.loadsAt_vmem h_S32x128))
  pure (k1_pay6 acc w s)

/-- One step of a group's running maximum. -/
def mxStep (w : Vec F S2560x512 .bf16) (s : Vec F S2560x128 .f32) (ow : Fin 2 → ℕ) (hw : ∀ a, ow a + S32x128.size a ≤ S2560x512.size a) (os : Fin 2 → ℕ) (hs : ∀ a, os a + S32x128.size a ≤ S2560x128.size a) (acc : FVec F S8x128 .f32) : FVec F S8x128 .f32 :=
  k1_pay6 acc (wBlk w ow hw) (sBlk s os hs)

/-- A trip of a maximum loop yields the running maximum one step on and leaves what it read as it was. -/
theorem mxTrip_sound (X1 : BufTy.Contents (Elt F) arg1.view.ty) (X2 : BufTy.Contents (Elt F) arg2.view.ty) (ow : Fin 2 → ℕ) (hw : ∀ a, ow a + S32x128.size a ≤ S2560x512.size a) (os : Fin 2 → ℕ) (hs : ∀ a, os a + S32x128.size a ≤ S2560x128.size a) (acc : FVec F S8x128 .f32) :
    iprop((arg1.view.loc (c : Thread nD τ) ↦[arg1.view.set]{fullShare} X1) ∗ (arg2.view.loc (c : Thread nD τ) ↦[arg2.view.set]{fullShare} X2))
      ⊢ wp frame (M := 𝕄G) (wpE (defs₀ (F := F)) 𝒱 (c : Thread nD τ) bd) E (mxTrip arg1 arg2 ow hw os hs acc)
          (fun r => iprop((arg1.view.loc (c : Thread nD τ) ↦[arg1.view.set]{fullShare} X1) ∗ (arg2.view.loc (c : Thread nD τ) ↦[arg2.view.set]{fullShare} X2)
            ∗ ⌜r = mxStep (arg1.view.read (Elt F) X1) (arg2.view.read (Elt F) X2) ow hw os hs acc⌝)) := by
  unfold mxTrip
  iintro ⟨H1, H2⟩
  sl_exec
  sl_step
  isplitl [H1]; · iexact H1
  isplitl [H2]; · iexact H2
  ipureintro
  rfl

/-- What a trip of a storing loop runs: load 32 rows of weights and of scales, store their codes `pc` and the same codes
    `pb` in the product's operand format. -/
def codeTrip (ow : Fin 2 → ℕ) (hw : ∀ a, ow a + S32x128.size a ≤ S2560x512.size a) (p8 : (Rect.unit (s := S2560x512) ow S32x128.size hw).PackedRows (EltTy.packing .i8))
    (p16 : (Rect.unit (s := S2560x512) ow S32x128.size hw).PackedRows (EltTy.packing .bf16)) (os : Fin 2 → ℕ) (hs : ∀ a, os a + S32x128.size a ≤ S2560x128.size a)
    (pc : Vec F S32x128 .bf16 → Vec F S32x128 .f32 → IVec S32x128 8) (pb : Vec F S32x128 .bf16 → Vec F S32x128 .f32 → FVec F S32x128 .bf16) :
    Prog (TpuEff nD τ sig (Elt F) Λ₀ .tc) Unit := do
  let w : Vec F S32x128 .bf16 ← Prog.lift (.load arg1 (Rect.unit (s := S2560x512) ow S32x128.size hw).toLoadRect (View.loadsAt_vmem h_S32x128))
  let s : Vec F S32x128 .f32 ← Prog.lift (.load arg2 (Rect.unit (s := S2560x128) os S32x128.size hs).toLoadRect (View.loadsAt_vmem h_S32x128))
  let _v : Vec F S32x128 .i8 ← Prog.lift (.load arg6 (Rect.unit (s := S2560x512) ow S32x128.size hw).toLoadRect (View.loadsAt_vmem h_S32x128))
  Prog.lift (.store arg6 (Rect.unit (s := S2560x512) ow S32x128.size hw) (pc w s) Finset.univ (View.stores_vmem h_S32x128 (harg6.storeExact_slice rfl _ p8) (fun _ => rfl)) (.inl rfl))
  let _v : Vec F S32x128 .bf16 ← Prog.lift (.load arg9 (Rect.unit (s := S2560x512) ow S32x128.size hw).toLoadRect (View.loadsAt_vmem h_S32x128))
  Prog.lift (.store arg9 (Rect.unit (s := S2560x512) ow S32x128.size hw) (pb w s) Finset.univ (View.stores_vmem h_S32x128 (harg9.storeExact_slice rfl _ p16) (fun _ => rfl)) (.inl rfl))
  pure ⟨⟩

/-- The codes a trip of a storing loop stores, with where it stores them. -/
def cPiece (pc : Vec F S32x128 .bf16 → Vec F S32x128 .f32 → IVec S32x128 8) (w : Vec F S2560x512 .bf16) (s : Vec F S2560x128 .f32)
    (ow : Fin 2 → ℕ) (hw : ∀ a, ow a + S32x128.size a ≤ S2560x512.size a) (os : Fin 2 → ℕ) (hs : ∀ a, os a + S32x128.size a ≤ S2560x128.size a) : View.Piece (Elt F) S2560x512 .i8 :=
  ⟨Rect.unit (s := S2560x512) ow S32x128.size hw, pc (wBlk w ow hw) (sBlk s os hs)⟩

/-- The same in the product's operand format. -/
def bPiece (pb : Vec F S32x128 .bf16 → Vec F S32x128 .f32 → FVec F S32x128 .bf16) (w : Vec F S2560x512 .bf16) (s : Vec F S2560x128 .f32)
    (ow : Fin 2 → ℕ) (hw : ∀ a, ow a + S32x128.size a ≤ S2560x512.size a) (os : Fin 2 → ℕ) (hs : ∀ a, os a + S32x128.size a ≤ S2560x128.size a) : View.Piece (Elt F) S2560x512 .bf16 :=
  ⟨Rect.unit (s := S2560x512) ow S32x128.size hw, pb (wBlk w ow hw) (sBlk s os hs)⟩

/-- A trip of a storing loop writes its two pieces and leaves what it read as it was. -/
theorem codeTrip_sound (X1 : BufTy.Contents (Elt F) arg1.view.ty) (X2 : BufTy.Contents (Elt F) arg2.view.ty)
    (f6 : BufTy.Contents (Elt F) arg6.view.ty) (f9 : BufTy.Contents (Elt F) arg9.view.ty)
    (ow : Fin 2 → ℕ) (hw : ∀ a, ow a + S32x128.size a ≤ S2560x512.size a) (p8 : (Rect.unit (s := S2560x512) ow S32x128.size hw).PackedRows (EltTy.packing .i8))
    (p16 : (Rect.unit (s := S2560x512) ow S32x128.size hw).PackedRows (EltTy.packing .bf16)) (os : Fin 2 → ℕ) (hs : ∀ a, os a + S32x128.size a ≤ S2560x128.size a)
    (pc : Vec F S32x128 .bf16 → Vec F S32x128 .f32 → IVec S32x128 8) (pb : Vec F S32x128 .bf16 → Vec F S32x128 .f32 → FVec F S32x128 .bf16) :
    iprop((arg1.view.loc (c : Thread nD τ) ↦[arg1.view.set]{fullShare} X1) ∗ (arg2.view.loc (c : Thread nD τ) ↦[arg2.view.set]{fullShare} X2)
        ∗ (arg6.view.loc (c : Thread nD τ) ↦[arg6.view.set]{fullShare} f6) ∗ (arg9.view.loc (c : Thread nD τ) ↦[arg9.view.set]{fullShare} f9))
      ⊢ wp frame (M := 𝕄G) (wpE (defs₀ (F := F)) 𝒱 (c : Thread nD τ) bd) E (codeTrip arg1 arg2 arg6 harg6 arg9 harg9 ow hw p8 p16 os hs pc pb)
          (fun _ => iprop((arg1.view.loc (c : Thread nD τ) ↦[arg1.view.set]{fullShare} X1) ∗ (arg2.view.loc (c : Thread nD τ) ↦[arg2.view.set]{fullShare} X2)
            ∗ (arg6.view.loc (c : Thread nD τ) ↦[arg6.view.set]{fullShare} arg6.view.writes (Elt F) f6 [cPiece pc (arg1.view.read (Elt F) X1) (arg2.view.read (Elt F) X2) ow hw os hs])
            ∗ (arg9.view.loc (c : Thread nD τ) ↦[arg9.view.set]{fullShare} arg9.view.writes (Elt F) f9 [bPiece pb (arg1.view.read (Elt F) X1) (arg2.view.read (Elt F) X2) ow hw os hs]))) := by
  unfold codeTrip
  iintro ⟨H1, H2, H6, H9⟩
  sl_exec
  sl_step
  isplitl [H1]; · iexact H1
  isplitl [H2]; · iexact H2
  isplitl [H6]; · iexact H6
  iexact H9

set_option warn.classDefReducibility false in
/-- Column group 0's maximum loop: before trip `k` the carried value is the running maximum over the trips before. -/
@[sl_loop] def maxLoop0 (X1 : BufTy.Contents (Elt F) arg1.view.ty) (X2 : BufTy.Contents (Elt F) arg2.view.ty) (init : FVec F S8x128 .f32) :
    LoopInv (M := 𝕄G) Idealize.ShloMosaic.frame (wpE defs₀ 𝒱 (c : Thread nD τ) bd) E
      k1_t1_loop.lb k1_t1_loop.ub k1_t1_loop.st k1_t1_ok init (k1_t1_body (F := F) i arg1 harg1 arg2 harg2 arg3 harg3 arg4 harg4 arg5 harg5 arg6 harg6 arg7 harg7 arg8 harg8 arg9 harg9 ) where
  inv k acc := iprop((arg1.view.loc (c : Thread nD τ) ↦[arg1.view.set]{fullShare} X1) ∗ (arg2.view.loc (c : Thread nD τ) ↦[arg2.view.set]{fullShare} X2)
    ∗ ⌜acc = carried k1_t1_loop.trips (fun k => mxStep (arg1.view.read (Elt F) X1) (arg2.view.read (Elt F) X2) (k1_off1 k) (k1_off1_inb k) (k1_off2 k) (k1_off2_inb k)) init k⌝)
  step k acc := by
    iintro ⟨H1, H2, %h⟩
    subst h
    have e := carried_succ _ (fun k => mxStep (arg1.view.read (Elt F) X1) (arg2.view.read (Elt F) X2) (k1_off1 k) (k1_off1_inb k) (k1_off2 k) (k1_off2_inb k)) init k
    rw [e]
    iapply (mxTrip_sound 𝒱 c bd E arg1 arg2 X1 X2 _ (k1_off1_inb k) _ (k1_off2_inb k) _)
    isplitl [H1]; · iexact H1
    iexact H2

set_option warn.classDefReducibility false in
/-- Column group 0's storing loop: before trip `k` the two destinations hold the pieces of the trips before. -/
@[sl_loop] def codeLoop0 (v5 : FVec F S8x128 .f32) (X1 : BufTy.Contents (Elt F) arg1.view.ty) (X2 : BufTy.Contents (Elt F) arg2.view.ty)
    (G6 : BufTy.Contents (Elt F) arg6.view.ty) (G9 : BufTy.Contents (Elt F) arg9.view.ty) :
    LoopInv (M := 𝕄G) Idealize.ShloMosaic.frame (wpE defs₀ 𝒱 (c : Thread nD τ) bd) E
      k1_t2_loop.lb k1_t2_loop.ub k1_t2_loop.st k1_t2_ok () (k1_t2_body (F := F) i arg1 harg1 arg2 harg2 arg3 harg3 arg4 harg4 arg5 harg5 arg6 harg6 arg7 harg7 arg8 harg8 arg9 harg9 v5) where
  inv k _ := iprop((arg1.view.loc (c : Thread nD τ) ↦[arg1.view.set]{fullShare} X1) ∗ (arg2.view.loc (c : Thread nD τ) ↦[arg2.view.set]{fullShare} X2)
    ∗ (∃ f, (arg6.view.loc (c : Thread nD τ) ↦[arg6.view.set]{fullShare} f) ∗ ⌜f = arg6.view.writes (Elt F) G6 (pcs k1_t2_loop.trips
        (fun k => cPiece (k1_pay8 v5) (arg1.view.read (Elt F) X1) (arg2.view.read (Elt F) X2) (k1_off3 k) (k1_off3_inb k) (k1_off4 k) (k1_off4_inb k)) k)⌝)
    ∗ (∃ f, (arg9.view.loc (c : Thread nD τ) ↦[arg9.view.set]{fullShare} f) ∗ ⌜f = arg9.view.writes (Elt F) G9 (pcs k1_t2_loop.trips
        (fun k => bPiece (k1_pay9 v5) (arg1.view.read (Elt F) X1) (arg2.view.read (Elt F) X2) (k1_off3 k) (k1_off3_inb k) (k1_off4 k) (k1_off4_inb k)) k)⌝))
  step k acc := by
    iintro ⟨H1, H2, ⟨%f6, H6, %h6⟩, ⟨%f9, H9, %h9⟩⟩
    subst h6 h9
    rw [pcs_succ _ (fun k => cPiece (k1_pay8 v5) (arg1.view.read (Elt F) X1) (arg2.view.read (Elt F) X2) (k1_off3 k) (k1_off3_inb k) (k1_off4 k) (k1_off4_inb k)) k, pcs_succ _ (fun k => bPiece (k1_pay9 v5) (arg1.view.read (Elt F) X1) (arg2.view.read (Elt F) X2) (k1_off3 k) (k1_off3_inb k) (k1_off4 k) (k1_off4_inb k)) k]
    iapply (wp_wand_r Idealize.ShloMosaic.frame (wpE (defs₀ (F := F)) 𝒱 (c : Thread nD τ) bd) E)
    isplitl [H1 H2 H6 H9]
    · iapply (codeTrip_sound 𝒱 c bd E arg1 arg2 arg6 harg6 arg9 harg9 X1 X2 _ _ _ (k1_off3_inb k) (k1_off3_packedi8 k) (k1_off3_packedbf16 k) _ (k1_off4_inb k) (k1_pay8 v5) (k1_pay9 v5))
      isplitl [H1]; · iexact H1
      isplitl [H2]; · iexact H2
      isplitl [H6]; · iexact H6
      iexact H9
    iintro %_ ⟨H1, H2, H6, H9⟩
    isplitl [H1]; · iexact H1
    isplitl [H2]; · iexact H2
    isplitl [H6]
    · iexists _; isplitl [H6]; · iexact H6
      ipureintro; exact (View.writes_append _ _ [_] _).symm
    iexists _; isplitl [H9]; · iexact H9
    ipureintro; exact (View.writes_append _ _ [_] _).symm

set_option warn.classDefReducibility false in
/-- Column group 1's maximum loop: before trip `k` the carried value is the running maximum over the trips before. -/
@[sl_loop] def maxLoop1 (X1 : BufTy.Contents (Elt F) arg1.view.ty) (X2 : BufTy.Contents (Elt F) arg2.view.ty) (init : FVec F S8x128 .f32) :
    LoopInv (M := 𝕄G) Idealize.ShloMosaic.frame (wpE defs₀ 𝒱 (c : Thread nD τ) bd) E
      k1_t3_loop.lb k1_t3_loop.ub k1_t3_loop.st k1_t3_ok init (k1_t3_body (F := F) i arg1 harg1 arg2 harg2 arg3 harg3 arg4 harg4 arg5 harg5 arg6 harg6 arg7 harg7 arg8 harg8 arg9 harg9 ) where
  inv k acc := iprop((arg1.view.loc (c : Thread nD τ) ↦[arg1.view.set]{fullShare} X1) ∗ (arg2.view.loc (c : Thread nD τ) ↦[arg2.view.set]{fullShare} X2)
    ∗ ⌜acc = carried k1_t3_loop.trips (fun k => mxStep (arg1.view.read (Elt F) X1) (arg2.view.read (Elt F) X2) (k1_off5 k) (k1_off5_inb k) (k1_off6 k) (k1_off6_inb k)) init k⌝)
  step k acc := by
    iintro ⟨H1, H2, %h⟩
    subst h
    have e := carried_succ _ (fun k => mxStep (arg1.view.read (Elt F) X1) (arg2.view.read (Elt F) X2) (k1_off5 k) (k1_off5_inb k) (k1_off6 k) (k1_off6_inb k)) init k
    rw [e]
    iapply (mxTrip_sound 𝒱 c bd E arg1 arg2 X1 X2 _ (k1_off5_inb k) _ (k1_off6_inb k) _)
    isplitl [H1]; · iexact H1
    iexact H2

set_option warn.classDefReducibility false in
/-- Column group 1's storing loop: before trip `k` the two destinations hold the pieces of the trips before. -/
@[sl_loop] def codeLoop1 (v26 : FVec F S1x128 .f32) (X1 : BufTy.Contents (Elt F) arg1.view.ty) (X2 : BufTy.Contents (Elt F) arg2.view.ty)
    (G6 : BufTy.Contents (Elt F) arg6.view.ty) (G9 : BufTy.Contents (Elt F) arg9.view.ty) :
    LoopInv (M := 𝕄G) Idealize.ShloMosaic.frame (wpE defs₀ 𝒱 (c : Thread nD τ) bd) E
      k1_t4_loop.lb k1_t4_loop.ub k1_t4_loop.st k1_t4_ok () (k1_t4_body (F := F) i arg1 harg1 arg2 harg2 arg3 harg3 arg4 harg4 arg5 harg5 arg6 harg6 arg7 harg7 arg8 harg8 arg9 harg9 v26) where
  inv k _ := iprop((arg1.view.loc (c : Thread nD τ) ↦[arg1.view.set]{fullShare} X1) ∗ (arg2.view.loc (c : Thread nD τ) ↦[arg2.view.set]{fullShare} X2)
    ∗ (∃ f, (arg6.view.loc (c : Thread nD τ) ↦[arg6.view.set]{fullShare} f) ∗ ⌜f = arg6.view.writes (Elt F) G6 (pcs k1_t4_loop.trips
        (fun k => cPiece (k1_pay13 v26) (arg1.view.read (Elt F) X1) (arg2.view.read (Elt F) X2) (k1_off7 k) (k1_off7_inb k) (k1_off8 k) (k1_off8_inb k)) k)⌝)
    ∗ (∃ f, (arg9.view.loc (c : Thread nD τ) ↦[arg9.view.set]{fullShare} f) ∗ ⌜f = arg9.view.writes (Elt F) G9 (pcs k1_t4_loop.trips
        (fun k => bPiece (k1_pay14 v26) (arg1.view.read (Elt F) X1) (arg2.view.read (Elt F) X2) (k1_off7 k) (k1_off7_inb k) (k1_off8 k) (k1_off8_inb k)) k)⌝))
  step k acc := by
    iintro ⟨H1, H2, ⟨%f6, H6, %h6⟩, ⟨%f9, H9, %h9⟩⟩
    subst h6 h9
    rw [pcs_succ _ (fun k => cPiece (k1_pay13 v26) (arg1.view.read (Elt F) X1) (arg2.view.read (Elt F) X2) (k1_off7 k) (k1_off7_inb k) (k1_off8 k) (k1_off8_inb k)) k, pcs_succ _ (fun k => bPiece (k1_pay14 v26) (arg1.view.read (Elt F) X1) (arg2.view.read (Elt F) X2) (k1_off7 k) (k1_off7_inb k) (k1_off8 k) (k1_off8_inb k)) k]
    iapply (wp_wand_r Idealize.ShloMosaic.frame (wpE (defs₀ (F := F)) 𝒱 (c : Thread nD τ) bd) E)
    isplitl [H1 H2 H6 H9]
    · iapply (codeTrip_sound 𝒱 c bd E arg1 arg2 arg6 harg6 arg9 harg9 X1 X2 _ _ _ (k1_off7_inb k) (k1_off7_packedi8 k) (k1_off7_packedbf16 k) _ (k1_off8_inb k) (k1_pay13 v26) (k1_pay14 v26))
      isplitl [H1]; · iexact H1
      isplitl [H2]; · iexact H2
      isplitl [H6]; · iexact H6
      iexact H9
    iintro %_ ⟨H1, H2, H6, H9⟩
    isplitl [H1]; · iexact H1
    isplitl [H2]; · iexact H2
    isplitl [H6]
    · iexists _; isplitl [H6]; · iexact H6
      ipureintro; exact (View.writes_append _ _ [_] _).symm
    iexists _; isplitl [H9]; · iexact H9
    ipureintro; exact (View.writes_append _ _ [_] _).symm

set_option warn.classDefReducibility false in
/-- Column group 2's maximum loop: before trip `k` the carried value is the running maximum over the trips before. -/
@[sl_loop] def maxLoop2 (v26 : FVec F S1x128 .f32) (X1 : BufTy.Contents (Elt F) arg1.view.ty) (X2 : BufTy.Contents (Elt F) arg2.view.ty) (init : FVec F S8x128 .f32) :
    LoopInv (M := 𝕄G) Idealize.ShloMosaic.frame (wpE defs₀ 𝒱 (c : Thread nD τ) bd) E
      k1_t5_loop.lb k1_t5_loop.ub k1_t5_loop.st k1_t5_ok init (k1_t5_body (F := F) i arg1 harg1 arg2 harg2 arg3 harg3 arg4 harg4 arg5 harg5 arg6 harg6 arg7 harg7 arg8 harg8 arg9 harg9 v26) where
  inv k acc := iprop((arg1.view.loc (c : Thread nD τ) ↦[arg1.view.set]{fullShare} X1) ∗ (arg2.view.loc (c : Thread nD τ) ↦[arg2.view.set]{fullShare} X2)
    ∗ ⌜acc = carried k1_t5_loop.trips (fun k => mxStep (arg1.view.read (Elt F) X1) (arg2.view.read (Elt F) X2) (k1_off9 k) (k1_off9_inb k) (k1_off10 k) (k1_off10_inb k)) init k⌝)
  step k acc := by
    iintro ⟨H1, H2, %h⟩
    subst h
    have e := carried_succ _ (fun k => mxStep (arg1.view.read (Elt F) X1) (arg2.view.read (Elt F) X2) (k1_off9 k) (k1_off9_inb k) (k1_off10 k) (k1_off10_inb k)) init k
    rw [e]
    iapply (mxTrip_sound 𝒱 c bd E arg1 arg2 X1 X2 _ (k1_off9_inb k) _ (k1_off10_inb k) _)
    isplitl [H1]; · iexact H1
    iexact H2

set_option warn.classDefReducibility false in
/-- Column group 2's storing loop: before trip `k` the two destinations hold the pieces of the trips before. -/
@[sl_loop] def codeLoop2 (v26 : FVec F S1x128 .f32) (v31 : FVec F S8x128 .f32) (X1 : BufTy.Contents (Elt F) arg1.view.ty) (X2 : BufTy.Contents (Elt F) arg2.view.ty)
    (G6 : BufTy.Contents (Elt F) arg6.view.ty) (G9 : BufTy.Contents (Elt F) arg9.view.ty) :
    LoopInv (M := 𝕄G) Idealize.ShloMosaic.frame (wpE defs₀ 𝒱 (c : Thread nD τ) bd) E
      k1_t6_loop.lb k1_t6_loop.ub k1_t6_loop.st k1_t6_ok () (k1_t6_body (F := F) i arg1 harg1 arg2 harg2 arg3 harg3 arg4 harg4 arg5 harg5 arg6 harg6 arg7 harg7 arg8 harg8 arg9 harg9 v26 v31) where
  inv k _ := iprop((arg1.view.loc (c : Thread nD τ) ↦[arg1.view.set]{fullShare} X1) ∗ (arg2.view.loc (c : Thread nD τ) ↦[arg2.view.set]{fullShare} X2)
    ∗ (∃ f, (arg6.view.loc (c : Thread nD τ) ↦[arg6.view.set]{fullShare} f) ∗ ⌜f = arg6.view.writes (Elt F) G6 (pcs k1_t6_loop.trips
        (fun k => cPiece (k1_pay18 v31) (arg1.view.read (Elt F) X1) (arg2.view.read (Elt F) X2) (k1_off11 k) (k1_off11_inb k) (k1_off12 k) (k1_off12_inb k)) k)⌝)
    ∗ (∃ f, (arg9.view.loc (c : Thread nD τ) ↦[arg9.view.set]{fullShare} f) ∗ ⌜f = arg9.view.writes (Elt F) G9 (pcs k1_t6_loop.trips
        (fun k => bPiece (k1_pay19 v31) (arg1.view.read (Elt F) X1) (arg2.view.read (Elt F) X2) (k1_off11 k) (k1_off11_inb k) (k1_off12 k) (k1_off12_inb k)) k)⌝))
  step k acc := by
    iintro ⟨H1, H2, ⟨%f6, H6, %h6⟩, ⟨%f9, H9, %h9⟩⟩
    subst h6 h9
    rw [pcs_succ _ (fun k => cPiece (k1_pay18 v31) (arg1.view.read (Elt F) X1) (arg2.view.read (Elt F) X2) (k1_off11 k) (k1_off11_inb k) (k1_off12 k) (k1_off12_inb k)) k, pcs_succ _ (fun k => bPiece (k1_pay19 v31) (arg1.view.read (Elt F) X1) (arg2.view.read (Elt F) X2) (k1_off11 k) (k1_off11_inb k) (k1_off12 k) (k1_off12_inb k)) k]
    iapply (wp_wand_r Idealize.ShloMosaic.frame (wpE (defs₀ (F := F)) 𝒱 (c : Thread nD τ) bd) E)
    isplitl [H1 H2 H6 H9]
    · iapply (codeTrip_sound 𝒱 c bd E arg1 arg2 arg6 harg6 arg9 harg9 X1 X2 _ _ _ (k1_off11_inb k) (k1_off11_packedi8 k) (k1_off11_packedbf16 k) _ (k1_off12_inb k) (k1_pay18 v31) (k1_pay19 v31))
      isplitl [H1]; · iexact H1
      isplitl [H2]; · iexact H2
      isplitl [H6]; · iexact H6
      iexact H9
    iintro %_ ⟨H1, H2, H6, H9⟩
    isplitl [H1]; · iexact H1
    isplitl [H2]; · iexact H2
    isplitl [H6]
    · iexists _; isplitl [H6]; · iexact H6
      ipureintro; exact (View.writes_append _ _ [_] _).symm
    iexists _; isplitl [H9]; · iexact H9
    ipureintro; exact (View.writes_append _ _ [_] _).symm

set_option warn.classDefReducibility false in
/-- Column group 3's maximum loop: before trip `k` the carried value is the running maximum over the trips before. -/
@[sl_loop] def maxLoop3 (v26 : FVec F S1x128 .f32) (X1 : BufTy.Contents (Elt F) arg1.view.ty) (X2 : BufTy.Contents (Elt F) arg2.view.ty) (init : FVec F S8x128 .f32) :
    LoopInv (M := 𝕄G) Idealize.ShloMosaic.frame (wpE defs₀ 𝒱 (c : Thread nD τ) bd) E
      k1_t7_loop.lb k1_t7_loop.ub k1_t7_loop.st k1_t7_ok init (k1_t7_body (F := F) i arg1 harg1 arg2 harg2 arg3 harg3 arg4 harg4 arg5 harg5 arg6 harg6 arg7 harg7 arg8 harg8 arg9 harg9 v26) where
  inv k acc := iprop((arg1.view.loc (c : Thread nD τ) ↦[arg1.view.set]{fullShare} X1) ∗ (arg2.view.loc (c : Thread nD τ) ↦[arg2.view.set]{fullShare} X2)
    ∗ ⌜acc = carried k1_t7_loop.trips (fun k => mxStep (arg1.view.read (Elt F) X1) (arg2.view.read (Elt F) X2) (k1_off13 k) (k1_off13_inb k) (k1_off14 k) (k1_off14_inb k)) init k⌝)
  step k acc := by
    iintro ⟨H1, H2, %h⟩
    subst h
    have e := carried_succ _ (fun k => mxStep (arg1.view.read (Elt F) X1) (arg2.view.read (Elt F) X2) (k1_off13 k) (k1_off13_inb k) (k1_off14 k) (k1_off14_inb k)) init k
    rw [e]
    iapply (mxTrip_sound 𝒱 c bd E arg1 arg2 X1 X2 _ (k1_off13_inb k) _ (k1_off14_inb k) _)
    isplitl [H1]; · iexact H1
    iexact H2

set_option warn.classDefReducibility false in
/-- Column group 3's storing loop: before trip `k` the two destinations hold the pieces of the trips before. -/
@[sl_loop] def codeLoop3 (v52 : FVec F S1x128 .f32) (X1 : BufTy.Contents (Elt F) arg1.view.ty) (X2 : BufTy.Contents (Elt F) arg2.view.ty)
    (G6 : BufTy.Contents (Elt F) arg6.view.ty) (G9 : BufTy.Contents (Elt F) arg9.view.ty) :
    LoopInv (M := 𝕄G) Idealize.ShloMosaic.frame (wpE defs₀ 𝒱 (c : Thread nD τ) bd) E
      k1_t8_loop.lb k1_t8_loop.ub k1_t8_loop.st k1_t8_ok () (k1_t8_body (F := F) i arg1 harg1 arg2 harg2 arg3 harg3 arg4 harg4 arg5 harg5 arg6 harg6 arg7 harg7 arg8 harg8 arg9 harg9 v52) where
  inv k _ := iprop((arg1.view.loc (c : Thread nD τ) ↦[arg1.view.set]{fullShare} X1) ∗ (arg2.view.loc (c : Thread nD τ) ↦[arg2.view.set]{fullShare} X2)
    ∗ (∃ f, (arg6.view.loc (c : Thread nD τ) ↦[arg6.view.set]{fullShare} f) ∗ ⌜f = arg6.view.writes (Elt F) G6 (pcs k1_t8_loop.trips
        (fun k => cPiece (k1_pay1 v52) (arg1.view.read (Elt F) X1) (arg2.view.read (Elt F) X2) (k1_off15 k) (k1_off15_inb k) (k1_off16 k) (k1_off16_inb k)) k)⌝)
    ∗ (∃ f, (arg9.view.loc (c : Thread nD τ) ↦[arg9.view.set]{fullShare} f) ∗ ⌜f = arg9.view.writes (Elt F) G9 (pcs k1_t8_loop.trips
        (fun k => bPiece (k1_pay2 v52) (arg1.view.read (Elt F) X1) (arg2.view.read (Elt F) X2) (k1_off15 k) (k1_off15_inb k) (k1_off16 k) (k1_off16_inb k)) k)⌝))
  step k acc := by
    iintro ⟨H1, H2, ⟨%f6, H6, %h6⟩, ⟨%f9, H9, %h9⟩⟩
    subst h6 h9
    rw [pcs_succ _ (fun k => cPiece (k1_pay1 v52) (arg1.view.read (Elt F) X1) (arg2.view.read (Elt F) X2) (k1_off15 k) (k1_off15_inb k) (k1_off16 k) (k1_off16_inb k)) k, pcs_succ _ (fun k => bPiece (k1_pay2 v52) (arg1.view.read (Elt F) X1) (arg2.view.read (Elt F) X2) (k1_off15 k) (k1_off15_inb k) (k1_off16 k) (k1_off16_inb k)) k]
    iapply (wp_wand_r Idealize.ShloMosaic.frame (wpE (defs₀ (F := F)) 𝒱 (c : Thread nD τ) bd) E)
    isplitl [H1 H2 H6 H9]
    · iapply (codeTrip_sound 𝒱 c bd E arg1 arg2 arg6 harg6 arg9 harg9 X1 X2 _ _ _ (k1_off15_inb k) (k1_off15_packedi8 k) (k1_off15_packedbf16 k) _ (k1_off16_inb k) (k1_pay1 v52) (k1_pay2 v52))
      isplitl [H1]; · iexact H1
      isplitl [H2]; · iexact H2
      isplitl [H6]; · iexact H6
      iexact H9
    iintro %_ ⟨H1, H2, H6, H9⟩
    isplitl [H1]; · iexact H1
    isplitl [H2]; · iexact H2
    isplitl [H6]
    · iexists _; isplitl [H6]; · iexact H6
      ipureintro; exact (View.writes_append _ _ [_] _).symm
    iexists _; isplitl [H9]; · iexact H9
    ipureintro; exact (View.writes_append _ _ [_] _).symm

end Cert.Kernel.Hand

end
-- ==== Proof.K.QSpec.lean ====
/-
  What the matrix product's kernel function leaves in its outputs, as functions of the four blocks it reads: per column
  of its block of weights the scale, per element the code, and the product of the codes. The pieces the function's
  loops write are these functions on their rectangles, and cover.
-/
module

public import proofs.«01_k».proof.Proof.K.QLoops
public import Idealize.ShloMosaic.Lib.Pointwise
public import proofs.«01_k».proof.Proof.Gen.Kernel.Launch
public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 8192
set_option maxHeartbeats 4000000

noncomputable section

namespace Cert.Kernel.Hand

open Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The window of column group `j` and of the 32 rows of trip `k` lies inside the block of weights. -/
theorem inbW (j : Fin 4) (k : Fin 80) : ∀ a, (![32 * k.val, 128 * j.val] : Fin 2 → ℕ) a + S32x128.size a ≤ S2560x512.size a := by
  have hj := j.isLt; have hk := k.isLt
  refine Fin.forall_fin_two.mpr ⟨?_, ?_⟩
  · show 32 * k.val + 32 ≤ 2560; omega
  · show 128 * j.val + 128 ≤ 512; omega

/-- The 32 rows of trip `k` lie inside the replicated input scales. -/
theorem inbS (k : Fin 80) : ∀ a, (![32 * k.val, 0] : Fin 2 → ℕ) a + S32x128.size a ≤ S2560x128.size a := by
  have hk := k.isLt
  refine Fin.forall_fin_two.mpr ⟨?_, ?_⟩
  · show 32 * k.val + 32 ≤ 2560; omega
  · show 0 + 128 ≤ 128; omega

/-- Column group `j`'s maxima after all trips: eight partial maxima per column. -/
def qMax (w : Vec F S2560x512 .bf16) (s : Vec F S2560x128 .f32) (j : Fin 4) : FVec F S8x128 .f32 :=
  carried 80 (fun k => mxStep w s ![32 * k.val, 128 * j.val] (inbW j k) ![32 * k.val, 0] (inbS k)) (k1_pay5 (F := F)) 80

/-- Column group `j`'s scales. -/
def qScale (w : Vec F S2560x512 .bf16) (s : Vec F S2560x128 .f32) (j : Fin 4) : FVec F S1x128 .f32 := k1_pay7 (qMax w s j)

/-- The codes of column group `j`'s rows of trip `k`. -/
def qCode (w : Vec F S2560x512 .bf16) (s : Vec F S2560x128 .f32) (j : Fin 4) (k : Fin 80) : IVec S32x128 8 :=
  k1_pay8 (qMax w s j) (wBlk w _ (inbW j k)) (sBlk s _ (inbS k))

/-- The same codes in the product's operand format. -/
def qCodeB (w : Vec F S2560x512 .bf16) (s : Vec F S2560x128 .f32) (j : Fin 4) (k : Fin 80) : FVec F S32x128 .bf16 :=
  k1_pay9 (qMax w s j) (wBlk w _ (inbW j k)) (sBlk s _ (inbS k))

/-- A block of 2560 × 512 read off its 32 × 128 tiles. -/
def tile {α : Type} (G : Fin 4 → Fin 80 → S32x128.Idx → α) (y : S2560x512.Idx) : α :=
  have h0 : (y 0).val < 2560 := (y 0).isLt
  have h1 : (y 1).val < 512 := (y 1).isLt
  G ⟨(y 1).val / 128, by omega⟩ ⟨(y 0).val / 32, by omega⟩ (ix2 ⟨(y 0).val % 32, by omega⟩ ⟨(y 1).val % 128, by omega⟩)

/-- The block at place `x` of tile `(j, k)` is the tile there. -/
theorem tile_at {α : Type} (G : Fin 4 → Fin 80 → S32x128.Idx → α) (y : S2560x512.Idx) (j : Fin 4) (k : Fin 80) (x : S32x128.Idx)
    (h0 : (y 0).val = 32 * k.val + (x 0).val) (h1 : (y 1).val = 128 * j.val + (x 1).val) : tile G y = G j k x := by
  have hx0 : (x 0).val < 32 := (x 0).isLt
  have hx1 : (x 1).val < 128 := (x 1).isLt
  have ej : ∀ h, (⟨(y 1).val / 128, h⟩ : Fin 4) = j := fun h => Fin.ext (by show (y 1).val / 128 = j.val; omega)
  have ek : ∀ h, (⟨(y 0).val / 32, h⟩ : Fin 80) = k := fun h => Fin.ext (by show (y 0).val / 32 = k.val; omega)
  have ex : ∀ h h', (ix2 (⟨(y 0).val % 32, h⟩ : Fin 32) (⟨(y 1).val % 128, h'⟩ : Fin 128) : S32x128.Idx) = x := fun h h' => by
    funext a
    match a with
    | ⟨0, _⟩ => exact Fin.ext (by show (y 0).val % 32 = (x 0).val; omega)
    | ⟨1, _⟩ => exact Fin.ext (by show (y 1).val % 128 = (x 1).val; omega)
  unfold tile
  dsimp only
  rw [ej, ek, ex]

/-- The block of codes. -/
def wCode (w : Vec F S2560x512 .bf16) (s : Vec F S2560x128 .f32) : Vec F S2560x512 .i8 := tile (qCode w s)
/-- The block of codes in the product's operand format. -/
def wOper (w : Vec F S2560x512 .bf16) (s : Vec F S2560x128 .f32) : Vec F S2560x512 .bf16 := tile (qCodeB w s)
/-- The block of scales. -/
def wScale (w : Vec F S2560x512 .bf16) (s : Vec F S2560x128 .f32) : Vec F S1x512 .f32 := fun y =>
  have h1 : (y 1).val < 512 := (y 1).isLt
  qScale w s ⟨(y 1).val / 128, by omega⟩ (ix2 0 ⟨(y 1).val % 128, by omega⟩)

theorem wScale_at (w : Vec F S2560x512 .bf16) (s : Vec F S2560x128 .f32) (y : S1x512.Idx) (j : Fin 4) (x : S1x128.Idx)
    (h1 : (y 1).val = 128 * j.val + (x 1).val) : wScale w s y = qScale w s j x := by
  have hx0 : (x 0).val < 1 := (x 0).isLt
  have hx1 : (x 1).val < 128 := (x 1).isLt
  have ej : ∀ h, (⟨(y 1).val / 128, h⟩ : Fin 4) = j := fun h => Fin.ext (by show (y 1).val / 128 = j.val; omega)
  have ex : ∀ h', (ix2 (0 : Fin 1) (⟨(y 1).val % 128, h'⟩ : Fin 128) : S1x128.Idx) = x := fun h' => by
    funext a
    match a with
    | ⟨0, _⟩ => exact Fin.ext (by show 0 = (x 0).val; omega)
    | ⟨1, _⟩ => exact Fin.ext (by show (y 1).val % 128 = (x 1).val; omega)
  unfold wScale
  dsimp only
  rw [ej, ex]

/-- The block of the product: the activations' codes `xb` times the block's, scaled by the activations' scales and the
    block's. -/
def yBlk (xb : Vec F S1536x2560 .bf16) (w : Vec F S2560x512 .bf16) (s : Vec F S2560x128 .f32) (xs : Vec F S1536x128 .f32) : Vec F S1536x512 .bf16 :=
  k1_pay3 xb (wOper w s) (View.ld (Val := Elt F) (e' := .f32) xs (Rect.unit (s := S1536x128) ![0, 0] S1536x1.size inb_S1536x128_S1536x1_0_0)) (wScale w s)

/-! ### The loops' maxima are these -/

theorem mxStep_congr (w : Vec F S2560x512 .bf16) (s : Vec F S2560x128 .f32) {ow ow' os os' : Fin 2 → ℕ} (e : ow = ow') (e' : os = os') (hw hw' hs hs') :
    mxStep w s ow hw os hs = mxStep w s ow' hw' os' hs' := by
  subst e e'; rfl

/-- Column group 0's maxima as its loop carries them. -/
abbrev mx0 (w : Vec F S2560x512 .bf16) (s : Vec F S2560x128 .f32) : FVec F S8x128 .f32 :=
  carried k1_t1_loop.trips (fun k => mxStep w s (k1_off1 k) (k1_off1_inb k) (k1_off2 k) (k1_off2_inb k)) (k1_pay5 (F := F)) k1_t1_loop.trips

theorem mx0_eq (w : Vec F S2560x512 .bf16) (s : Vec F S2560x128 .f32) : mx0 w s = qMax w s 0 :=
  carried_congr (by decide) _ _ (fun k => mxStep_congr w s (k1_off1_eq k) (k1_off2_eq k) _ _ _ _) _

/-- Column group 1's maxima as its loop carries them. -/
abbrev mx1 (w : Vec F S2560x512 .bf16) (s : Vec F S2560x128 .f32) : FVec F S8x128 .f32 :=
  carried k1_t3_loop.trips (fun k => mxStep w s (k1_off5 k) (k1_off5_inb k) (k1_off6 k) (k1_off6_inb k)) (k1_pay10 (F := F)) k1_t3_loop.trips

theorem mx1_eq (w : Vec F S2560x512 .bf16) (s : Vec F S2560x128 .f32) : mx1 w s = qMax w s 1 :=
  carried_congr (by decide) _ _ (fun k => mxStep_congr w s (k1_off5_eq k) (k1_off6_eq k) _ _ _ _) _

/-- Column group 2's maxima as its loop carries them. -/
abbrev mx2 (w : Vec F S2560x512 .bf16) (s : Vec F S2560x128 .f32) : FVec F S8x128 .f32 :=
  carried k1_t5_loop.trips (fun k => mxStep w s (k1_off9 k) (k1_off9_inb k) (k1_off10 k) (k1_off10_inb k)) (k1_pay15 (F := F)) k1_t5_loop.trips

theorem mx2_eq (w : Vec F S2560x512 .bf16) (s : Vec F S2560x128 .f32) : mx2 w s = qMax w s 2 :=
  carried_congr (by decide) _ _ (fun k => mxStep_congr w s (k1_off9_eq k) (k1_off10_eq k) _ _ _ _) _

/-- Column group 3's maxima as its loop carries them. -/
abbrev mx3 (w : Vec F S2560x512 .bf16) (s : Vec F S2560x128 .f32) : FVec F S8x128 .f32 :=
  carried k1_t7_loop.trips (fun k => mxStep w s (k1_off13 k) (k1_off13_inb k) (k1_off14 k) (k1_off14_inb k)) (k1_pay20 (F := F)) k1_t7_loop.trips

theorem mx3_eq (w : Vec F S2560x512 .bf16) (s : Vec F S2560x128 .f32) : mx3 w s = qMax w s 3 :=
  carried_congr (by decide) _ _ (fun k => mxStep_congr w s (k1_off13_eq k) (k1_off14_eq k) _ _ _ _) _

/-! ### The storing loops' pieces -/

/-- All the pieces the four storing loops write into the codes' block, newest first; -/
abbrev cList (w : Vec F S2560x512 .bf16) (s : Vec F S2560x128 .f32) : List (View.Piece (Elt F) S2560x512 .i8) :=
  (pcs k1_t8_loop.trips (fun k => cPiece (k1_pay1 (k1_pay22 (mx3 w s))) w s (k1_off15 k) (k1_off15_inb k) (k1_off16 k) (k1_off16_inb k)) k1_t8_loop.trips
    ++ (pcs k1_t6_loop.trips (fun k => cPiece (k1_pay18 (mx2 w s)) w s (k1_off11 k) (k1_off11_inb k) (k1_off12 k) (k1_off12_inb k)) k1_t6_loop.trips
    ++ (pcs k1_t4_loop.trips (fun k => cPiece (k1_pay13 (k1_pay12 (mx1 w s))) w s (k1_off7 k) (k1_off7_inb k) (k1_off8 k) (k1_off8_inb k)) k1_t4_loop.trips
    ++ (pcs k1_t2_loop.trips (fun k => cPiece (k1_pay8 (mx0 w s)) w s (k1_off3 k) (k1_off3_inb k) (k1_off4 k) (k1_off4_inb k)) k1_t2_loop.trips))))
/-- and into the block in the product's operand format. -/
abbrev bList (w : Vec F S2560x512 .bf16) (s : Vec F S2560x128 .f32) : List (View.Piece (Elt F) S2560x512 .bf16) :=
  (pcs k1_t8_loop.trips (fun k => bPiece (k1_pay2 (k1_pay22 (mx3 w s))) w s (k1_off15 k) (k1_off15_inb k) (k1_off16 k) (k1_off16_inb k)) k1_t8_loop.trips
    ++ (pcs k1_t6_loop.trips (fun k => bPiece (k1_pay19 (mx2 w s)) w s (k1_off11 k) (k1_off11_inb k) (k1_off12 k) (k1_off12_inb k)) k1_t6_loop.trips
    ++ (pcs k1_t4_loop.trips (fun k => bPiece (k1_pay14 (k1_pay12 (mx1 w s))) w s (k1_off7 k) (k1_off7_inb k) (k1_off8 k) (k1_off8_inb k)) k1_t4_loop.trips
    ++ (pcs k1_t2_loop.trips (fun k => bPiece (k1_pay9 (mx0 w s)) w s (k1_off3 k) (k1_off3_inb k) (k1_off4 k) (k1_off4_inb k)) k1_t2_loop.trips))))

/-- A piece at tile `(j, k)`'s offsets holds that tile of the codes; -/
theorem cPiece_at (w : Vec F S2560x512 .bf16) (s : Vec F S2560x128 .f32) (j : Fin 4) (k : Fin 80) {ow os : Fin 2 → ℕ} (e : ow = ![32 * k.val, 128 * j.val])
    (e' : os = ![32 * k.val, 0]) (hw hs) (x : S32x128.Idx) :
    (cPiece (k1_pay8 (qMax w s j)) w s ow hw os hs).2 x = wCode w s ((cPiece (k1_pay8 (qMax w s j)) w s ow hw os hs).1.emb x) := by
  subst e e'
  exact (tile_at (qCode w s) _ j k x (congrArg (32 * k.val + ·) (Nat.one_mul _)) (congrArg (128 * j.val + ·) (Nat.one_mul _))).symm

/-- likewise in the product's operand format. -/
theorem bPiece_at (w : Vec F S2560x512 .bf16) (s : Vec F S2560x128 .f32) (j : Fin 4) (k : Fin 80) {ow os : Fin 2 → ℕ} (e : ow = ![32 * k.val, 128 * j.val])
    (e' : os = ![32 * k.val, 0]) (hw hs) (x : S32x128.Idx) :
    (bPiece (k1_pay9 (qMax w s j)) w s ow hw os hs).2 x = wOper w s ((bPiece (k1_pay9 (qMax w s j)) w s ow hw os hs).1.emb x) := by
  subst e e'
  exact (tile_at (qCodeB w s) _ j k x (congrArg (32 * k.val + ·) (Nat.one_mul _)) (congrArg (128 * j.val + ·) (Nat.one_mul _))).symm

/-- An element of tile `(j, k)` lies in the rectangle at that tile's offsets. -/
theorem mem_tile (y : S2560x512.Idx) (j k : ℕ) {ow : Fin 2 → ℕ} (e : ow = ![32 * k, 128 * j]) (hw : ∀ a, ow a + S32x128.size a ≤ S2560x512.size a)
    (hk : (y 0).val / 32 = k) (hj : (y 1).val / 128 = j) : y ∈ (Rect.unit (s := S2560x512) ow S32x128.size hw).set := by
  subst e
  refine (LoadRect.mem_set _).mpr (Fin.forall_fin_two.mpr ⟨⟨(y 0).val % 32, Nat.mod_lt _ (by decide), ?_⟩, ⟨(y 1).val % 128, Nat.mod_lt _ (by decide), ?_⟩⟩)
  · show (y 0).val = 32 * k + 1 * ((y 0).val % 32); omega
  · show (y 1).val = 128 * j + 1 * ((y 1).val % 128); omega

/-- After all four loops' pieces the block reads as the codes. -/
theorem cList_read {κ : Kind} {sp : Space} (v : View sig κ sp S2560x512 .i8) (f : v.ty.Contents (Elt F)) (w : Vec F S2560x512 .bf16) (s : Vec F S2560x128 .f32) :
    v.read (Elt F) (v.writes (Elt F) f (cList w s)) = wCode w s := by
  funext y
  have h0 : (y 0).val < 2560 := (y 0).isLt
  have h1 : (y 1).val < 512 := (y 1).isLt
  refine View.read_writes_apply_of_pieces v f (wCode w s) (cList w s) ?_ y ?_
  · intro p hp
    simp only [cList, mx0_eq, mx1_eq, mx2_eq, mx3_eq, List.mem_append, mem_pcs] at hp
    rcases hp with ⟨k, _, rfl⟩ | ⟨k, _, rfl⟩ | ⟨k, _, rfl⟩ | ⟨k, _, rfl⟩
    · exact cPiece_at w s 3 k (k1_off15_eq k) (k1_off16_eq k) _ _
    · exact cPiece_at w s 2 k (k1_off11_eq k) (k1_off12_eq k) _ _
    · exact cPiece_at w s 1 k (k1_off7_eq k) (k1_off8_eq k) _ _
    · exact cPiece_at w s 0 k (k1_off3_eq k) (k1_off4_eq k) _ _
  · simp only [cList, List.mem_append, mem_pcs]
    have hk : (y 0).val / 32 < 80 := by omega
    obtain hj | hj | hj | hj : (y 1).val / 128 = 3 ∨ (y 1).val / 128 = 2 ∨ (y 1).val / 128 = 1 ∨ (y 1).val / 128 = 0 := by omega
    · exact ⟨_, .inl ⟨⟨_, hk⟩, hk, rfl⟩, mem_tile y 3 _ (k1_off15_eq ⟨_, hk⟩) (k1_off15_inb ⟨_, hk⟩) rfl hj⟩
    · exact ⟨_, .inr (.inl ⟨⟨_, hk⟩, hk, rfl⟩), mem_tile y 2 _ (k1_off11_eq ⟨_, hk⟩) (k1_off11_inb ⟨_, hk⟩) rfl hj⟩
    · exact ⟨_, .inr (.inr (.inl ⟨⟨_, hk⟩, hk, rfl⟩)), mem_tile y 1 _ (k1_off7_eq ⟨_, hk⟩) (k1_off7_inb ⟨_, hk⟩) rfl hj⟩
    · exact ⟨_, .inr (.inr (.inr ⟨⟨_, hk⟩, hk, rfl⟩)), mem_tile y 0 _ (k1_off3_eq ⟨_, hk⟩) (k1_off3_inb ⟨_, hk⟩) rfl hj⟩

/-- After all four loops' pieces the block reads as the operands. -/
theorem bList_read {κ : Kind} {sp : Space} (v : View sig κ sp S2560x512 .bf16) (f : v.ty.Contents (Elt F)) (w : Vec F S2560x512 .bf16) (s : Vec F S2560x128 .f32) :
    v.read (Elt F) (v.writes (Elt F) f (bList w s)) = wOper w s := by
  funext y
  have h0 : (y 0).val < 2560 := (y 0).isLt
  have h1 : (y 1).val < 512 := (y 1).isLt
  refine View.read_writes_apply_of_pieces v f (wOper w s) (bList w s) ?_ y ?_
  · intro p hp
    simp only [bList, mx0_eq, mx1_eq, mx2_eq, mx3_eq, List.mem_append, mem_pcs] at hp
    rcases hp with ⟨k, _, rfl⟩ | ⟨k, _, rfl⟩ | ⟨k, _, rfl⟩ | ⟨k, _, rfl⟩
    · exact bPiece_at w s 3 k (k1_off15_eq k) (k1_off16_eq k) _ _
    · exact bPiece_at w s 2 k (k1_off11_eq k) (k1_off12_eq k) _ _
    · exact bPiece_at w s 1 k (k1_off7_eq k) (k1_off8_eq k) _ _
    · exact bPiece_at w s 0 k (k1_off3_eq k) (k1_off4_eq k) _ _
  · simp only [bList, List.mem_append, mem_pcs]
    have hk : (y 0).val / 32 < 80 := by omega
    obtain hj | hj | hj | hj : (y 1).val / 128 = 3 ∨ (y 1).val / 128 = 2 ∨ (y 1).val / 128 = 1 ∨ (y 1).val / 128 = 0 := by omega
    · exact ⟨_, .inl ⟨⟨_, hk⟩, hk, rfl⟩, mem_tile y 3 _ (k1_off15_eq ⟨_, hk⟩) (k1_off15_inb ⟨_, hk⟩) rfl hj⟩
    · exact ⟨_, .inr (.inl ⟨⟨_, hk⟩, hk, rfl⟩), mem_tile y 2 _ (k1_off11_eq ⟨_, hk⟩) (k1_off11_inb ⟨_, hk⟩) rfl hj⟩
    · exact ⟨_, .inr (.inr (.inl ⟨⟨_, hk⟩, hk, rfl⟩)), mem_tile y 1 _ (k1_off7_eq ⟨_, hk⟩) (k1_off7_inb ⟨_, hk⟩) rfl hj⟩
    · exact ⟨_, .inr (.inr (.inr ⟨⟨_, hk⟩, hk, rfl⟩)), mem_tile y 0 _ (k1_off3_eq ⟨_, hk⟩) (k1_off3_inb ⟨_, hk⟩) rfl hj⟩

/-- The four stores of the scales, newest first. -/
abbrev sList (w : Vec F S2560x512 .bf16) (s : Vec F S2560x128 .f32) : List (View.Piece (Elt F) S1x512 .f32) :=
  [⟨Rect.unit (s := S1x512) ![0, 384] S1x128.size inb_S1x512_S1x128_0_384, k1_pay22 (mx3 w s)⟩,
    ⟨Rect.unit (s := S1x512) ![0, 256] S1x128.size inb_S1x512_S1x128_0_256, k1_pay17 (mx2 w s)⟩,
    ⟨Rect.unit (s := S1x512) ![0, 128] S1x128.size inb_S1x512_S1x128_0_128, k1_pay12 (mx1 w s)⟩,
    ⟨Rect.unit (s := S1x512) ![0, 0] S1x128.size inb_S1x512_S1x128_0_0, k1_pay7 (mx0 w s)⟩]

/-- A piece at column group `j`'s offsets holds that group's scales. -/
theorem sPiece_at (w : Vec F S2560x512 .bf16) (s : Vec F S2560x128 .f32) (j : Fin 4) (inb) (x : S1x128.Idx) :
    qScale w s j x = wScale w s ((Rect.unit (s := S1x512) ![0, 128 * j.val] S1x128.size inb).emb x) :=
  (wScale_at w s _ j x (congrArg (128 * j.val + ·) (Nat.one_mul _))).symm

theorem mem_group (y : S1x512.Idx) (j : ℕ) (inb : ∀ a, (![0, 128 * j] : Fin 2 → ℕ) a + S1x128.size a ≤ S1x512.size a) (hj : (y 1).val / 128 = j) :
    y ∈ (Rect.unit (s := S1x512) ![0, 128 * j] S1x128.size inb).set := by
  have h0 : (y 0).val < 1 := (y 0).isLt
  refine (LoadRect.mem_set _).mpr (Fin.forall_fin_two.mpr ⟨⟨0, Nat.one_pos, ?_⟩, ⟨(y 1).val % 128, Nat.mod_lt _ (by decide), ?_⟩⟩)
  · show (y 0).val = 0 + 1 * 0; omega
  · show (y 1).val = 128 * j + 1 * ((y 1).val % 128); omega

/-- The four stores of the scales agree with the block of scales, -/
theorem sList_agree (w : Vec F S2560x512 .bf16) (s : Vec F S2560x128 .f32) :
    ∀ p ∈ sList w s, ∀ x : p.1.shape.Idx, p.2 x = wScale w s (p.1.emb x) := by
  intro p hp
  simp only [sList, mx0_eq, mx1_eq, mx2_eq, mx3_eq, List.mem_cons, List.not_mem_nil, or_false] at hp
  rcases hp with rfl | rfl | rfl | rfl
  · exact sPiece_at w s 3 inb_S1x512_S1x128_0_384
  · exact sPiece_at w s 2 inb_S1x512_S1x128_0_256
  · exact sPiece_at w s 1 inb_S1x512_S1x128_0_128
  · exact sPiece_at w s 0 inb_S1x512_S1x128_0_0

/-- and cover it. -/
theorem sList_cover (w : Vec F S2560x512 .bf16) (s : Vec F S2560x128 .f32) (y : S1x512.Idx) : ∃ p ∈ sList w s, y ∈ p.1.set := by
  have h1 : (y 1).val < 512 := (y 1).isLt
  obtain hj | hj | hj | hj : (y 1).val / 128 = 3 ∨ (y 1).val / 128 = 2 ∨ (y 1).val / 128 = 1 ∨ (y 1).val / 128 = 0 := by omega
  · exact ⟨_, .head _, mem_group y 3 inb_S1x512_S1x128_0_384 hj⟩
  · exact ⟨_, .tail _ (.head _), mem_group y 2 inb_S1x512_S1x128_0_256 hj⟩
  · exact ⟨_, .tail _ (.tail _ (.head _)), mem_group y 1 inb_S1x512_S1x128_0_128 hj⟩
  · exact ⟨_, .tail _ (.tail _ (.tail _ (.head _))), mem_group y 0 inb_S1x512_S1x128_0_0 hj⟩

/-- After the four stores the block reads as the scales. -/
theorem sList_read {κ : Kind} {sp : Space} (v : View sig κ sp S1x512 .f32) (f : v.ty.Contents (Elt F)) (w : Vec F S2560x512 .bf16) (s : Vec F S2560x128 .f32) :
    v.read (Elt F) (v.writes (Elt F) f (sList w s)) = wScale w s :=
  funext fun y => View.read_writes_apply_of_pieces v f (wScale w s) (sList w s) (sList_agree w s) y (sList_cover w s y)

end Cert.Kernel.Hand

end
-- ==== Proof.K.QRun.lean ====
/-
  The matrix product's kernel function run on whole buffers: from the four blocks it reads, its outputs hold the
  functions of `QSpec`. At the first grid point it also fills the scratch with the activations' codes in the product's
  operand format; at the others it finds them there.
-/
module

public import proofs.«01_k».proof.Proof.K.QSpec
public import proofs.«01_k».proof.Proof.Gen.Kernel.Launch
public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 8192
set_option maxHeartbeats 4000000

noncomputable section

namespace Cert.Kernel.Hand

open Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The condition of the function's one conditional: the grid point is the first. -/
abbrev firstPoint (i : grid1.Coords) : Prop := (Scalar.cmpi .ne (Scalar.extui (Scalar.cmpi .eq (BitVec.ofNat 32 (i 0).val) 0#32)) 0#32) = 1#1

/-- The product's payload depends on its four operands only. -/
theorem pay3_congr {a a' : Vec F S1536x2560 .bf16} {b b' : Vec F S2560x512 .bf16} {d d' : Vec F S1536x1 .f32} {e e' : Vec F S1x512 .f32}
    (ha : a = a') (hb : b = b') (hd : d = d') (he : e = e') : k1_pay3 a b d e = k1_pay3 a' b' d' e' := by subst ha hb hd he; rfl

set_option maxRecDepth 16384 in
/-- At the first grid point: the scratch `arg8` may hold anything, and ends with the activations' codes. -/
theorem qmRun_first (c : Dev nD) (i : grid1.Coords) (arg1 : Memref sig .tc .vmem S2560x512 .bf16) (harg1 : arg1.IsWhole) (arg2 : Memref sig .tc .vmem S2560x128 .f32) (harg2 : arg2.IsWhole)
    (arg3 : Memref sig .tc .vmem S1536x2560 .i8) (harg3 : arg3.IsWhole) (arg4 : Memref sig .tc .vmem S1536x128 .f32) (harg4 : arg4.IsWhole)
    (arg5 : Memref sig .tc .vmem S1536x512 .bf16) (harg5 : arg5.IsWhole) (arg6 : Memref sig .tc .vmem S2560x512 .i8) (harg6 : arg6.IsWhole)
    (arg7 : Memref sig .tc .vmem S1x512 .f32) (harg7 : arg7.IsWhole) (arg8 : Memref sig .tc .vmem S1536x2560 .bf16) (harg8 : arg8.IsWhole)
    (arg9 : Memref sig .tc .vmem S2560x512 .bf16) (harg9 : arg9.IsWhole) (hc : firstPoint i)
    (x1 : Vec F S2560x512 .bf16) (x2 : Vec F S2560x128 .f32) (x3 : Vec F S1536x2560 .i8) (x4 : Vec F S1536x128 .f32) (E : Set ℕ) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (yBlk (k1_pay4 x3) x1 x2 x4) ∗ owns (c : Thread nD τ) arg6 fullShare (wCode x1 x2) ∗ owns (c : Thread nD τ) arg7 fullShare (wScale x1 x2) ∗ owns (c : Thread nD τ) arg8 fullShare (k1_pay4 x3) ∗ (∃ d, owns (c : Thread nD τ) arg9 fullShare d)) -∗ K ⟨⟩))
      ⊢ wp frame (wpE (defs₀ (F := F)) Variants.none c none) E (cc1_quant_matmul i arg1 harg1 arg2 harg2 arg3 harg3 arg4 harg4 arg5 harg5 arg6 harg6 arg7 harg7 arg8 harg8 arg9 harg9) K := by
    simp only [cc1_quant_matmul_eq_skeleton]; unfold cc1_quant_matmul_skel
    simp only [k1_part1_eq_skeleton, k1_part2_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; swap; · iexact H5
      ipureintro
      refine (View.read_writes_full arg5.view f5 _ _ []).trans ?_
      refine pay3_congr ((View.readAt_writes_full arg8.view _ _ _ _ []).trans (congrArg k1_pay4 ((View.readAt_full arg3.view _ _).trans (harg3.read_unread x3))))
        ((View.readAt_full arg9.view _ _).trans ((bList_read arg9.view _ (arg1.view.read (Elt F) (harg1.unread x1)) (arg2.view.read (Elt F) (harg2.unread x2))).trans (by rw [harg1.read_unread, harg2.read_unread])))
        (congrArg (fun z => View.ld (Val := Elt F) (e' := .f32) z (Rect.unit (s := S1536x128) ![0, 0] S1536x1.size inb_S1536x128_S1536x1_0_0)) (harg4.read_unread x4))
        ((View.readAt_full arg7.view _ _).trans ((sList_read arg7.view _ (arg1.view.read (Elt F) (harg1.unread x1)) (arg2.view.read (Elt F) (harg2.unread x2))).trans (by rw [harg1.read_unread, harg2.read_unread])))
    isplitl [H6]
    · iexists _; isplitr; swap; · iexact H6
      ipureintro
      exact (cList_read arg6.view f6 (arg1.view.read (Elt F) (harg1.unread x1)) (arg2.view.read (Elt F) (harg2.unread x2))).trans (by rw [harg1.read_unread, harg2.read_unread])
    isplitl [H7]
    · iexists _; isplitr; swap; · iexact H7
      ipureintro
      exact (sList_read arg7.view _ (arg1.view.read (Elt F) (harg1.unread x1)) (arg2.view.read (Elt F) (harg2.unread x2))).trans (by rw [harg1.read_unread, harg2.read_unread])
    isplitl [H8]
    · iexists _; isplitr; swap; · iexact H8
      ipureintro
      exact (View.read_writes_full arg8.view _ _ _ []).trans (congrArg k1_pay4 ((View.readAt_full arg3.view _ _).trans (harg3.read_unread x3)))
    iexists _, _; isplitr; swap; · iexact H9
    ipureintro; rfl

set_option maxRecDepth 16384 in
/-- At the other grid points: the scratch `arg8` holds `xb` and keeps it. -/
theorem qmRun_rest (c : Dev nD) (i : grid1.Coords) (arg1 : Memref sig .tc .vmem S2560x512 .bf16) (harg1 : arg1.IsWhole) (arg2 : Memref sig .tc .vmem S2560x128 .f32) (harg2 : arg2.IsWhole)
    (arg3 : Memref sig .tc .vmem S1536x2560 .i8) (harg3 : arg3.IsWhole) (arg4 : Memref sig .tc .vmem S1536x128 .f32) (harg4 : arg4.IsWhole)
    (arg5 : Memref sig .tc .vmem S1536x512 .bf16) (harg5 : arg5.IsWhole) (arg6 : Memref sig .tc .vmem S2560x512 .i8) (harg6 : arg6.IsWhole)
    (arg7 : Memref sig .tc .vmem S1x512 .f32) (harg7 : arg7.IsWhole) (arg8 : Memref sig .tc .vmem S1536x2560 .bf16) (harg8 : arg8.IsWhole)
    (arg9 : Memref sig .tc .vmem S2560x512 .bf16) (harg9 : arg9.IsWhole) (hc : ¬ firstPoint i)
    (x1 : Vec F S2560x512 .bf16) (x2 : Vec F S2560x128 .f32) (x3 : Vec F S1536x2560 .i8) (x4 : Vec F S1536x128 .f32) (xb : Vec F S1536x2560 .bf16) (E : Set ℕ) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xb ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (yBlk xb x1 x2 x4) ∗ owns (c : Thread nD τ) arg6 fullShare (wCode x1 x2) ∗ owns (c : Thread nD τ) arg7 fullShare (wScale x1 x2) ∗ owns (c : Thread nD τ) arg8 fullShare xb ∗ (∃ d, owns (c : Thread nD τ) arg9 fullShare d)) -∗ K ⟨⟩))
      ⊢ wp frame (wpE (defs₀ (F := F)) Variants.none c none) E (cc1_quant_matmul i arg1 harg1 arg2 harg2 arg3 harg3 arg4 harg4 arg5 harg5 arg6 harg6 arg7 harg7 arg8 harg8 arg9 harg9) K := by
    simp only [cc1_quant_matmul_eq_skeleton]; unfold cc1_quant_matmul_skel
    simp only [k1_part1_eq_skeleton, k1_part2_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%d9, %f9, -, H9⟩, Hk⟩
    obtain rfl := harg1.eq_unread hf1; obtain rfl := harg2.eq_unread hf2; obtain rfl := harg3.eq_unread hf3; obtain rfl := harg4.eq_unread hf4; obtain rfl := harg8.eq_unread hf8
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; swap; · iexact H5
      ipureintro
      refine (View.read_writes_full arg5.view f5 _ _ []).trans ?_
      refine pay3_congr ((View.readAt_full arg8.view _ _).trans (harg8.read_unread xb))
        ((View.readAt_full arg9.view _ _).trans ((bList_read arg9.view _ (arg1.view.read (Elt F) (harg1.unread x1)) (arg2.view.read (Elt F) (harg2.unread x2))).trans (by rw [harg1.read_unread, harg2.read_unread])))
        (congrArg (fun z => View.ld (Val := Elt F) (e' := .f32) z (Rect.unit (s := S1536x128) ![0, 0] S1536x1.size inb_S1536x128_S1536x1_0_0)) (harg4.read_unread x4))
        ((View.readAt_full arg7.view _ _).trans ((sList_read arg7.view _ (arg1.view.read (Elt F) (harg1.unread x1)) (arg2.view.read (Elt F) (harg2.unread x2))).trans (by rw [harg1.read_unread, harg2.read_unread])))
    isplitl [H6]
    · iexists _; isplitr; swap; · iexact H6
      ipureintro
      exact (cList_read arg6.view f6 (arg1.view.read (Elt F) (harg1.unread x1)) (arg2.view.read (Elt F) (harg2.unread x2))).trans (by rw [harg1.read_unread, harg2.read_unread])
    isplitl [H7]
    · iexists _; isplitr; swap; · iexact H7
      ipureintro
      exact (sList_read arg7.view _ (arg1.view.read (Elt F) (harg1.unread x1)) (arg2.view.read (Elt F) (harg2.unread x2))).trans (by rw [harg1.read_unread, harg2.read_unread])
    isplitl [H8]
    · iexists _; isplitr; swap; · iexact H8
      ipureintro
      exact harg8.read_unread _
    iexists _, _; isplitr; swap; · iexact H9
    ipureintro; rfl

end Cert.Kernel.Hand

end
-- ==== Proof.K.Reg1.lean ====
/-
  The matrix product as a region of @main: its proof data over the contents the region is entered with, and the obligation
  that the body at each of its grid points leaves what the proof data say. The activations' codes in the product's operand
  format are made at the first point and stay in the scratch.
-/
module

public import proofs.«01_k».proof.Proof.K.QRun
public import proofs.«01_k».proof.Proof.Gen.Kernel.Launch
public import proofs.«01_k».proof.Proof.Gen.Kernel.Points
public import Idealize.ShloMosaic.Lib.WordCmp
public import Idealize.ShloMosaic.Lib.Pipeline.Kit
public import Idealize.ShloMosaic.Lib.Pipeline.FrameBody
public import Idealize.ShloMosaic.Lib.Pipeline.Frame
public import Idealize.ShloMosaic.Lib.Pipeline.Regions
public import Idealize.ShloMosaic.Lib.Pipeline.RegionArraysS

@[expose] public section

set_option maxRecDepth 8192
set_option maxHeartbeats 4000000

noncomputable section

namespace Cert.Kernel.Hand

open Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Rounds
open Idealize.ShloMosaic.Pipeline (Dat Cfg Window BodyObligation)

variable (V : Dev nD → Valuation τ sig (Elt F))

/-- Input window `w`'s block at point `t`, read off its array at the valuation `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The first grid point. -/
def t1_0 : Fin cfg1.N := ⟨0, by rw [show cfg1.N = 20 from N_1]; decide⟩

/-- The activations' codes in the product's operand format: what the scratch holds from the first point on. -/
def xb (c : Dev nD) : Vec F S1536x2560 .bf16 := k1_pay4 (iblk1 V c 2 t1_0)

/-- The scratch buffers, whole. -/
abbrev scM1_0 : Memref sig .tc .vmem S1536x2560 .bf16 := Memref.whole cc1_scratch0
abbrev scM1_1 : Memref sig .tc .vmem S2560x512 .bf16 := Memref.whole cc1_scratch1

/-- What the invariant holds beside the two scratch buffers and the generator register. -/
def rest1 (c : Dev nD) : sProp 𝕄G := iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The first scratch before point `n`: at some contents before the first point, at the operand after it. -/
def keep (c : Dev nD) : ℕ → sProp 𝕄G
  | 0 => iprop(∃ d, owns (c : Thread nD τ) scM1_0 fullShare d)
  | _ + 1 => owns (c : Thread nD τ) scM1_0 fullShare (xb V c)

/-- The invariant before point `n`. -/
def Phi1 (c : Dev nD) (n : ℕ) : sProp 𝕄G :=
  iprop(keep V c n ∗ (∃ d, owns (c : Thread nD τ) scM1_1 fullShare d) ∗ rest1 c ∗ (∃ r, prngReg c r))

/-- The region's proof data on core `c`: the arrays at `V`; the inputs' buffers keep their blocks, the outputs' hold the
    product's block, the weights' codes and scales; the invariant follows the scratch. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => yBlk (xb V c) (iblk1 V c 0 t) (iblk1 V c 1 t) (iblk1 V c 3 t)
    | ⟨5, _⟩ => wCode (iblk1 V c 0 t) (iblk1 V c 1 t)
    | ⟨6, _⟩ => wScale (iblk1 V c 0 t) (iblk1 V c 1 t)
  Φ t := Phi1 V c t.val
  q _ := fullShare
  owed _ := 0

/-- The proof data's arrays are `V`'s. -/
theorem A1_eq (c : Dev nD) (w : Fin cfg1.W) : (dat1 V c).A w = V c (Proc.devRef .tc (Pipeline.arrRef spec1 w)) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = yBlk (xb V c) (iblk1 V c 0 t) (iblk1 V c 1 t) (iblk1 V c 3 t) := by dsimp only [dat1]
theorem after1_5 (c : Dev nD) (t : Fin cfg1.N) : (dat1 V c).after 5 t = wCode (iblk1 V c 0 t) (iblk1 V c 1 t) := by dsimp only [dat1]
theorem after1_6 (c : Dev nD) (t : Fin cfg1.N) : (dat1 V c).after 6 t = wScale (iblk1 V c 0 t) (iblk1 V c 1 t) := by dsimp only [dat1]

/-- Input 0's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
/-- Input 1's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
/-- Input 2's buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
/-- Input 3's buffer holds its block at every point. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)

/-- The body's condition holds at the first point only. -/
theorem firstPoint_iff (t : Fin cfg1.N) : firstPoint (grid1.coords t) ↔ t.val = 0 := by
  have ht : t.val < 20 := Nat.lt_of_lt_of_eq t.isLt N_1
  have e0 : (grid1.coords t 0).val = t.val / 1 % 20 := Pipeline.Grid.coords_val t 0 (by decide) rfl
  have h : firstPoint (grid1.coords t) ↔ t.val % 20 = 0 := by
    simp only [firstPoint, e0]
    word_cmp
  rw [h]; omega

/-- What the body is called with at point `t`, -/
def bodyPre1 (c : Dev nD) (t : Fin cfg1.N) : sProp 𝕄G :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄G :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point takes the first to the second. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4, after1_5, after1_6]
  rw [show (dat1 V c).Φ t.castSucc = Phi1 V c t.val from rfl, show (dat1 V c).Φ t.succ = Phi1 V c (t.val + 1) from rfl]
  unfold Phi1
  by_cases h : firstPoint (grid1.coords t)
  · obtain rfl : t = t1_0 := Fin.ext ((firstPoint_iff t).mp h)
    rw [show keep V c (t1_0 : Fin cfg1.N).val = iprop(∃ d, owns (c : Thread nD τ) scM1_0 fullShare d) from rfl,
      show keep V c ((t1_0 : Fin cfg1.N).val + 1) = owns (c : Thread nD τ) scM1_0 fullShare (xb V c) from rfl]
    iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩⟩
    iapply (qmRun_first c (grid1.coords t1_0) _ _ _ _ _ _ _ _ _ _ _ _ _ _ _ _ _ _ h (iblk1 V c 0 t1_0) (iblk1 V c 1 t1_0) (iblk1 V c 2 t1_0) (iblk1 V c 3 t1_0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h0 : t.val ≠ 0 := fun e => h ((firstPoint_iff t).mpr e)
    obtain ⟨n, hn⟩ := Nat.exists_eq_succ_of_ne_zero h0
    rw [show keep V c t.val = owns (c : Thread nD τ) scM1_0 fullShare (xb V c) from by rw [hn]; rfl,
      show keep V c (t.val + 1) = owns (c : Thread nD τ) scM1_0 fullShare (xb V c) from rfl]
    iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩⟩
    iapply (qmRun_rest c (grid1.coords t) _ _ _ _ _ _ _ _ _ _ _ _ _ _ _ _ _ _ h (iblk1 V c 0 t) (iblk1 V c 1 t) (iblk1 V c 2 t) (iblk1 V c 3 t) (xb V c) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The region's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The scoped memory and the generator register give the invariant before the first point, -/
theorem Phi1_in (c : Dev nD) : iprop(Pipeline.scopedRest (cfgs 1).spec c ∗ (∃ r, prngReg c r)) ⊢ (dat1 (F := F) V c).Φ 0 := by
  rw [show (dat1 V c).Φ 0 = Phi1 V c 0 from rfl, show Pipeline.scopedRest (cfgs 1).spec c = (Pipeline.scopedRest spec1 c : sProp 𝕄G) from rfl, scopedRest1_eq]
  unfold Phi1 rest1 keep
  simp only [scM1_0, scM1_1, owns_whole]
  iintro ⟨⟨B0, B1, B2, B3, B4, B5, B6, B7, B8, B9, B10, B11⟩, Hg⟩
  isplitl [B10]; · iexact B10
  isplitl [B11]; · iexact B11
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  iexact Hg

/-- and the invariant after the last gives them back. -/
theorem Phi1_out (c : Dev nD) : (dat1 (F := F) V c).Φ (Fin.last cfg1.N) ⊢ iprop(Pipeline.scopedRest (cfgs 1).spec c ∗ (∃ r, prngReg c r)) := by
  rw [show (dat1 V c).Φ (Fin.last cfg1.N) = Phi1 V c 20 from congrArg (Phi1 V c) (show cfg1.N = 20 from N_1),
    show Pipeline.scopedRest (cfgs 1).spec c = (Pipeline.scopedRest spec1 c : sProp 𝕄G) from rfl, scopedRest1_eq]
  unfold Phi1 rest1 keep
  simp only [scM1_0, scM1_1, owns_whole]
  iintro ⟨B10, B11, ⟨B0, B1, B2, B3, B4, B5, B6, B7, B8, B9⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexists _; iexact B10
    iexact B11
  iexact Hg

end Cert.Kernel.Hand

end
-- ==== Proof.K.Run.lean ====
/-
  The whole kernel run: from any launch memory, @main ends with the contents `W4` in every buffer it keeps: the host
  operations' results and what the two regions leave.
-/
module

public import proofs.«01_k».proof.Proof.K.Reg0
public import proofs.«01_k».proof.Proof.K.Reg1
public import proofs.«01_k».proof.Proof.Gen.Kernel.Regions
public import Idealize.ShloMosaic.Lib.WordCmp
public import Idealize.ShloMosaic.Lib.Pipeline.Kit
public import Idealize.ShloMosaic.Lib.Pipeline.FrameBody
public import Idealize.ShloMosaic.Lib.Pipeline.Frame
public import Idealize.ShloMosaic.Lib.Pipeline.Regions
public import Idealize.ShloMosaic.Lib.Pipeline.RegionArraysS

@[expose] public section

set_option maxRecDepth 8192
set_option maxHeartbeats 4000000

noncomputable section

namespace Cert.Kernel.Hand

open Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Rounds
open Idealize.ShloMosaic.Pipeline (Dat Cfg Window BodyObligation Seg HostSeg RegionSeg)

variable (m : (ℓ : Loc nD τ sig) → Buf (Elt F) ℓ) (ρ : Dev nD → PrngReg)

/-- Core `c`'s buffers after the quantiser's region, -/
def W2 (c : Dev nD) : Valuation τ sig (Elt F) := Pipeline.afterRegion (dat0 (V1 m) c) (V1 m c)
/-- after the product's region, -/
def W3 (c : Dev nD) : Valuation τ sig (Elt F) := Pipeline.afterRegion (dat1 (W2 m) c) (W2 m c)
/-- and at the end, after the last host operations. -/
def W4 (c : Dev nD) : Valuation τ sig (Elt F) := StableHlo.after hostOps2 (W3 m c)

/-- The two regions' proof data. -/
def pdats : (p : Fin 2) → (c : Dev nD) → Dat τ (Elt F) Unit ℕ (UR sig nD τ) ℕ (cfgs p) c
  | ⟨0, _⟩, c => dat0 (V1 m) c
  | ⟨1, _⟩, c => dat1 (W2 m) c

/-- The levels: the staging waits' index at every TensorCore's semaphore, all at level zero. -/
def L : GSem nD τ sig → Finset Unit := fun g => if g.1.2 = .tc then {()} else ∅
abbrev lv : GSem nD τ sig → Unit → ℕ := fun _ _ => 0

/-- What a core holds between segments beside its buffers: nothing owed, and the generator register. -/
abbrev Er (c : Dev nD) : sProp 𝕄G :=
  iprop((∃ Wd, owes (c : Thread nD τ) (0 : CellTallies nD τ sig Unit) Wd) ∗ (∃ r, prngReg c r) ∗ emp)

/-- A core that owes nothing may wait at any level. -/
theorem levelCut (p : Fin 2) : Pipeline.LevelCut (pcfgs (F := F)) adm () L lv p (fun _ => 0) (fun _ => 0) where
  hι c w s := by unfold L; rw [if_pos rfl]; exact Finset.mem_singleton_self _
  hιb _ _ _ := le_refl _
  hD _ _ _ h := absurd h (lt_irrefl _)

/-- The quantiser's region. -/
def R0 : RegionSeg (pcfgs (F := F)) adm (pdats m) () defs₀ Variants.none L lv 0 :=
  RegionSeg.ofHeldIn pcfgs adm (pdats m) () defs₀ Variants.none L lv 0 (fun _ => 0) (Pipeline.ucRefs τ sig)
    (fun c => iprop(∃ r, prngReg c r)) (fun c => iprop(∃ r, prngReg c r)) launch0.toP rfl
    (fun c => (body_obligation0 (V1 m) c).loose) (fun _ _ => rfl) (fun _ => rfl) (fun c => (dat0 (V1 m) c).share_full fun _ => rfl)
    (fun _ => .rfl) (fun _ => .rfl) (fun _ => 0) (levelCut 0) (fun _ => iprop(emp)) (V1 m) (fun c w => A0_eq (V1 m) c w)

/-- The product's region. -/
def R1 : RegionSeg (pcfgs (F := F)) adm (pdats m) () defs₀ Variants.none L lv 1 :=
  RegionSeg.ofHeldIn pcfgs adm (pdats m) () defs₀ Variants.none L lv 1 (fun _ => 0) (Pipeline.ucRefs τ sig)
    (fun c => iprop(∃ r, prngReg c r)) (fun c => iprop(∃ r, prngReg c r)) launch1.toP rfl
    (fun c => (body_obligation1 (W2 m) c).loose) (fun _ _ => rfl) (fun _ => rfl) (fun c => (dat1 (W2 m) c).share_full fun _ => rfl)
    (fun c => Phi1_in (W2 m) c) (fun c => Phi1_out (W2 m) c) (fun _ => 0) (levelCut 1) (fun _ => iprop(emp)) (W2 m) (fun c w => A1_eq (W2 m) c w)

/-- The regions' arrays are among the kept buffers. -/
theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)

theorem R0_pre (c : Dev nD) : iprop(StableHlo.held (c : Thread nD τ) (Pipeline.ucRefs τ sig) (V1 m c) ∗ Er c) ⊢ (R0 m).pre c :=
  RegionSeg.ofHeldIn_pre (pcs := pcfgs (F := F)) (a := adm) (pdats := pdats m) (ι := ()) (defs₀ := defs₀) (𝒱₀ := Variants.none) (L := L) (lv := lv) (p := 0)
    (D := fun _ => 0) (X := fun c => iprop(∃ r, prngReg c r)) (Y := fun c => iprop(∃ r, prngReg c r)) (R := fun _ => iprop(emp)) (W := V1 m) (sub0 (F := F)) c
theorem R0_post (c : Dev nD) : (R0 m).post c ⊢ iprop(StableHlo.held (c : Thread nD τ) (Pipeline.ucRefs τ sig) (W2 m c) ∗ Er c) :=
  RegionSeg.ofHeldIn_post (pcs := pcfgs (F := F)) (a := adm) (pdats := pdats m) (ι := ()) (defs₀ := defs₀) (𝒱₀ := Variants.none) (L := L) (lv := lv) (p := 0)
    (D := fun _ => 0) (X := fun c => iprop(∃ r, prngReg c r)) (Y := fun c => iprop(∃ r, prngReg c r)) (R := fun _ => iprop(emp)) (W := V1 m) (sub0 (F := F)) c
theorem R1_pre (c : Dev nD) : iprop(StableHlo.held (c : Thread nD τ) (Pipeline.ucRefs τ sig) (W2 m c) ∗ Er c) ⊢ (R1 m).pre c :=
  RegionSeg.ofHeldIn_pre (pcs := pcfgs (F := F)) (a := adm) (pdats := pdats m) (ι := ()) (defs₀ := defs₀) (𝒱₀ := Variants.none) (L := L) (lv := lv) (p := 1)
    (D := fun _ => 0) (X := fun c => iprop(∃ r, prngReg c r)) (Y := fun c => iprop(∃ r, prngReg c r)) (R := fun _ => iprop(emp)) (W := W2 m) (sub1 (F := F)) c
theorem R1_post (c : Dev nD) : (R1 m).post c ⊢ iprop(StableHlo.held (c : Thread nD τ) (Pipeline.ucRefs τ sig) (W3 m c) ∗ Er c) :=
  RegionSeg.ofHeldIn_post (pcs := pcfgs (F := F)) (a := adm) (pdats := pdats m) (ι := ()) (defs₀ := defs₀) (𝒱₀ := Variants.none) (L := L) (lv := lv) (p := 1)
    (D := fun _ => 0) (X := fun c => iprop(∃ r, prngReg c r)) (Y := fun c => iprop(∃ r, prngReg c r)) (R := fun _ => iprop(emp)) (W := W2 m) (sub1 (F := F)) c

/-- The host operations before the regions, from the launch contents, -/
def hseg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Er
/-- and those after them, from what the regions leave. -/
def hseg3 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) Er

/-- @main as segments. -/
abbrev msegs (c : Dev nD) : List (Seg (pcfgs (F := F)) adm (pdats m) () defs₀ Variants.none L lv) :=
  [.host (hseg0 m), .region (R0 m), .region (R1 m), .host (hseg3 m)]

set_option backward.isDefEq.respectTransparency.types false in
/-- THE RUN: every fair execution of @main terminates with every kept buffer at `W4` and every semaphore counter at zero. -/
theorem run_W4 : θ_run defs (onTc (τ := τ) (main (F := F))) ⟨m, fun _ => 0, ρ⟩ (fun r =>
    (∀ c : Dev nD, ∀ b ∈ Pipeline.ucRefs τ sig, r.2.mem (c, b) = W4 m c b) ∧ r.2.sem = fun _ => 0) := by
  refine Pipeline.θ_run_regions_kit_dev_sems (pcfgs (F := F)) adm (pdats m) () cellOf_inj emb₁ defs₀ Variants.none L lv m ρ main
    (msegs m)
    (fun c Q => by
      rewrite [main_chain c, Seg.run_eq_chain,
        show (msegs m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [msegs, Seg.pipes_host, Seg.pipes_region, Seg.pipes_nil]; decide) (O₀ := 0) (hL := fun g h => if_neg h) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄G)
            ⊢ BI.own (emb₁ (initOf (Pipeline.cells cfgs cellOf_inj) (Pipeline.launchToks cfgs cellOf_inj))) from .rfl)
        iexact Hu
      iapply (show (BI.emp : sProp 𝕄G) ⊢ bigSep Finset.univ (fun _ : Dev nD => (BI.emp : sProp 𝕄G)) from by rw [BI.bigSep_emp_const])
      iempintro)
    (T₀ := fun c => iprop(StableHlo.held (c : Thread nD τ) (Pipeline.ucRefs τ sig) (V0 m c) ∗ Er c))
    (Tₙ := fun c => StableHlo.held (c : Thread nD τ) (Pipeline.ucRefs τ sig) (W4 m c))
    (hch := fun c => ⟨.rfl, R0_pre m c, (R0_post m c).trans (R1_pre m c), R1_post m c, sep_mono .rfl (by iintro ⟨H, -⟩; iexact H)⟩)
    (hinit := by
      refine Pipeline.initEach L lv fun c => ?_
      rw [show unscopedBufs c (fun b => m ((c.tc : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem (c, b) = W4 m c b)
    (hfin := fun c s' => ?_) (hQ := fun _ h hz => ⟨h, funext fun g => hz g (.inr (regions_no_unscoped g.2))⟩)
  unfold StableHlo.held
  iintro ⟨Hh, HSI⟩
  imodintro
  iapply (pointsTo_read_all (Pipeline.ucRefs τ sig) (fun b => ((c : Thread nD τ).1, b)) (W4 m c) s')
  isplitl [Hh] <;> iassumption

/-- A buffer of the TensorCore that no core scope bounds is kept. -/
theorem kept (r : Ref sig .tc) (h : ¬ (Proc.devRef (τ := τ) .tc r).isScoped = true) (c : Dev nD) (s : MemSt nD τ sig (Elt F))
    (hs : ∀ b ∈ Pipeline.ucRefs τ sig, s.mem (c, b) = W4 m c b) : s.mem ((c : Thread nD τ).loc r) = W4 m c r :=
  hs _ (Finset.mem_filter.mpr ⟨StableHlo.devRef_mem_tcRefs r, h⟩)

/-- A buffer that is no output array of a region and no host operation's result ends as launched. -/
theorem W4_keeps (c : Dev nD) (r : Ref sig .tc) (h0 : r ∉ hostOps0_W) (h2 : r ∉ hostOps2_W)
    (hr0 : ∀ w, Pipeline.arrRef spec0 w = r → (cfg0.win w).isOut = false) (hr1 : ∀ w, Pipeline.arrRef spec1 w = r → (cfg1.win w).isOut = false) :
    W4 m c r = m ((c : Thread nD τ).loc r) :=
  (StableHlo.after_of_writes_sub hostOps2 _ hostOps2_writes h2).trans <|
    (Pipeline.afterRegion_keeps (dat1 (W2 m) c) (W2 m c) winFacts1.arr_inj (A1_eq (W2 m) c) r hr1).trans <|
      (Pipeline.afterRegion_keeps (dat0 (V1 m) c) (V1 m c) winFacts0.arr_inj (A0_eq (V1 m) c) r hr0).trans <| V1_of m c r h0

theorem W4_main_arg0 (c : Dev nD) : W4 m c main_arg0 = m ((c : Thread nD τ).loc main_arg0) := W4_keeps m c main_arg0 (by decide) (by decide) (by decide) (by decide)
theorem W4_main_arg1 (c : Dev nD) : W4 m c main_arg1 = m ((c : Thread nD τ).loc main_arg1) := W4_keeps m c main_arg1 (by decide) (by decide) (by decide) (by decide)
theorem W4_main_arg2 (c : Dev nD) : W4 m c main_arg2 = m ((c : Thread nD τ).loc main_arg2) := W4_keeps m c main_arg2 (by decide) (by decide) (by decide) (by decide)
theorem W4_main_arg3 (c : Dev nD) : W4 m c main_arg3 = m ((c : Thread nD τ).loc main_arg3) := W4_keeps m c main_arg3 (by decide) (by decide) (by decide) (by decide)

/-- THE FRAME: the arguments end as launched and every semaphore counter is zero. -/
theorem frame_W4 : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(kept m main_arg0 (by decide) c r.2 (h.1 c)).trans (W4_main_arg0 m c), (kept m main_arg1 (by decide) c r.2 (h.1 c)).trans (W4_main_arg1 m c),
      (kept m main_arg2 (by decide) c r.2 (h.1 c)).trans (W4_main_arg2 m c), (kept m main_arg3 (by decide) c r.2 (h.1 c)).trans (W4_main_arg3 m c)⟩, h.2⟩)
    (run_W4 m ρ)

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Final
public import proofs.«01_k».proof.Proof.K.Run
public import Idealize.ShloMosaic.Adequacy
public import Idealize.ShloMosaic.Init

@[expose] public section

noncomputable section

namespace Cert.Proof

open Idealize.ShloMosaic Idealize.SL.Sem Cert.Kernel

/-- The kernel and the reference, on the same arguments, end with the same six results. -/
theorem algebraic : Cert.algebraic_KernelIdeal_ReferenceIdeal (hKernelIdeal := Cert.KernelIdeal.Gen.facts) (hReferenceIdeal := Cert.ReferenceIdeal.Gen.facts) := by
  intro m ρ m' ρ' _ hm
  refine ⟨fun c => Cert.KernelIdeal.Hand.W4 m c (Proc.devRef .tc Cert.KernelIdeal.main_v5), fun c => Cert.KernelIdeal.Hand.W4 m c (Proc.devRef .tc Cert.KernelIdeal.main_v6),
    fun c => Cert.KernelIdeal.Hand.W4 m c (Proc.devRef .tc Cert.KernelIdeal.main_v4_1), fun c => Cert.KernelIdeal.Hand.W4 m c (Proc.devRef .tc Cert.KernelIdeal.main_v7),
    fun c => Cert.KernelIdeal.Hand.W4 m c (Proc.devRef .tc Cert.KernelIdeal.main_v8), fun c => Cert.KernelIdeal.Hand.W4 m c (Proc.devRef .tc Cert.KernelIdeal.main_v3_4), ?_, ?_⟩
  · exact (θ_run Cert.KernelIdeal.defs _ _).mono (fun r h c => ⟨
      Cert.KernelIdeal.Hand.kept m Cert.KernelIdeal.main_v5 (by decide) c r.2 (h.1 c), Cert.KernelIdeal.Hand.kept m Cert.KernelIdeal.main_v6 (by decide) c r.2 (h.1 c),
      Cert.KernelIdeal.Hand.kept m Cert.KernelIdeal.main_v4_1 (by decide) c r.2 (h.1 c), Cert.KernelIdeal.Hand.kept m Cert.KernelIdeal.main_v7 (by decide) c r.2 (h.1 c),
      Cert.KernelIdeal.Hand.kept m Cert.KernelIdeal.main_v8 (by decide) c r.2 (h.1 c), Cert.KernelIdeal.Hand.kept m Cert.KernelIdeal.main_v3_4 (by decide) c r.2 (h.1 c),
      (Cert.KernelIdeal.Hand.kept m Cert.KernelIdeal.main_arg0 (by decide) c r.2 (h.1 c)).trans (Cert.KernelIdeal.Hand.W4_main_arg0 m c),
      (Cert.KernelIdeal.Hand.kept m Cert.KernelIdeal.main_arg1 (by decide) c r.2 (h.1 c)).trans (Cert.KernelIdeal.Hand.W4_main_arg1 m c),
      (Cert.KernelIdeal.Hand.kept m Cert.KernelIdeal.main_arg2 (by decide) c r.2 (h.1 c)).trans (Cert.KernelIdeal.Hand.W4_main_arg2 m c),
      (Cert.KernelIdeal.Hand.kept m Cert.KernelIdeal.main_arg3 (by decide) c r.2 (h.1 c)).trans (Cert.KernelIdeal.Hand.W4_main_arg3 m c)⟩)
      (Cert.KernelIdeal.Hand.run_W4 m ρ)
  · refine (θ_run Cert.ReferenceIdeal.defs _ _).mono (fun r h c => ?_) (Cert.ReferenceIdeal.Value.run m' ρ')
    obtain ⟨e0, e1, e2, e3⟩ := hm c
    obtain ⟨h0, h1, h2, h3, h4, h5, k0, k1, k2, k3⟩ := h c
    rw [e0, e1, e2, e3] at h0 h1 h2 h3 h4 h5
    exact ⟨h0.trans (Cert.KernelIdeal.Hand.res1 m c).symm, h1.trans (Cert.KernelIdeal.Hand.res2 m c).symm,
      h2.trans (Cert.KernelIdeal.Hand.res3 m c).symm, h3.trans (Cert.KernelIdeal.Hand.res4 m c).symm,
      h4.trans (Cert.KernelIdeal.Hand.res5 m c).symm, h5.trans (Cert.KernelIdeal.Hand.res6 m c).symm, k0, k1, k2, k3⟩

/-- Every claim. -/
theorem claim : Cert.Claim := ⟨Cert.Kernel.Gen.facts, Cert.KernelIdeal.Gen.facts, Cert.ReferenceIdeal.Gen.facts,
  fun m ρ _ => Cert.Kernel.Hand.frame_W4 m ρ, fun m ρ _ => Cert.KernelIdeal.Hand.frame_W4 m ρ,
  fun m ρ _ => Cert.ReferenceIdeal.Gen.frame m ρ, trivial, algebraic⟩

end Cert.Proof

end
